-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v40_0)) (v1 : (c : Dev Cert.KernelIdeal.nD) → Buf (Elt Ideal) ((c.tc : Thread Cert.KernelIdeal.nD Cert.KernelIdeal.τ).loc Cert.KernelIdeal.main_v40_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v40_0) = v0 c
          ∧ r.2.mem ((c.tc : Thread Cert.KernelIdeal.nD Cert.KernelIdeal.τ).loc Cert.KernelIdeal.main_v40_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v133) = v0 c
          ∧ r.2.mem ((c.tc : Thread Cert.ReferenceIdeal.nD Cert.ReferenceIdeal.τ).loc Cert.ReferenceIdeal.main_v134) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S8x64x384x14x14 : Shape := ⟨5, ![8, 64, 384, 14, 14]⟩
abbrev S384x1x3x3 : Shape := ⟨4, ![384, 1, 3, 3]⟩
abbrev S384 : Shape := ⟨1, ![384]⟩
abbrev S1x384x1x1 : Shape := ⟨4, ![1, 384, 1, 1]⟩
abbrev S1 : Shape := ⟨1, ![1]⟩
abbrev S1x64x384x14x14 : Shape := ⟨5, ![1, 64, 384, 14, 14]⟩
abbrev S64x384x14x14 : Shape := ⟨4, ![64, 384, 14, 14]⟩
abbrev S64x384x196 : Shape := ⟨3, ![64, 384, 196]⟩
abbrev S_ : Shape := ⟨0, ![]⟩
abbrev S64x384x226 : Shape := ⟨3, ![64, 384, 226]⟩
abbrev S384x3x3 : Shape := ⟨3, ![384, 3, 3]⟩
abbrev S3x3x384 : Shape := ⟨3, ![3, 3, 384]⟩
abbrev S9x384 : Shape := ⟨2, ![9, 384]⟩
abbrev S9x384x1 : Shape := ⟨3, ![9, 384, 1]⟩
abbrev S384x1 : Shape := ⟨2, ![384, 1]⟩
abbrev S8x384 : Shape := ⟨2, ![8, 384]⟩
abbrev S1x1 : Shape := ⟨2, ![1, 1]⟩
abbrev S8x128 : Shape := ⟨2, ![8, 128]⟩
abbrev S2 : Shape := ⟨1, ![2]⟩
abbrev S176 : Shape := ⟨1, ![176]⟩
abbrev S2x1 : Shape := ⟨2, ![2, 1]⟩
abbrev S2x2 : Shape := ⟨2, ![2, 2]⟩
abbrev S1x2 : Shape := ⟨2, ![1, 2]⟩
abbrev S76 : Shape := ⟨1, ![76]⟩
abbrev S76x1 : Shape := ⟨2, ![76, 1]⟩
abbrev S196 : Shape := ⟨1, ![196]⟩
abbrev S196x128 : Shape := ⟨2, ![196, 128]⟩
abbrev S16x4x96 : Shape := ⟨3, ![16, 4, 96]⟩
abbrev S4x384x226 : Shape := ⟨3, ![4, 384, 226]⟩
abbrev S1x4x96 : Shape := ⟨3, ![1, 4, 96]⟩
abbrev S1x1x196 : Shape := ⟨3, ![1, 1, 196]⟩
abbrev S4x384x196 : Shape := ⟨3, ![4, 384, 196]⟩
abbrev S1x384x1 : Shape := ⟨3, ![1, 384, 1]⟩
abbrev S1x384x196 : Shape := ⟨3, ![1, 384, 196]⟩
abbrev S384x196 : Shape := ⟨2, ![384, 196]⟩
abbrev S8x196 : Shape := ⟨2, ![8, 196]⟩
abbrev S1x196 : Shape := ⟨2, ![1, 196]⟩
abbrev S4x196 : Shape := ⟨2, ![4, 196]⟩
abbrev S4x196x1 : Shape := ⟨3, ![4, 196, 1]⟩
abbrev S4x1x196 : Shape := ⟨3, ![4, 1, 196]⟩
abbrev S1x196x1 : Shape := ⟨3, ![1, 196, 1]⟩
abbrev S1x196x196 : Shape := ⟨3, ![1, 196, 196]⟩
abbrev S4x196x196 : Shape := ⟨3, ![4, 196, 196]⟩
abbrev S1x20x1 : Shape := ⟨3, ![1, 20, 1]⟩
abbrev S4x20x196 : Shape := ⟨3, ![4, 20, 196]⟩
abbrev S1x76x1 : Shape := ⟨3, ![1, 76, 1]⟩
abbrev S4x76x196 : Shape := ⟨3, ![4, 76, 196]⟩
abbrev S4x96x196 : Shape := ⟨3, ![4, 96, 196]⟩
abbrev S384x128 : Shape := ⟨2, ![384, 128]⟩

abbrev nBuf : Space → Nat
  | .hbm => 588
  | .vmem => 12
  | .smem => 0
  | _ => 0

abbrev hbmTy0_0 (i : Nat) : BufTy := match i % 128 with
  | 0 => ⟨S8x64x384x14x14, .f32⟩
  | 1 => ⟨S384x1x3x3, .f32⟩
  | 2 => ⟨S384, .f32⟩
  | 3 => ⟨S1x384x1x1, .f32⟩
  | 4 => ⟨S1, .f32⟩
  | 5 => ⟨S1x64x384x14x14, .f32⟩
  | 6 => ⟨S64x384x14x14, .f32⟩
  | 7 => ⟨S64x384x196, .f32⟩
  | 8 => ⟨S64x384x196, .bf16⟩
  | 9 => ⟨S_, .i32⟩
  | 10 => ⟨S_, .bf16⟩
  | 11 => ⟨S64x384x226, .bf16⟩
  | 12 => ⟨S384x3x3, .f32⟩
  | 13 => ⟨S3x3x384, .f32⟩
  | 14 => ⟨S9x384, .f32⟩
  | 15 => ⟨S9x384x1, .f32⟩
  | 16 => ⟨S384x1, .f32⟩
  | 17 => ⟨S_, .f32⟩
  | 18 => ⟨S8x384, .f32⟩
  | 19 => ⟨S384, .f32⟩
  | 20 => ⟨S_, .i32⟩
  | 21 => ⟨S1, .i32⟩
  | 22 => ⟨S8x384, .f32⟩
  | 23 => ⟨S1x1, .f32⟩
  | 24 => ⟨S8x128, .f32⟩
  | 25 => ⟨S_, .i32⟩
  | 26 => ⟨S_, .i32⟩
  | 27 => ⟨S_, .i32⟩
  | 28 => ⟨S_, .i32⟩
  | 29 => ⟨S1, .i32⟩
  | 30 => ⟨S_, .i32⟩
  | 31 => ⟨S_, .i32⟩
  | 32 => ⟨S_, .i32⟩
  | 33 => ⟨S1, .i32⟩
  | 34 => ⟨S2, .i32⟩
  | 35 => ⟨S176, .i32⟩
  | 36 => ⟨S1, .i32⟩
  | 37 => ⟨S_, .i32⟩
  | 38 => ⟨S1, .i32⟩
  | 39 => ⟨S_, .i32⟩
  | 40 => ⟨S2, .i64⟩
  | 41 => ⟨S_, .i64⟩
  | 42 => ⟨S2, .i64⟩
  | 43 => ⟨S2, .i64⟩
  | 44 => ⟨S_, .i64⟩
  | 45 => ⟨S2, .i64⟩
  | 46 => ⟨S2, .i64⟩
  | 47 => ⟨S2, .i32⟩
  | 48 => ⟨S2, .i32⟩
  | 49 => ⟨S_, .i32⟩
  | 50 => ⟨S_, .i32⟩
  | 51 => ⟨S_, .i32⟩
  | 52 => ⟨S2, .i32⟩
  | 53 => ⟨S2, .i32⟩
  | 54 => ⟨S2, .i32⟩
  | 55 => ⟨S2, .i32⟩
  | 56 => ⟨S2, .i32⟩
  | 57 => ⟨S_, .i32⟩
  | 58 => ⟨S2, .i32⟩
  | 59 => ⟨S2, .i32⟩
  | 60 => ⟨S_, .i32⟩
  | 61 => ⟨S2, .i32⟩
  | 62 => ⟨S2, .i32⟩
  | 63 => ⟨S2, .i32⟩
  | 64 => ⟨S2, .i32⟩
  | 65 => ⟨S2, .i32⟩
  | 66 => ⟨S_, .i32⟩
  | 67 => ⟨S2, .i32⟩
  | 68 => ⟨S2, .i32⟩
  | 69 => ⟨S_, .i32⟩
  | 70 => ⟨S2, .i32⟩
  | 71 => ⟨S2, .i32⟩
  | 72 => ⟨S2, .i32⟩
  | 73 => ⟨S2, .i32⟩
  | 74 => ⟨S2, .i32⟩
  | 75 => ⟨S_, .i32⟩
  | 76 => ⟨S2, .i32⟩
  | 77 => ⟨S2, .i32⟩
  | 78 => ⟨S_, .i32⟩
  | 79 => ⟨S2, .i32⟩
  | 80 => ⟨S2, .i32⟩
  | 81 => ⟨S2, .i32⟩
  | 82 => ⟨S2, .i32⟩
  | 83 => ⟨S2, .i32⟩
  | 84 => ⟨S_, .i32⟩
  | 85 => ⟨S2, .i32⟩
  | 86 => ⟨S2, .i32⟩
  | 87 => ⟨S_, .i32⟩
  | 88 => ⟨S2, .i32⟩
  | 89 => ⟨S2, .i32⟩
  | 90 => ⟨S2, .i32⟩
  | 91 => ⟨S2, .i32⟩
  | 92 => ⟨S2, .i32⟩
  | 93 => ⟨S2, .i32⟩
  | 94 => ⟨S2, .i32⟩
  | 95 => ⟨S2, .i32⟩
  | 96 => ⟨S_, .i32⟩
  | 97 => ⟨S2, .i32⟩
  | 98 => ⟨S2, .i32⟩
  | 99 => ⟨S2, .i32⟩
  | 100 => ⟨S_, .i32⟩
  | 101 => ⟨S2, .i32⟩
  | 102 => ⟨S2, .i32⟩
  | 103 => ⟨S_, .i32⟩
  | 104 => ⟨S2, .i32⟩
  | 105 => ⟨S2, .i32⟩
  | 106 => ⟨S2, .i32⟩
  | 107 => ⟨S2, .i32⟩
  | 108 => ⟨S2, .i32⟩
  | 109 => ⟨S_, .i32⟩
  | 110 => ⟨S2, .i32⟩
  | 111 => ⟨S2, .i32⟩
  | 112 => ⟨S_, .i32⟩
  | 113 => ⟨S2, .i32⟩
  | 114 => ⟨S2, .i32⟩
  | 115 => ⟨S2, .i32⟩
  | 116 => ⟨S2, .i32⟩
  | 117 => ⟨S2, .i32⟩
  | 118 => ⟨S_, .i32⟩
  | 119 => ⟨S2, .i32⟩
  | 120 => ⟨S2, .i32⟩
  | 121 => ⟨S_, .i32⟩
  | 122 => ⟨S2, .i32⟩
  | 123 => ⟨S2, .i32⟩
  | 124 => ⟨S2, .i32⟩
  | 125 => ⟨S2, .i32⟩
  | 126 => ⟨S2, .i32⟩
  | 127 => ⟨S_, .i32⟩
  | _ => ⟨S8x64x384x14x14, .f32⟩

abbrev hbmTy0_1 (i : Nat) : BufTy := match i % 128 with
  | 0 => ⟨S2, .i32⟩
  | 1 => ⟨S2, .i32⟩
  | 2 => ⟨S_, .i32⟩
  | 3 => ⟨S2, .i32⟩
  | 4 => ⟨S2, .i32⟩
  | 5 => ⟨S2, .i32⟩
  | 6 => ⟨S2, .i32⟩
  | 7 => ⟨S2, .i32⟩
  | 8 => ⟨S2, .i32⟩
  | 9 => ⟨S2, .i32⟩
  | 10 => ⟨S2, .i32⟩
  | 11 => ⟨S_, .i32⟩
  | 12 => ⟨S2, .i32⟩
  | 13 => ⟨S2, .i32⟩
  | 14 => ⟨S2, .i32⟩
  | 15 => ⟨S_, .i32⟩
  | 16 => ⟨S2, .i32⟩
  | 17 => ⟨S2, .i32⟩
  | 18 => ⟨S_, .i32⟩
  | 19 => ⟨S2, .i32⟩
  | 20 => ⟨S2, .i32⟩
  | 21 => ⟨S2, .i32⟩
  | 22 => ⟨S2, .i32⟩
  | 23 => ⟨S2, .i32⟩
  | 24 => ⟨S_, .i32⟩
  | 25 => ⟨S2, .i32⟩
  | 26 => ⟨S2, .i32⟩
  | 27 => ⟨S_, .i32⟩
  | 28 => ⟨S2, .i32⟩
  | 29 => ⟨S2, .i32⟩
  | 30 => ⟨S2, .i32⟩
  | 31 => ⟨S2, .i32⟩
  | 32 => ⟨S2, .i32⟩
  | 33 => ⟨S_, .i32⟩
  | 34 => ⟨S2, .i32⟩
  | 35 => ⟨S2, .i32⟩
  | 36 => ⟨S_, .i32⟩
  | 37 => ⟨S2, .i32⟩
  | 38 => ⟨S2, .i32⟩
  | 39 => ⟨S2, .i32⟩
  | 40 => ⟨S2, .i32⟩
  | 41 => ⟨S2, .i32⟩
  | 42 => ⟨S_, .i32⟩
  | 43 => ⟨S2, .i32⟩
  | 44 => ⟨S2, .i32⟩
  | 45 => ⟨S_, .i32⟩
  | 46 => ⟨S2, .i32⟩
  | 47 => ⟨S2, .i32⟩
  | 48 => ⟨S2, .i32⟩
  | 49 => ⟨S2, .i32⟩
  | 50 => ⟨S2, .i32⟩
  | 51 => ⟨S2, .i32⟩
  | 52 => ⟨S2, .i32⟩
  | 53 => ⟨S2, .i32⟩
  | 54 => ⟨S_, .i32⟩
  | 55 => ⟨S2, .i32⟩
  | 56 => ⟨S2, .i32⟩
  | 57 => ⟨S2, .i32⟩
  | 58 => ⟨S_, .i32⟩
  | 59 => ⟨S2, .i32⟩
  | 60 => ⟨S2, .i32⟩
  | 61 => ⟨S_, .i32⟩
  | 62 => ⟨S2, .i32⟩
  | 63 => ⟨S2, .i32⟩
  | 64 => ⟨S2, .i32⟩
  | 65 => ⟨S2, .i32⟩
  | 66 => ⟨S2, .i32⟩
  | 67 => ⟨S_, .i32⟩
  | 68 => ⟨S2, .i32⟩
  | 69 => ⟨S2, .i32⟩
  | 70 => ⟨S_, .i32⟩
  | 71 => ⟨S2, .i32⟩
  | 72 => ⟨S2, .i32⟩
  | 73 => ⟨S2, .i32⟩
  | 74 => ⟨S2, .i32⟩
  | 75 => ⟨S2, .i32⟩
  | 76 => ⟨S_, .i32⟩
  | 77 => ⟨S2, .i32⟩
  | 78 => ⟨S2, .i32⟩
  | 79 => ⟨S_, .i32⟩
  | 80 => ⟨S2, .i32⟩
  | 81 => ⟨S2, .i32⟩
  | 82 => ⟨S2, .i32⟩
  | 83 => ⟨S2, .i32⟩
  | 84 => ⟨S2, .i32⟩
  | 85 => ⟨S_, .i32⟩
  | 86 => ⟨S2, .i32⟩
  | 87 => ⟨S2, .i32⟩
  | 88 => ⟨S_, .i32⟩
  | 89 => ⟨S2, .i32⟩
  | 90 => ⟨S2, .i32⟩
  | 91 => ⟨S2, .i32⟩
  | 92 => ⟨S2, .i32⟩
  | 93 => ⟨S2, .i32⟩
  | 94 => ⟨S2, .i32⟩
  | 95 => ⟨S2, .i32⟩
  | 96 => ⟨S2, .i32⟩
  | 97 => ⟨S_, .i32⟩
  | 98 => ⟨S2, .i32⟩
  | 99 => ⟨S2, .i32⟩
  | 100 => ⟨S2, .i32⟩
  | 101 => ⟨S_, .i32⟩
  | 102 => ⟨S2, .i32⟩
  | 103 => ⟨S2, .i32⟩
  | 104 => ⟨S_, .i32⟩
  | 105 => ⟨S2, .i32⟩
  | 106 => ⟨S2, .i32⟩
  | 107 => ⟨S2, .i32⟩
  | 108 => ⟨S2, .i32⟩
  | 109 => ⟨S2, .i32⟩
  | 110 => ⟨S_, .i32⟩
  | 111 => ⟨S2, .i32⟩
  | 112 => ⟨S2, .i32⟩
  | 113 => ⟨S_, .i32⟩
  | 114 => ⟨S2, .i32⟩
  | 115 => ⟨S2, .i32⟩
  | 116 => ⟨S2, .i32⟩
  | 117 => ⟨S2, .i32⟩
  | 118 => ⟨S2, .i32⟩
  | 119 => ⟨S_, .i32⟩
  | 120 => ⟨S2, .i32⟩
  | 121 => ⟨S2, .i32⟩
  | 122 => ⟨S_, .i32⟩
  | 123 => ⟨S2, .i32⟩
  | 124 => ⟨S2, .i32⟩
  | 125 => ⟨S2, .i32⟩
  | 126 => ⟨S2, .i32⟩
  | 127 => ⟨S2, .i32⟩
  | _ => ⟨S8x64x384x14x14, .f32⟩

abbrev hbmTy0_2 (i : Nat) : BufTy := match i % 128 with
  | 0 => ⟨S_, .i32⟩
  | 1 => ⟨S2, .i32⟩
  | 2 => ⟨S2, .i32⟩
  | 3 => ⟨S_, .i32⟩
  | 4 => ⟨S2, .i32⟩
  | 5 => ⟨S2, .i32⟩
  | 6 => ⟨S2, .i32⟩
  | 7 => ⟨S2, .i32⟩
  | 8 => ⟨S2, .i32⟩
  | 9 => ⟨S2, .i32⟩
  | 10 => ⟨S2, .i32⟩
  | 11 => ⟨S2, .i32⟩
  | 12 => ⟨S_, .i32⟩
  | 13 => ⟨S2, .i32⟩
  | 14 => ⟨S2, .i32⟩
  | 15 => ⟨S2x1, .i32⟩
  | 16 => ⟨S2x1, .i32⟩
  | 17 => ⟨S2x2, .i32⟩
  | 18 => ⟨S1x2, .i32⟩
  | 19 => ⟨S2, .i32⟩
  | 20 => ⟨S1x2, .i32⟩
  | 21 => ⟨S2, .i32⟩
  | 22 => ⟨S1, .i32⟩
  | 23 => ⟨S_, .i32⟩
  | 24 => ⟨S1, .i32⟩
  | 25 => ⟨S_, .i32⟩
  | 26 => ⟨S176, .i64⟩
  | 27 => ⟨S_, .i64⟩
  | 28 => ⟨S176, .i64⟩
  | 29 => ⟨S176, .i64⟩
  | 30 => ⟨S_, .i64⟩
  | 31 => ⟨S176, .i64⟩
  | 32 => ⟨S176, .i64⟩
  | 33 => ⟨S176, .i32⟩
  | 34 => ⟨S176, .i32⟩
  | 35 => ⟨S_, .i32⟩
  | 36 => ⟨S_, .i32⟩
  | 37 => ⟨S_, .i32⟩
  | 38 => ⟨S176, .i32⟩
  | 39 => ⟨S176, .i32⟩
  | 40 => ⟨S176, .i32⟩
  | 41 => ⟨S176, .i32⟩
  | 42 => ⟨S176, .i32⟩
  | 43 => ⟨S_, .i32⟩
  | 44 => ⟨S176, .i32⟩
  | 45 => ⟨S176, .i32⟩
  | 46 => ⟨S_, .i32⟩
  | 47 => ⟨S176, .i32⟩
  | 48 => ⟨S176, .i32⟩
  | 49 => ⟨S176, .i32⟩
  | 50 => ⟨S176, .i32⟩
  | 51 => ⟨S176, .i32⟩
  | 52 => ⟨S_, .i32⟩
  | 53 => ⟨S176, .i32⟩
  | 54 => ⟨S176, .i32⟩
  | 55 => ⟨S_, .i32⟩
  | 56 => ⟨S176, .i32⟩
  | 57 => ⟨S176, .i32⟩
  | 58 => ⟨S176, .i32⟩
  | 59 => ⟨S176, .i32⟩
  | 60 => ⟨S176, .i32⟩
  | 61 => ⟨S_, .i32⟩
  | 62 => ⟨S176, .i32⟩
  | 63 => ⟨S176, .i32⟩
  | 64 => ⟨S_, .i32⟩
  | 65 => ⟨S176, .i32⟩
  | 66 => ⟨S176, .i32⟩
  | 67 => ⟨S176, .i32⟩
  | 68 => ⟨S176, .i32⟩
  | 69 => ⟨S176, .i32⟩
  | 70 => ⟨S_, .i32⟩
  | 71 => ⟨S176, .i32⟩
  | 72 => ⟨S176, .i32⟩
  | 73 => ⟨S_, .i32⟩
  | 74 => ⟨S176, .i32⟩
  | 75 => ⟨S176, .i32⟩
  | 76 => ⟨S176, .i32⟩
  | 77 => ⟨S176, .i32⟩
  | 78 => ⟨S176, .i32⟩
  | 79 => ⟨S176, .i32⟩
  | 80 => ⟨S176, .i32⟩
  | 81 => ⟨S176, .i32⟩
  | 82 => ⟨S_, .i32⟩
  | 83 => ⟨S176, .i32⟩
  | 84 => ⟨S176, .i32⟩
  | 85 => ⟨S176, .i32⟩
  | 86 => ⟨S_, .i32⟩
  | 87 => ⟨S176, .i32⟩
  | 88 => ⟨S176, .i32⟩
  | 89 => ⟨S_, .i32⟩
  | 90 => ⟨S176, .i32⟩
  | 91 => ⟨S176, .i32⟩
  | 92 => ⟨S176, .i32⟩
  | 93 => ⟨S176, .i32⟩
  | 94 => ⟨S176, .i32⟩
  | 95 => ⟨S_, .i32⟩
  | 96 => ⟨S176, .i32⟩
  | 97 => ⟨S176, .i32⟩
  | 98 => ⟨S_, .i32⟩
  | 99 => ⟨S176, .i32⟩
  | 100 => ⟨S176, .i32⟩
  | 101 => ⟨S176, .i32⟩
  | 102 => ⟨S176, .i32⟩
  | 103 => ⟨S176, .i32⟩
  | 104 => ⟨S_, .i32⟩
  | 105 => ⟨S176, .i32⟩
  | 106 => ⟨S176, .i32⟩
  | 107 => ⟨S_, .i32⟩
  | 108 => ⟨S176, .i32⟩
  | 109 => ⟨S176, .i32⟩
  | 110 => ⟨S176, .i32⟩
  | 111 => ⟨S176, .i32⟩
  | 112 => ⟨S176, .i32⟩
  | 113 => ⟨S_, .i32⟩
  | 114 => ⟨S176, .i32⟩
  | 115 => ⟨S176, .i32⟩
  | 116 => ⟨S_, .i32⟩
  | 117 => ⟨S176, .i32⟩
  | 118 => ⟨S176, .i32⟩
  | 119 => ⟨S176, .i32⟩
  | 120 => ⟨S176, .i32⟩
  | 121 => ⟨S176, .i32⟩
  | 122 => ⟨S176, .i32⟩
  | 123 => ⟨S176, .i32⟩
  | 124 => ⟨S176, .i32⟩
  | 125 => ⟨S_, .i32⟩
  | 126 => ⟨S176, .i32⟩
  | 127 => ⟨S176, .i32⟩
  | _ => ⟨S8x64x384x14x14, .f32⟩

abbrev hbmTy0_3 (i : Nat) : BufTy := match i % 128 with
  | 0 => ⟨S176, .i32⟩
  | 1 => ⟨S_, .i32⟩
  | 2 => ⟨S176, .i32⟩
  | 3 => ⟨S176, .i32⟩
  | 4 => ⟨S_, .i32⟩
  | 5 => ⟨S176, .i32⟩
  | 6 => ⟨S176, .i32⟩
  | 7 => ⟨S176, .i32⟩
  | 8 => ⟨S176, .i32⟩
  | 9 => ⟨S176, .i32⟩
  | 10 => ⟨S_, .i32⟩
  | 11 => ⟨S176, .i32⟩
  | 12 => ⟨S176, .i32⟩
  | 13 => ⟨S_, .i32⟩
  | 14 => ⟨S176, .i32⟩
  | 15 => ⟨S176, .i32⟩
  | 16 => ⟨S176, .i32⟩
  | 17 => ⟨S176, .i32⟩
  | 18 => ⟨S176, .i32⟩
  | 19 => ⟨S_, .i32⟩
  | 20 => ⟨S176, .i32⟩
  | 21 => ⟨S176, .i32⟩
  | 22 => ⟨S_, .i32⟩
  | 23 => ⟨S176, .i32⟩
  | 24 => ⟨S176, .i32⟩
  | 25 => ⟨S176, .i32⟩
  | 26 => ⟨S176, .i32⟩
  | 27 => ⟨S176, .i32⟩
  | 28 => ⟨S_, .i32⟩
  | 29 => ⟨S176, .i32⟩
  | 30 => ⟨S176, .i32⟩
  | 31 => ⟨S_, .i32⟩
  | 32 => ⟨S176, .i32⟩
  | 33 => ⟨S176, .i32⟩
  | 34 => ⟨S176, .i32⟩
  | 35 => ⟨S176, .i32⟩
  | 36 => ⟨S176, .i32⟩
  | 37 => ⟨S176, .i32⟩
  | 38 => ⟨S176, .i32⟩
  | 39 => ⟨S176, .i32⟩
  | 40 => ⟨S_, .i32⟩
  | 41 => ⟨S176, .i32⟩
  | 42 => ⟨S176, .i32⟩
  | 43 => ⟨S176, .i32⟩
  | 44 => ⟨S_, .i32⟩
  | 45 => ⟨S176, .i32⟩
  | 46 => ⟨S176, .i32⟩
  | 47 => ⟨S_, .i32⟩
  | 48 => ⟨S176, .i32⟩
  | 49 => ⟨S176, .i32⟩
  | 50 => ⟨S176, .i32⟩
  | 51 => ⟨S176, .i32⟩
  | 52 => ⟨S176, .i32⟩
  | 53 => ⟨S_, .i32⟩
  | 54 => ⟨S176, .i32⟩
  | 55 => ⟨S176, .i32⟩
  | 56 => ⟨S_, .i32⟩
  | 57 => ⟨S176, .i32⟩
  | 58 => ⟨S176, .i32⟩
  | 59 => ⟨S176, .i32⟩
  | 60 => ⟨S176, .i32⟩
  | 61 => ⟨S176, .i32⟩
  | 62 => ⟨S_, .i32⟩
  | 63 => ⟨S176, .i32⟩
  | 64 => ⟨S176, .i32⟩
  | 65 => ⟨S_, .i32⟩
  | 66 => ⟨S176, .i32⟩
  | 67 => ⟨S176, .i32⟩
  | 68 => ⟨S176, .i32⟩
  | 69 => ⟨S176, .i32⟩
  | 70 => ⟨S176, .i32⟩
  | 71 => ⟨S_, .i32⟩
  | 72 => ⟨S176, .i32⟩
  | 73 => ⟨S176, .i32⟩
  | 74 => ⟨S_, .i32⟩
  | 75 => ⟨S176, .i32⟩
  | 76 => ⟨S176, .i32⟩
  | 77 => ⟨S176, .i32⟩
  | 78 => ⟨S176, .i32⟩
  | 79 => ⟨S176, .i32⟩
  | 80 => ⟨S176, .i32⟩
  | 81 => ⟨S176, .i32⟩
  | 82 => ⟨S176, .i32⟩
  | 83 => ⟨S_, .i32⟩
  | 84 => ⟨S176, .i32⟩
  | 85 => ⟨S176, .i32⟩
  | 86 => ⟨S176, .i32⟩
  | 87 => ⟨S_, .i32⟩
  | 88 => ⟨S176, .i32⟩
  | 89 => ⟨S176, .i32⟩
  | 90 => ⟨S_, .i32⟩
  | 91 => ⟨S176, .i32⟩
  | 92 => ⟨S176, .i32⟩
  | 93 => ⟨S176, .i32⟩
  | 94 => ⟨S176, .i32⟩
  | 95 => ⟨S176, .i32⟩
  | 96 => ⟨S_, .i32⟩
  | 97 => ⟨S176, .i32⟩
  | 98 => ⟨S176, .i32⟩
  | 99 => ⟨S_, .i32⟩
  | 100 => ⟨S176, .i32⟩
  | 101 => ⟨S176, .i32⟩
  | 102 => ⟨S176, .i32⟩
  | 103 => ⟨S176, .i32⟩
  | 104 => ⟨S176, .i32⟩
  | 105 => ⟨S_, .i32⟩
  | 106 => ⟨S176, .i32⟩
  | 107 => ⟨S176, .i32⟩
  | 108 => ⟨S_, .i32⟩
  | 109 => ⟨S176, .i32⟩
  | 110 => ⟨S176, .i32⟩
  | 111 => ⟨S176, .i32⟩
  | 112 => ⟨S176, .i32⟩
  | 113 => ⟨S176, .i32⟩
  | 114 => ⟨S_, .i32⟩
  | 115 => ⟨S176, .i32⟩
  | 116 => ⟨S176, .i32⟩
  | 117 => ⟨S_, .i32⟩
  | 118 => ⟨S176, .i32⟩
  | 119 => ⟨S176, .i32⟩
  | 120 => ⟨S176, .i32⟩
  | 121 => ⟨S176, .i32⟩
  | 122 => ⟨S176, .i32⟩
  | 123 => ⟨S176, .i32⟩
  | 124 => ⟨S176, .i32⟩
  | 125 => ⟨S176, .i32⟩
  | 126 => ⟨S_, .i32⟩
  | 127 => ⟨S176, .i32⟩
  | _ => ⟨S8x64x384x14x14, .f32⟩

abbrev hbmTy0_4 (i : Nat) : BufTy := match i % 128 with
  | 0 => ⟨S176, .i32⟩
  | 1 => ⟨S176, .i32⟩
  | 2 => ⟨S176, .i32⟩
  | 3 => ⟨S176, .i32⟩
  | 4 => ⟨S76, .i32⟩
  | 5 => ⟨S76, .f32⟩
  | 6 => ⟨S76x1, .f32⟩
  | 7 => ⟨S196, .i32⟩
  | 8 => ⟨S_, .f32⟩
  | 9 => ⟨S196x128, .f32⟩
  | 10 => ⟨S_, .i32⟩
  | 11 => ⟨S_, .i32⟩
  | 12 => ⟨S_, .i32⟩
  | 13 => ⟨S_, .i1⟩
  | 14 => ⟨S_, .i32⟩
  | 15 => ⟨S_, .i32⟩
  | 16 => ⟨S196, .i32⟩
  | 17 => ⟨S196, .i32⟩
  | 18 => ⟨S_, .i32⟩
  | 19 => ⟨S196, .i32⟩
  | 20 => ⟨S196, .i1⟩
  | 21 => ⟨S_, .i32⟩
  | 22 => ⟨S196, .i32⟩
  | 23 => ⟨S196, .i1⟩
  | 24 => ⟨S_, .i32⟩
  | 25 => ⟨S_, .i1⟩
  | 26 => ⟨S196, .i1⟩
  | 27 => ⟨S196, .i1⟩
  | 28 => ⟨S196, .i1⟩
  | 29 => ⟨S196, .i32⟩
  | 30 => ⟨S196, .i32⟩
  | 31 => ⟨S196, .i32⟩
  | 32 => ⟨S_, .i32⟩
  | 33 => ⟨S_, .i32⟩
  | 34 => ⟨S_, .i32⟩
  | 35 => ⟨S196, .i32⟩
  | 36 => ⟨S196, .i32⟩
  | 37 => ⟨S_, .i32⟩
  | 38 => ⟨S196, .i32⟩
  | 39 => ⟨S196, .i32⟩
  | 40 => ⟨S196, .f32⟩
  | 41 => ⟨S_, .i32⟩
  | 42 => ⟨S1, .i32⟩
  | 43 => ⟨S196x128, .f32⟩
  | 44 => ⟨S_, .i32⟩
  | 45 => ⟨S_, .i32⟩
  | 46 => ⟨S196, .i32⟩
  | 47 => ⟨S196, .i32⟩
  | 48 => ⟨S196, .i32⟩
  | 49 => ⟨S_, .i32⟩
  | 50 => ⟨S196, .i32⟩
  | 51 => ⟨S196, .i1⟩
  | 52 => ⟨S196, .i32⟩
  | 53 => ⟨S196, .i32⟩
  | 54 => ⟨S_, .i32⟩
  | 55 => ⟨S196, .i32⟩
  | 56 => ⟨S196, .i1⟩
  | 57 => ⟨S196, .i1⟩
  | 58 => ⟨S_, .i32⟩
  | 59 => ⟨S196, .i32⟩
  | 60 => ⟨S196, .i32⟩
  | 61 => ⟨S196, .i32⟩
  | 62 => ⟨S_, .i32⟩
  | 63 => ⟨S_, .i32⟩
  | 64 => ⟨S_, .i32⟩
  | 65 => ⟨S196, .i32⟩
  | 66 => ⟨S196, .i32⟩
  | 67 => ⟨S_, .i32⟩
  | 68 => ⟨S196, .i32⟩
  | 69 => ⟨S196, .i32⟩
  | 70 => ⟨S196, .f32⟩
  | 71 => ⟨S_, .i32⟩
  | 72 => ⟨S1, .i32⟩
  | 73 => ⟨S196x128, .f32⟩
  | 74 => ⟨S16x4x96, .i32⟩
  | 75 => ⟨S16x4x96, .i32⟩
  | _ => ⟨S8x64x384x14x14, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | _ => ⟨S8x64x384x14x14, .f32⟩

abbrev bufTy : (tb : Table) → Fin (tcTables nBuf tb) → BufTy
  | .hbm, ⟨i, _⟩ => hbmTy i
  | .local _ .vmem, ⟨0, _⟩ => ⟨S4x384x226, .bf16⟩
  | .local _ .vmem, ⟨1, _⟩ => ⟨S4x384x226, .bf16⟩
  | .local _ .vmem, ⟨2, _⟩ => ⟨S9x384x1, .f32⟩
  | .local _ .vmem, ⟨3, _⟩ => ⟨S384x1, .f32⟩
  | .local _ .vmem, ⟨4, _⟩ => ⟨S8x384, .f32⟩
  | .local _ .vmem, ⟨5, _⟩ => ⟨S8x128, .f32⟩
  | .local _ .vmem, ⟨6, _⟩ => ⟨S76x1, .f32⟩
  | .local _ .vmem, ⟨7, _⟩ => ⟨S196x128, .f32⟩
  | .local _ .vmem, ⟨8, _⟩ => ⟨S1x4x96, .i32⟩
  | .local _ .vmem, ⟨9, _⟩ => ⟨S1x4x96, .i32⟩
  | .local _ .vmem, ⟨10, _⟩ => ⟨S1x4x96, .i32⟩
  | .local _ .vmem, ⟨11, _⟩ => ⟨S1x4x96, .i32⟩
  | _, _ => ⟨S8x64x384x14x14, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_call0_v0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst : Ref sig .tc := ⟨.hbm, 17, rfl⟩
abbrev main_v10 : Ref sig .tc := ⟨.hbm, 18, rfl⟩
abbrev main_v11 : Ref sig .tc := ⟨.hbm, 19, rfl⟩
abbrev main_c_0 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_c_1 : Ref sig .tc := ⟨.hbm, 25, rfl⟩
abbrev main_c_2 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_c_3 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_call1_call0_v0 : Ref sig .tc := ⟨.hbm, 36, rfl⟩
abbrev main_call1_call0_v1 : Ref sig .tc := ⟨.hbm, 37, rfl⟩
abbrev main_call1_call0_v2 : Ref sig .tc := ⟨.hbm, 38, rfl⟩
abbrev main_call1_call0_v3 : Ref sig .tc := ⟨.hbm, 39, rfl⟩
abbrev main_call1_call0_v4 : Ref sig .tc := ⟨.hbm, 40, rfl⟩
abbrev main_call1_call0_c : Ref sig .tc := ⟨.hbm, 41, rfl⟩
abbrev main_call1_call0_v5 : Ref sig .tc := ⟨.hbm, 42, rfl⟩
abbrev main_call1_call0_v6 : Ref sig .tc := ⟨.hbm, 43, rfl⟩
abbrev main_call1_call0_c_0 : Ref sig .tc := ⟨.hbm, 44, rfl⟩
abbrev main_call1_call0_v7 : Ref sig .tc := ⟨.hbm, 45, rfl⟩
abbrev main_call1_call0_v8 : Ref sig .tc := ⟨.hbm, 46, rfl⟩
abbrev main_call1_call0_v9 : Ref sig .tc := ⟨.hbm, 47, rfl⟩
abbrev main_call1_call0_v10 : Ref sig .tc := ⟨.hbm, 48, rfl⟩
abbrev main_call1_call0_call0_v0 : Ref sig .tc := ⟨.hbm, 49, rfl⟩
abbrev main_call1_call0_call0_c : Ref sig .tc := ⟨.hbm, 50, rfl⟩
abbrev main_call1_call0_call0_v1 : Ref sig .tc := ⟨.hbm, 51, rfl⟩
abbrev main_call1_call0_call0_v2 : Ref sig .tc := ⟨.hbm, 52, rfl⟩
abbrev main_call1_call0_call0_v3 : Ref sig .tc := ⟨.hbm, 53, rfl⟩
abbrev main_call1_call0_call0_v4 : Ref sig .tc := ⟨.hbm, 54, rfl⟩
abbrev main_call1_call0_call0_v5 : Ref sig .tc := ⟨.hbm, 55, rfl⟩
abbrev main_call1_call0_call0_v6 : Ref sig .tc := ⟨.hbm, 56, rfl⟩
abbrev main_call1_call0_call0_c_0 : Ref sig .tc := ⟨.hbm, 57, rfl⟩
abbrev main_call1_call0_call0_v7 : Ref sig .tc := ⟨.hbm, 58, rfl⟩
abbrev main_call1_call0_call0_v8 : Ref sig .tc := ⟨.hbm, 59, rfl⟩
abbrev main_call1_call0_call0_c_1 : Ref sig .tc := ⟨.hbm, 60, rfl⟩
abbrev main_call1_call0_call0_v9 : Ref sig .tc := ⟨.hbm, 61, rfl⟩
abbrev main_call1_call0_call0_v10 : Ref sig .tc := ⟨.hbm, 62, rfl⟩
abbrev main_call1_call0_call0_v11 : Ref sig .tc := ⟨.hbm, 63, rfl⟩
abbrev main_call1_call0_call0_v12 : Ref sig .tc := ⟨.hbm, 64, rfl⟩
abbrev main_call1_call0_call0_v13 : Ref sig .tc := ⟨.hbm, 65, rfl⟩
abbrev main_call1_call0_call0_c_2 : Ref sig .tc := ⟨.hbm, 66, rfl⟩
abbrev main_call1_call0_call0_v14 : Ref sig .tc := ⟨.hbm, 67, rfl⟩
abbrev main_call1_call0_call0_v15 : Ref sig .tc := ⟨.hbm, 68, rfl⟩
abbrev main_call1_call0_call0_c_3 : Ref sig .tc := ⟨.hbm, 69, rfl⟩
abbrev main_call1_call0_call0_v16 : Ref sig .tc := ⟨.hbm, 70, rfl⟩
abbrev main_call1_call0_call0_v17 : Ref sig .tc := ⟨.hbm, 71, rfl⟩
abbrev main_call1_call0_call0_v18 : Ref sig .tc := ⟨.hbm, 72, rfl⟩
abbrev main_call1_call0_call0_v19 : Ref sig .tc := ⟨.hbm, 73, rfl⟩
abbrev main_call1_call0_call0_v20 : Ref sig .tc := ⟨.hbm, 74, rfl⟩
abbrev main_call1_call0_call0_c_4 : Ref sig .tc := ⟨.hbm, 75, rfl⟩
abbrev main_call1_call0_call0_v21 : Ref sig .tc := ⟨.hbm, 76, rfl⟩
abbrev main_call1_call0_call0_v22 : Ref sig .tc := ⟨.hbm, 77, rfl⟩
abbrev main_call1_call0_call0_c_5 : Ref sig .tc := ⟨.hbm, 78, rfl⟩
abbrev main_call1_call0_call0_v23 : Ref sig .tc := ⟨.hbm, 79, rfl⟩
abbrev main_call1_call0_call0_v24 : Ref sig .tc := ⟨.hbm, 80, rfl⟩
abbrev main_call1_call0_call0_v25 : Ref sig .tc := ⟨.hbm, 81, rfl⟩
abbrev main_call1_call0_call0_v26 : Ref sig .tc := ⟨.hbm, 82, rfl⟩
abbrev main_call1_call0_call0_v27 : Ref sig .tc := ⟨.hbm, 83, rfl⟩
abbrev main_call1_call0_call0_c_6 : Ref sig .tc := ⟨.hbm, 84, rfl⟩
abbrev main_call1_call0_call0_v28 : Ref sig .tc := ⟨.hbm, 85, rfl⟩
abbrev main_call1_call0_call0_v29 : Ref sig .tc := ⟨.hbm, 86, rfl⟩
abbrev main_call1_call0_call0_c_7 : Ref sig .tc := ⟨.hbm, 87, rfl⟩
abbrev main_call1_call0_call0_v30 : Ref sig .tc := ⟨.hbm, 88, rfl⟩
abbrev main_call1_call0_call0_v31 : Ref sig .tc := ⟨.hbm, 89, rfl⟩
abbrev main_call1_call0_call0_v32 : Ref sig .tc := ⟨.hbm, 90, rfl⟩
abbrev main_call1_call0_call0_v33 : Ref sig .tc := ⟨.hbm, 91, rfl⟩
abbrev main_call1_call0_call0_v34 : Ref sig .tc := ⟨.hbm, 92, rfl⟩
abbrev main_call1_call0_call0_v35 : Ref sig .tc := ⟨.hbm, 93, rfl⟩
abbrev main_call1_call0_call0_v36 : Ref sig .tc := ⟨.hbm, 94, rfl⟩
abbrev main_call1_call0_call0_v37 : Ref sig .tc := ⟨.hbm, 95, rfl⟩
abbrev main_call1_call0_call0_c_8 : Ref sig .tc := ⟨.hbm, 96, rfl⟩
abbrev main_call1_call0_call0_v38 : Ref sig .tc := ⟨.hbm, 97, rfl⟩
abbrev main_call1_call0_call0_v39 : Ref sig .tc := ⟨.hbm, 98, rfl⟩
abbrev main_call1_call0_call0_v40 : Ref sig .tc := ⟨.hbm, 99, rfl⟩
abbrev main_call1_call0_call0_c_9 : Ref sig .tc := ⟨.hbm, 100, rfl⟩
abbrev main_call1_call0_call0_v41 : Ref sig .tc := ⟨.hbm, 101, rfl⟩
abbrev main_call1_call0_call0_v42 : Ref sig .tc := ⟨.hbm, 102, rfl⟩
abbrev main_call1_call0_call0_c_10 : Ref sig .tc := ⟨.hbm, 103, rfl⟩
abbrev main_call1_call0_call0_v43 : Ref sig .tc := ⟨.hbm, 104, rfl⟩
abbrev main_call1_call0_call0_v44 : Ref sig .tc := ⟨.hbm, 105, rfl⟩
abbrev main_call1_call0_call0_v45 : Ref sig .tc := ⟨.hbm, 106, rfl⟩
abbrev main_call1_call0_call0_v46 : Ref sig .tc := ⟨.hbm, 107, rfl⟩
abbrev main_call1_call0_call0_v47 : Ref sig .tc := ⟨.hbm, 108, rfl⟩
abbrev main_call1_call0_call0_c_11 : Ref sig .tc := ⟨.hbm, 109, rfl⟩
abbrev main_call1_call0_call0_v48 : Ref sig .tc := ⟨.hbm, 110, rfl⟩
abbrev main_call1_call0_call0_v49 : Ref sig .tc := ⟨.hbm, 111, rfl⟩
abbrev main_call1_call0_call0_c_12 : Ref sig .tc := ⟨.hbm, 112, rfl⟩
abbrev main_call1_call0_call0_v50 : Ref sig .tc := ⟨.hbm, 113, rfl⟩
abbrev main_call1_call0_call0_v51 : Ref sig .tc := ⟨.hbm, 114, rfl⟩
abbrev main_call1_call0_call0_v52 : Ref sig .tc := ⟨.hbm, 115, rfl⟩
abbrev main_call1_call0_call0_v53 : Ref sig .tc := ⟨.hbm, 116, rfl⟩
abbrev main_call1_call0_call0_v54 : Ref sig .tc := ⟨.hbm, 117, rfl⟩
abbrev main_call1_call0_call0_c_13 : Ref sig .tc := ⟨.hbm, 118, rfl⟩
abbrev main_call1_call0_call0_v55 : Ref sig .tc := ⟨.hbm, 119, rfl⟩
abbrev main_call1_call0_call0_v56 : Ref sig .tc := ⟨.hbm, 120, rfl⟩
abbrev main_call1_call0_call0_c_14 : Ref sig .tc := ⟨.hbm, 121, rfl⟩
abbrev main_call1_call0_call0_v57 : Ref sig .tc := ⟨.hbm, 122, rfl⟩
abbrev main_call1_call0_call0_v58 : Ref sig .tc := ⟨.hbm, 123, rfl⟩
abbrev main_call1_call0_call0_v59 : Ref sig .tc := ⟨.hbm, 124, rfl⟩
abbrev main_call1_call0_call0_v60 : Ref sig .tc := ⟨.hbm, 125, rfl⟩
abbrev main_call1_call0_call0_v61 : Ref sig .tc := ⟨.hbm, 126, rfl⟩
abbrev main_call1_call0_call0_c_15 : Ref sig .tc := ⟨.hbm, 127, rfl⟩
abbrev main_call1_call0_call0_v62 : Ref sig .tc := ⟨.hbm, 128, rfl⟩
abbrev main_call1_call0_call0_v63 : Ref sig .tc := ⟨.hbm, 129, rfl⟩
abbrev main_call1_call0_call0_c_16 : Ref sig .tc := ⟨.hbm, 130, rfl⟩
abbrev main_call1_call0_call0_v64 : Ref sig .tc := ⟨.hbm, 131, rfl⟩
abbrev main_call1_call0_call0_v65 : Ref sig .tc := ⟨.hbm, 132, rfl⟩
abbrev main_call1_call0_call0_v66 : Ref sig .tc := ⟨.hbm, 133, rfl⟩
abbrev main_call1_call0_call0_v67 : Ref sig .tc := ⟨.hbm, 134, rfl⟩
abbrev main_call1_call0_call0_v68 : Ref sig .tc := ⟨.hbm, 135, rfl⟩
abbrev main_call1_call0_call0_v69 : Ref sig .tc := ⟨.hbm, 136, rfl⟩
abbrev main_call1_call0_call0_v70 : Ref sig .tc := ⟨.hbm, 137, rfl⟩
abbrev main_call1_call0_call0_v71 : Ref sig .tc := ⟨.hbm, 138, rfl⟩
abbrev main_call1_call0_call0_c_17 : Ref sig .tc := ⟨.hbm, 139, rfl⟩
abbrev main_call1_call0_call0_v72 : Ref sig .tc := ⟨.hbm, 140, rfl⟩
abbrev main_call1_call0_call0_v73 : Ref sig .tc := ⟨.hbm, 141, rfl⟩
abbrev main_call1_call0_call0_v74 : Ref sig .tc := ⟨.hbm, 142, rfl⟩
abbrev main_call1_call0_call0_c_18 : Ref sig .tc := ⟨.hbm, 143, rfl⟩
abbrev main_call1_call0_call0_v75 : Ref sig .tc := ⟨.hbm, 144, rfl⟩
abbrev main_call1_call0_call0_v76 : Ref sig .tc := ⟨.hbm, 145, rfl⟩
abbrev main_call1_call0_call0_c_19 : Ref sig .tc := ⟨.hbm, 146, rfl⟩
abbrev main_call1_call0_call0_v77 : Ref sig .tc := ⟨.hbm, 147, rfl⟩
abbrev main_call1_call0_call0_v78 : Ref sig .tc := ⟨.hbm, 148, rfl⟩
abbrev main_call1_call0_call0_v79 : Ref sig .tc := ⟨.hbm, 149, rfl⟩
abbrev main_call1_call0_call0_v80 : Ref sig .tc := ⟨.hbm, 150, rfl⟩
abbrev main_call1_call0_call0_v81 : Ref sig .tc := ⟨.hbm, 151, rfl⟩
abbrev main_call1_call0_call0_c_20 : Ref sig .tc := ⟨.hbm, 152, rfl⟩
abbrev main_call1_call0_call0_v82 : Ref sig .tc := ⟨.hbm, 153, rfl⟩
abbrev main_call1_call0_call0_v83 : Ref sig .tc := ⟨.hbm, 154, rfl⟩
abbrev main_call1_call0_call0_c_21 : Ref sig .tc := ⟨.hbm, 155, rfl⟩
abbrev main_call1_call0_call0_v84 : Ref sig .tc := ⟨.hbm, 156, rfl⟩
abbrev main_call1_call0_call0_v85 : Ref sig .tc := ⟨.hbm, 157, rfl⟩
abbrev main_call1_call0_call0_v86 : Ref sig .tc := ⟨.hbm, 158, rfl⟩
abbrev main_call1_call0_call0_v87 : Ref sig .tc := ⟨.hbm, 159, rfl⟩
abbrev main_call1_call0_call0_v88 : Ref sig .tc := ⟨.hbm, 160, rfl⟩
abbrev main_call1_call0_call0_c_22 : Ref sig .tc := ⟨.hbm, 161, rfl⟩
abbrev main_call1_call0_call0_v89 : Ref sig .tc := ⟨.hbm, 162, rfl⟩
abbrev main_call1_call0_call0_v90 : Ref sig .tc := ⟨.hbm, 163, rfl⟩
abbrev main_call1_call0_call0_c_23 : Ref sig .tc := ⟨.hbm, 164, rfl⟩
abbrev main_call1_call0_call0_v91 : Ref sig .tc := ⟨.hbm, 165, rfl⟩
abbrev main_call1_call0_call0_v92 : Ref sig .tc := ⟨.hbm, 166, rfl⟩
abbrev main_call1_call0_call0_v93 : Ref sig .tc := ⟨.hbm, 167, rfl⟩
abbrev main_call1_call0_call0_v94 : Ref sig .tc := ⟨.hbm, 168, rfl⟩
abbrev main_call1_call0_call0_v95 : Ref sig .tc := ⟨.hbm, 169, rfl⟩
abbrev main_call1_call0_call0_c_24 : Ref sig .tc := ⟨.hbm, 170, rfl⟩
abbrev main_call1_call0_call0_v96 : Ref sig .tc := ⟨.hbm, 171, rfl⟩
abbrev main_call1_call0_call0_v97 : Ref sig .tc := ⟨.hbm, 172, rfl⟩
abbrev main_call1_call0_call0_c_25 : Ref sig .tc := ⟨.hbm, 173, rfl⟩
abbrev main_call1_call0_call0_v98 : Ref sig .tc := ⟨.hbm, 174, rfl⟩
abbrev main_call1_call0_call0_v99 : Ref sig .tc := ⟨.hbm, 175, rfl⟩
abbrev main_call1_call0_call0_v100 : Ref sig .tc := ⟨.hbm, 176, rfl⟩
abbrev main_call1_call0_call0_v101 : Ref sig .tc := ⟨.hbm, 177, rfl⟩
abbrev main_call1_call0_call0_v102 : Ref sig .tc := ⟨.hbm, 178, rfl⟩
abbrev main_call1_call0_call0_v103 : Ref sig .tc := ⟨.hbm, 179, rfl⟩
abbrev main_call1_call0_call0_v104 : Ref sig .tc := ⟨.hbm, 180, rfl⟩
abbrev main_call1_call0_call0_v105 : Ref sig .tc := ⟨.hbm, 181, rfl⟩
abbrev main_call1_call0_call0_c_26 : Ref sig .tc := ⟨.hbm, 182, rfl⟩
abbrev main_call1_call0_call0_v106 : Ref sig .tc := ⟨.hbm, 183, rfl⟩
abbrev main_call1_call0_call0_v107 : Ref sig .tc := ⟨.hbm, 184, rfl⟩
abbrev main_call1_call0_call0_v108 : Ref sig .tc := ⟨.hbm, 185, rfl⟩
abbrev main_call1_call0_call0_c_27 : Ref sig .tc := ⟨.hbm, 186, rfl⟩
abbrev main_call1_call0_call0_v109 : Ref sig .tc := ⟨.hbm, 187, rfl⟩
abbrev main_call1_call0_call0_v110 : Ref sig .tc := ⟨.hbm, 188, rfl⟩
abbrev main_call1_call0_call0_c_28 : Ref sig .tc := ⟨.hbm, 189, rfl⟩
abbrev main_call1_call0_call0_v111 : Ref sig .tc := ⟨.hbm, 190, rfl⟩
abbrev main_call1_call0_call0_v112 : Ref sig .tc := ⟨.hbm, 191, rfl⟩
abbrev main_call1_call0_call0_v113 : Ref sig .tc := ⟨.hbm, 192, rfl⟩
abbrev main_call1_call0_call0_v114 : Ref sig .tc := ⟨.hbm, 193, rfl⟩
abbrev main_call1_call0_call0_v115 : Ref sig .tc := ⟨.hbm, 194, rfl⟩
abbrev main_call1_call0_call0_c_29 : Ref sig .tc := ⟨.hbm, 195, rfl⟩
abbrev main_call1_call0_call0_v116 : Ref sig .tc := ⟨.hbm, 196, rfl⟩
abbrev main_call1_call0_call0_v117 : Ref sig .tc := ⟨.hbm, 197, rfl⟩
abbrev main_call1_call0_call0_c_30 : Ref sig .tc := ⟨.hbm, 198, rfl⟩
abbrev main_call1_call0_call0_v118 : Ref sig .tc := ⟨.hbm, 199, rfl⟩
abbrev main_call1_call0_call0_v119 : Ref sig .tc := ⟨.hbm, 200, rfl⟩
abbrev main_call1_call0_call0_v120 : Ref sig .tc := ⟨.hbm, 201, rfl⟩
abbrev main_call1_call0_call0_v121 : Ref sig .tc := ⟨.hbm, 202, rfl⟩
abbrev main_call1_call0_call0_v122 : Ref sig .tc := ⟨.hbm, 203, rfl⟩
abbrev main_call1_call0_call0_c_31 : Ref sig .tc := ⟨.hbm, 204, rfl⟩
abbrev main_call1_call0_call0_v123 : Ref sig .tc := ⟨.hbm, 205, rfl⟩
abbrev main_call1_call0_call0_v124 : Ref sig .tc := ⟨.hbm, 206, rfl⟩
abbrev main_call1_call0_call0_c_32 : Ref sig .tc := ⟨.hbm, 207, rfl⟩
abbrev main_call1_call0_call0_v125 : Ref sig .tc := ⟨.hbm, 208, rfl⟩
abbrev main_call1_call0_call0_v126 : Ref sig .tc := ⟨.hbm, 209, rfl⟩
abbrev main_call1_call0_call0_v127 : Ref sig .tc := ⟨.hbm, 210, rfl⟩
abbrev main_call1_call0_call0_v128 : Ref sig .tc := ⟨.hbm, 211, rfl⟩
abbrev main_call1_call0_call0_v129 : Ref sig .tc := ⟨.hbm, 212, rfl⟩
abbrev main_call1_call0_call0_c_33 : Ref sig .tc := ⟨.hbm, 213, rfl⟩
abbrev main_call1_call0_call0_v130 : Ref sig .tc := ⟨.hbm, 214, rfl⟩
abbrev main_call1_call0_call0_v131 : Ref sig .tc := ⟨.hbm, 215, rfl⟩
abbrev main_call1_call0_call0_c_34 : Ref sig .tc := ⟨.hbm, 216, rfl⟩
abbrev main_call1_call0_call0_v132 : Ref sig .tc := ⟨.hbm, 217, rfl⟩
abbrev main_call1_call0_call0_v133 : Ref sig .tc := ⟨.hbm, 218, rfl⟩
abbrev main_call1_call0_call0_v134 : Ref sig .tc := ⟨.hbm, 219, rfl⟩
abbrev main_call1_call0_call0_v135 : Ref sig .tc := ⟨.hbm, 220, rfl⟩
abbrev main_call1_call0_call0_v136 : Ref sig .tc := ⟨.hbm, 221, rfl⟩
abbrev main_call1_call0_call0_v137 : Ref sig .tc := ⟨.hbm, 222, rfl⟩
abbrev main_call1_call0_call0_v138 : Ref sig .tc := ⟨.hbm, 223, rfl⟩
abbrev main_call1_call0_call0_v139 : Ref sig .tc := ⟨.hbm, 224, rfl⟩
abbrev main_call1_call0_call0_c_35 : Ref sig .tc := ⟨.hbm, 225, rfl⟩
abbrev main_call1_call0_call0_v140 : Ref sig .tc := ⟨.hbm, 226, rfl⟩
abbrev main_call1_call0_call0_v141 : Ref sig .tc := ⟨.hbm, 227, rfl⟩
abbrev main_call1_call0_call0_v142 : Ref sig .tc := ⟨.hbm, 228, rfl⟩
abbrev main_call1_call0_call0_c_36 : Ref sig .tc := ⟨.hbm, 229, rfl⟩
abbrev main_call1_call0_call0_v143 : Ref sig .tc := ⟨.hbm, 230, rfl⟩
abbrev main_call1_call0_call0_v144 : Ref sig .tc := ⟨.hbm, 231, rfl⟩
abbrev main_call1_call0_call0_c_37 : Ref sig .tc := ⟨.hbm, 232, rfl⟩
abbrev main_call1_call0_call0_v145 : Ref sig .tc := ⟨.hbm, 233, rfl⟩
abbrev main_call1_call0_call0_v146 : Ref sig .tc := ⟨.hbm, 234, rfl⟩
abbrev main_call1_call0_call0_v147 : Ref sig .tc := ⟨.hbm, 235, rfl⟩
abbrev main_call1_call0_call0_v148 : Ref sig .tc := ⟨.hbm, 236, rfl⟩
abbrev main_call1_call0_call0_v149 : Ref sig .tc := ⟨.hbm, 237, rfl⟩
abbrev main_call1_call0_call0_c_38 : Ref sig .tc := ⟨.hbm, 238, rfl⟩
abbrev main_call1_call0_call0_v150 : Ref sig .tc := ⟨.hbm, 239, rfl⟩
abbrev main_call1_call0_call0_v151 : Ref sig .tc := ⟨.hbm, 240, rfl⟩
abbrev main_call1_call0_call0_c_39 : Ref sig .tc := ⟨.hbm, 241, rfl⟩
abbrev main_call1_call0_call0_v152 : Ref sig .tc := ⟨.hbm, 242, rfl⟩
abbrev main_call1_call0_call0_v153 : Ref sig .tc := ⟨.hbm, 243, rfl⟩
abbrev main_call1_call0_call0_v154 : Ref sig .tc := ⟨.hbm, 244, rfl⟩
abbrev main_call1_call0_call0_v155 : Ref sig .tc := ⟨.hbm, 245, rfl⟩
abbrev main_call1_call0_call0_v156 : Ref sig .tc := ⟨.hbm, 246, rfl⟩
abbrev main_call1_call0_call0_c_40 : Ref sig .tc := ⟨.hbm, 247, rfl⟩
abbrev main_call1_call0_call0_v157 : Ref sig .tc := ⟨.hbm, 248, rfl⟩
abbrev main_call1_call0_call0_v158 : Ref sig .tc := ⟨.hbm, 249, rfl⟩
abbrev main_call1_call0_call0_c_41 : Ref sig .tc := ⟨.hbm, 250, rfl⟩
abbrev main_call1_call0_call0_v159 : Ref sig .tc := ⟨.hbm, 251, rfl⟩
abbrev main_call1_call0_call0_v160 : Ref sig .tc := ⟨.hbm, 252, rfl⟩
abbrev main_call1_call0_call0_v161 : Ref sig .tc := ⟨.hbm, 253, rfl⟩
abbrev main_call1_call0_call0_v162 : Ref sig .tc := ⟨.hbm, 254, rfl⟩
abbrev main_call1_call0_call0_v163 : Ref sig .tc := ⟨.hbm, 255, rfl⟩
abbrev main_call1_call0_call0_c_42 : Ref sig .tc := ⟨.hbm, 256, rfl⟩
abbrev main_call1_call0_call0_v164 : Ref sig .tc := ⟨.hbm, 257, rfl⟩
abbrev main_call1_call0_call0_v165 : Ref sig .tc := ⟨.hbm, 258, rfl⟩
abbrev main_call1_call0_call0_c_43 : Ref sig .tc := ⟨.hbm, 259, rfl⟩
abbrev main_call1_call0_call0_v166 : Ref sig .tc := ⟨.hbm, 260, rfl⟩
abbrev main_call1_call0_call0_v167 : Ref sig .tc := ⟨.hbm, 261, rfl⟩
abbrev main_call1_call0_call0_v168 : Ref sig .tc := ⟨.hbm, 262, rfl⟩
abbrev main_call1_call0_call0_v169 : Ref sig .tc := ⟨.hbm, 263, rfl⟩
abbrev main_call1_call0_call0_v170 : Ref sig .tc := ⟨.hbm, 264, rfl⟩
abbrev main_call1_call0_v11_0 : Ref sig .tc := ⟨.hbm, 265, rfl⟩
abbrev main_call1_call0_call0_v172 : Ref sig .tc := ⟨.hbm, 266, rfl⟩
abbrev main_call1_call0_call0_v173 : Ref sig .tc := ⟨.hbm, 267, rfl⟩
abbrev main_call1_call0_call0_c_44 : Ref sig .tc := ⟨.hbm, 268, rfl⟩
abbrev main_call1_call0_call0_v174 : Ref sig .tc := ⟨.hbm, 269, rfl⟩
abbrev main_call1_call0_v11_1 : Ref sig .tc := ⟨.hbm, 270, rfl⟩
abbrev main_call1_call0_v12 : Ref sig .tc := ⟨.hbm, 271, rfl⟩
abbrev main_call1_call0_v13 : Ref sig .tc := ⟨.hbm, 272, rfl⟩
abbrev main_call1_v0 : Ref sig .tc := ⟨.hbm, 273, rfl⟩
abbrev main_call1_v1 : Ref sig .tc := ⟨.hbm, 274, rfl⟩
abbrev main_call1_v2 : Ref sig .tc := ⟨.hbm, 275, rfl⟩
abbrev main_call1_v3 : Ref sig .tc := ⟨.hbm, 276, rfl⟩
abbrev main_call1_v4 : Ref sig .tc := ⟨.hbm, 277, rfl⟩
abbrev main_call1_v5 : Ref sig .tc := ⟨.hbm, 278, rfl⟩
abbrev main_call1_v6 : Ref sig .tc := ⟨.hbm, 279, rfl⟩
abbrev main_call1_v7 : Ref sig .tc := ⟨.hbm, 280, rfl⟩
abbrev main_call1_v8 : Ref sig .tc := ⟨.hbm, 281, rfl⟩
abbrev main_call1_v9 : Ref sig .tc := ⟨.hbm, 282, rfl⟩
abbrev main_call1_c : Ref sig .tc := ⟨.hbm, 283, rfl⟩
abbrev main_call1_v10 : Ref sig .tc := ⟨.hbm, 284, rfl⟩
abbrev main_call1_v11 : Ref sig .tc := ⟨.hbm, 285, rfl⟩
abbrev main_call1_c_0 : Ref sig .tc := ⟨.hbm, 286, rfl⟩
abbrev main_call1_v12 : Ref sig .tc := ⟨.hbm, 287, rfl⟩
abbrev main_call1_v13 : Ref sig .tc := ⟨.hbm, 288, rfl⟩
abbrev main_call1_v14 : Ref sig .tc := ⟨.hbm, 289, rfl⟩
abbrev main_call1_v15 : Ref sig .tc := ⟨.hbm, 290, rfl⟩
abbrev main_call1_call1_v0 : Ref sig .tc := ⟨.hbm, 291, rfl⟩
abbrev main_call1_call1_c : Ref sig .tc := ⟨.hbm, 292, rfl⟩
abbrev main_call1_call1_v1 : Ref sig .tc := ⟨.hbm, 293, rfl⟩
abbrev main_call1_call1_v2 : Ref sig .tc := ⟨.hbm, 294, rfl⟩
abbrev main_call1_call1_v3 : Ref sig .tc := ⟨.hbm, 295, rfl⟩
abbrev main_call1_call1_v4 : Ref sig .tc := ⟨.hbm, 296, rfl⟩
abbrev main_call1_call1_v5 : Ref sig .tc := ⟨.hbm, 297, rfl⟩
abbrev main_call1_call1_v6 : Ref sig .tc := ⟨.hbm, 298, rfl⟩
abbrev main_call1_call1_c_0 : Ref sig .tc := ⟨.hbm, 299, rfl⟩
abbrev main_call1_call1_v7 : Ref sig .tc := ⟨.hbm, 300, rfl⟩
abbrev main_call1_call1_v8 : Ref sig .tc := ⟨.hbm, 301, rfl⟩
abbrev main_call1_call1_c_1 : Ref sig .tc := ⟨.hbm, 302, rfl⟩
abbrev main_call1_call1_v9 : Ref sig .tc := ⟨.hbm, 303, rfl⟩
abbrev main_call1_call1_v10 : Ref sig .tc := ⟨.hbm, 304, rfl⟩
abbrev main_call1_call1_v11 : Ref sig .tc := ⟨.hbm, 305, rfl⟩
abbrev main_call1_call1_v12 : Ref sig .tc := ⟨.hbm, 306, rfl⟩
abbrev main_call1_call1_v13 : Ref sig .tc := ⟨.hbm, 307, rfl⟩
abbrev main_call1_call1_c_2 : Ref sig .tc := ⟨.hbm, 308, rfl⟩
abbrev main_call1_call1_v14 : Ref sig .tc := ⟨.hbm, 309, rfl⟩
abbrev main_call1_call1_v15 : Ref sig .tc := ⟨.hbm, 310, rfl⟩
abbrev main_call1_call1_c_3 : Ref sig .tc := ⟨.hbm, 311, rfl⟩
abbrev main_call1_call1_v16 : Ref sig .tc := ⟨.hbm, 312, rfl⟩
abbrev main_call1_call1_v17 : Ref sig .tc := ⟨.hbm, 313, rfl⟩
abbrev main_call1_call1_v18 : Ref sig .tc := ⟨.hbm, 314, rfl⟩
abbrev main_call1_call1_v19 : Ref sig .tc := ⟨.hbm, 315, rfl⟩
abbrev main_call1_call1_v20 : Ref sig .tc := ⟨.hbm, 316, rfl⟩
abbrev main_call1_call1_c_4 : Ref sig .tc := ⟨.hbm, 317, rfl⟩
abbrev main_call1_call1_v21 : Ref sig .tc := ⟨.hbm, 318, rfl⟩
abbrev main_call1_call1_v22 : Ref sig .tc := ⟨.hbm, 319, rfl⟩
abbrev main_call1_call1_c_5 : Ref sig .tc := ⟨.hbm, 320, rfl⟩
abbrev main_call1_call1_v23 : Ref sig .tc := ⟨.hbm, 321, rfl⟩
abbrev main_call1_call1_v24 : Ref sig .tc := ⟨.hbm, 322, rfl⟩
abbrev main_call1_call1_v25 : Ref sig .tc := ⟨.hbm, 323, rfl⟩
abbrev main_call1_call1_v26 : Ref sig .tc := ⟨.hbm, 324, rfl⟩
abbrev main_call1_call1_v27 : Ref sig .tc := ⟨.hbm, 325, rfl⟩
abbrev main_call1_call1_c_6 : Ref sig .tc := ⟨.hbm, 326, rfl⟩
abbrev main_call1_call1_v28 : Ref sig .tc := ⟨.hbm, 327, rfl⟩
abbrev main_call1_call1_v29 : Ref sig .tc := ⟨.hbm, 328, rfl⟩
abbrev main_call1_call1_c_7 : Ref sig .tc := ⟨.hbm, 329, rfl⟩
abbrev main_call1_call1_v30 : Ref sig .tc := ⟨.hbm, 330, rfl⟩
abbrev main_call1_call1_v31 : Ref sig .tc := ⟨.hbm, 331, rfl⟩
abbrev main_call1_call1_v32 : Ref sig .tc := ⟨.hbm, 332, rfl⟩
abbrev main_call1_call1_v33 : Ref sig .tc := ⟨.hbm, 333, rfl⟩
abbrev main_call1_call1_v34 : Ref sig .tc := ⟨.hbm, 334, rfl⟩
abbrev main_call1_call1_v35 : Ref sig .tc := ⟨.hbm, 335, rfl⟩
abbrev main_call1_call1_v36 : Ref sig .tc := ⟨.hbm, 336, rfl⟩
abbrev main_call1_call1_v37 : Ref sig .tc := ⟨.hbm, 337, rfl⟩
abbrev main_call1_call1_c_8 : Ref sig .tc := ⟨.hbm, 338, rfl⟩
abbrev main_call1_call1_v38 : Ref sig .tc := ⟨.hbm, 339, rfl⟩
abbrev main_call1_call1_v39 : Ref sig .tc := ⟨.hbm, 340, rfl⟩
abbrev main_call1_call1_v40 : Ref sig .tc := ⟨.hbm, 341, rfl⟩
abbrev main_call1_call1_c_9 : Ref sig .tc := ⟨.hbm, 342, rfl⟩
abbrev main_call1_call1_v41 : Ref sig .tc := ⟨.hbm, 343, rfl⟩
abbrev main_call1_call1_v42 : Ref sig .tc := ⟨.hbm, 344, rfl⟩
abbrev main_call1_call1_c_10 : Ref sig .tc := ⟨.hbm, 345, rfl⟩
abbrev main_call1_call1_v43 : Ref sig .tc := ⟨.hbm, 346, rfl⟩
abbrev main_call1_call1_v44 : Ref sig .tc := ⟨.hbm, 347, rfl⟩
abbrev main_call1_call1_v45 : Ref sig .tc := ⟨.hbm, 348, rfl⟩
abbrev main_call1_call1_v46 : Ref sig .tc := ⟨.hbm, 349, rfl⟩
abbrev main_call1_call1_v47 : Ref sig .tc := ⟨.hbm, 350, rfl⟩
abbrev main_call1_call1_c_11 : Ref sig .tc := ⟨.hbm, 351, rfl⟩
abbrev main_call1_call1_v48 : Ref sig .tc := ⟨.hbm, 352, rfl⟩
abbrev main_call1_call1_v49 : Ref sig .tc := ⟨.hbm, 353, rfl⟩
abbrev main_call1_call1_c_12 : Ref sig .tc := ⟨.hbm, 354, rfl⟩
abbrev main_call1_call1_v50 : Ref sig .tc := ⟨.hbm, 355, rfl⟩
abbrev main_call1_call1_v51 : Ref sig .tc := ⟨.hbm, 356, rfl⟩
abbrev main_call1_call1_v52 : Ref sig .tc := ⟨.hbm, 357, rfl⟩
abbrev main_call1_call1_v53 : Ref sig .tc := ⟨.hbm, 358, rfl⟩
abbrev main_call1_call1_v54 : Ref sig .tc := ⟨.hbm, 359, rfl⟩
abbrev main_call1_call1_c_13 : Ref sig .tc := ⟨.hbm, 360, rfl⟩
abbrev main_call1_call1_v55 : Ref sig .tc := ⟨.hbm, 361, rfl⟩
abbrev main_call1_call1_v56 : Ref sig .tc := ⟨.hbm, 362, rfl⟩
abbrev main_call1_call1_c_14 : Ref sig .tc := ⟨.hbm, 363, rfl⟩
abbrev main_call1_call1_v57 : Ref sig .tc := ⟨.hbm, 364, rfl⟩
abbrev main_call1_call1_v58 : Ref sig .tc := ⟨.hbm, 365, rfl⟩
abbrev main_call1_call1_v59 : Ref sig .tc := ⟨.hbm, 366, rfl⟩
abbrev main_call1_call1_v60 : Ref sig .tc := ⟨.hbm, 367, rfl⟩
abbrev main_call1_call1_v61 : Ref sig .tc := ⟨.hbm, 368, rfl⟩
abbrev main_call1_call1_c_15 : Ref sig .tc := ⟨.hbm, 369, rfl⟩
abbrev main_call1_call1_v62 : Ref sig .tc := ⟨.hbm, 370, rfl⟩
abbrev main_call1_call1_v63 : Ref sig .tc := ⟨.hbm, 371, rfl⟩
abbrev main_call1_call1_c_16 : Ref sig .tc := ⟨.hbm, 372, rfl⟩
abbrev main_call1_call1_v64 : Ref sig .tc := ⟨.hbm, 373, rfl⟩
abbrev main_call1_call1_v65 : Ref sig .tc := ⟨.hbm, 374, rfl⟩
abbrev main_call1_call1_v66 : Ref sig .tc := ⟨.hbm, 375, rfl⟩
abbrev main_call1_call1_v67 : Ref sig .tc := ⟨.hbm, 376, rfl⟩
abbrev main_call1_call1_v68 : Ref sig .tc := ⟨.hbm, 377, rfl⟩
abbrev main_call1_call1_v69 : Ref sig .tc := ⟨.hbm, 378, rfl⟩
abbrev main_call1_call1_v70 : Ref sig .tc := ⟨.hbm, 379, rfl⟩
abbrev main_call1_call1_v71 : Ref sig .tc := ⟨.hbm, 380, rfl⟩
abbrev main_call1_call1_c_17 : Ref sig .tc := ⟨.hbm, 381, rfl⟩
abbrev main_call1_call1_v72 : Ref sig .tc := ⟨.hbm, 382, rfl⟩
abbrev main_call1_call1_v73 : Ref sig .tc := ⟨.hbm, 383, rfl⟩
abbrev main_call1_call1_v74 : Ref sig .tc := ⟨.hbm, 384, rfl⟩
abbrev main_call1_call1_c_18 : Ref sig .tc := ⟨.hbm, 385, rfl⟩
abbrev main_call1_call1_v75 : Ref sig .tc := ⟨.hbm, 386, rfl⟩
abbrev main_call1_call1_v76 : Ref sig .tc := ⟨.hbm, 387, rfl⟩
abbrev main_call1_call1_c_19 : Ref sig .tc := ⟨.hbm, 388, rfl⟩
abbrev main_call1_call1_v77 : Ref sig .tc := ⟨.hbm, 389, rfl⟩
abbrev main_call1_call1_v78 : Ref sig .tc := ⟨.hbm, 390, rfl⟩
abbrev main_call1_call1_v79 : Ref sig .tc := ⟨.hbm, 391, rfl⟩
abbrev main_call1_call1_v80 : Ref sig .tc := ⟨.hbm, 392, rfl⟩
abbrev main_call1_call1_v81 : Ref sig .tc := ⟨.hbm, 393, rfl⟩
abbrev main_call1_call1_c_20 : Ref sig .tc := ⟨.hbm, 394, rfl⟩
abbrev main_call1_call1_v82 : Ref sig .tc := ⟨.hbm, 395, rfl⟩
abbrev main_call1_call1_v83 : Ref sig .tc := ⟨.hbm, 396, rfl⟩
abbrev main_call1_call1_c_21 : Ref sig .tc := ⟨.hbm, 397, rfl⟩
abbrev main_call1_call1_v84 : Ref sig .tc := ⟨.hbm, 398, rfl⟩
abbrev main_call1_call1_v85 : Ref sig .tc := ⟨.hbm, 399, rfl⟩
abbrev main_call1_call1_v86 : Ref sig .tc := ⟨.hbm, 400, rfl⟩
abbrev main_call1_call1_v87 : Ref sig .tc := ⟨.hbm, 401, rfl⟩
abbrev main_call1_call1_v88 : Ref sig .tc := ⟨.hbm, 402, rfl⟩
abbrev main_call1_call1_c_22 : Ref sig .tc := ⟨.hbm, 403, rfl⟩
abbrev main_call1_call1_v89 : Ref sig .tc := ⟨.hbm, 404, rfl⟩
abbrev main_call1_call1_v90 : Ref sig .tc := ⟨.hbm, 405, rfl⟩
abbrev main_call1_call1_c_23 : Ref sig .tc := ⟨.hbm, 406, rfl⟩
abbrev main_call1_call1_v91 : Ref sig .tc := ⟨.hbm, 407, rfl⟩
abbrev main_call1_call1_v92 : Ref sig .tc := ⟨.hbm, 408, rfl⟩
abbrev main_call1_call1_v93 : Ref sig .tc := ⟨.hbm, 409, rfl⟩
abbrev main_call1_call1_v94 : Ref sig .tc := ⟨.hbm, 410, rfl⟩
abbrev main_call1_call1_v95 : Ref sig .tc := ⟨.hbm, 411, rfl⟩
abbrev main_call1_call1_c_24 : Ref sig .tc := ⟨.hbm, 412, rfl⟩
abbrev main_call1_call1_v96 : Ref sig .tc := ⟨.hbm, 413, rfl⟩
abbrev main_call1_call1_v97 : Ref sig .tc := ⟨.hbm, 414, rfl⟩
abbrev main_call1_call1_c_25 : Ref sig .tc := ⟨.hbm, 415, rfl⟩
abbrev main_call1_call1_v98 : Ref sig .tc := ⟨.hbm, 416, rfl⟩
abbrev main_call1_call1_v99 : Ref sig .tc := ⟨.hbm, 417, rfl⟩
abbrev main_call1_call1_v100 : Ref sig .tc := ⟨.hbm, 418, rfl⟩
abbrev main_call1_call1_v101 : Ref sig .tc := ⟨.hbm, 419, rfl⟩
abbrev main_call1_call1_v102 : Ref sig .tc := ⟨.hbm, 420, rfl⟩
abbrev main_call1_call1_v103 : Ref sig .tc := ⟨.hbm, 421, rfl⟩
abbrev main_call1_call1_v104 : Ref sig .tc := ⟨.hbm, 422, rfl⟩
abbrev main_call1_call1_v105 : Ref sig .tc := ⟨.hbm, 423, rfl⟩
abbrev main_call1_call1_c_26 : Ref sig .tc := ⟨.hbm, 424, rfl⟩
abbrev main_call1_call1_v106 : Ref sig .tc := ⟨.hbm, 425, rfl⟩
abbrev main_call1_call1_v107 : Ref sig .tc := ⟨.hbm, 426, rfl⟩
abbrev main_call1_call1_v108 : Ref sig .tc := ⟨.hbm, 427, rfl⟩
abbrev main_call1_call1_c_27 : Ref sig .tc := ⟨.hbm, 428, rfl⟩
abbrev main_call1_call1_v109 : Ref sig .tc := ⟨.hbm, 429, rfl⟩
abbrev main_call1_call1_v110 : Ref sig .tc := ⟨.hbm, 430, rfl⟩
abbrev main_call1_call1_c_28 : Ref sig .tc := ⟨.hbm, 431, rfl⟩
abbrev main_call1_call1_v111 : Ref sig .tc := ⟨.hbm, 432, rfl⟩
abbrev main_call1_call1_v112 : Ref sig .tc := ⟨.hbm, 433, rfl⟩
abbrev main_call1_call1_v113 : Ref sig .tc := ⟨.hbm, 434, rfl⟩
abbrev main_call1_call1_v114 : Ref sig .tc := ⟨.hbm, 435, rfl⟩
abbrev main_call1_call1_v115 : Ref sig .tc := ⟨.hbm, 436, rfl⟩
abbrev main_call1_call1_c_29 : Ref sig .tc := ⟨.hbm, 437, rfl⟩
abbrev main_call1_call1_v116 : Ref sig .tc := ⟨.hbm, 438, rfl⟩
abbrev main_call1_call1_v117 : Ref sig .tc := ⟨.hbm, 439, rfl⟩
abbrev main_call1_call1_c_30 : Ref sig .tc := ⟨.hbm, 440, rfl⟩
abbrev main_call1_call1_v118 : Ref sig .tc := ⟨.hbm, 441, rfl⟩
abbrev main_call1_call1_v119 : Ref sig .tc := ⟨.hbm, 442, rfl⟩
abbrev main_call1_call1_v120 : Ref sig .tc := ⟨.hbm, 443, rfl⟩
abbrev main_call1_call1_v121 : Ref sig .tc := ⟨.hbm, 444, rfl⟩
abbrev main_call1_call1_v122 : Ref sig .tc := ⟨.hbm, 445, rfl⟩
abbrev main_call1_call1_c_31 : Ref sig .tc := ⟨.hbm, 446, rfl⟩
abbrev main_call1_call1_v123 : Ref sig .tc := ⟨.hbm, 447, rfl⟩
abbrev main_call1_call1_v124 : Ref sig .tc := ⟨.hbm, 448, rfl⟩
abbrev main_call1_call1_c_32 : Ref sig .tc := ⟨.hbm, 449, rfl⟩
abbrev main_call1_call1_v125 : Ref sig .tc := ⟨.hbm, 450, rfl⟩
abbrev main_call1_call1_v126 : Ref sig .tc := ⟨.hbm, 451, rfl⟩
abbrev main_call1_call1_v127 : Ref sig .tc := ⟨.hbm, 452, rfl⟩
abbrev main_call1_call1_v128 : Ref sig .tc := ⟨.hbm, 453, rfl⟩
abbrev main_call1_call1_v129 : Ref sig .tc := ⟨.hbm, 454, rfl⟩
abbrev main_call1_call1_c_33 : Ref sig .tc := ⟨.hbm, 455, rfl⟩
abbrev main_call1_call1_v130 : Ref sig .tc := ⟨.hbm, 456, rfl⟩
abbrev main_call1_call1_v131 : Ref sig .tc := ⟨.hbm, 457, rfl⟩
abbrev main_call1_call1_c_34 : Ref sig .tc := ⟨.hbm, 458, rfl⟩
abbrev main_call1_call1_v132 : Ref sig .tc := ⟨.hbm, 459, rfl⟩
abbrev main_call1_call1_v133 : Ref sig .tc := ⟨.hbm, 460, rfl⟩
abbrev main_call1_call1_v134 : Ref sig .tc := ⟨.hbm, 461, rfl⟩
abbrev main_call1_call1_v135 : Ref sig .tc := ⟨.hbm, 462, rfl⟩
abbrev main_call1_call1_v136 : Ref sig .tc := ⟨.hbm, 463, rfl⟩
abbrev main_call1_call1_v137 : Ref sig .tc := ⟨.hbm, 464, rfl⟩
abbrev main_call1_call1_v138 : Ref sig .tc := ⟨.hbm, 465, rfl⟩
abbrev main_call1_call1_v139 : Ref sig .tc := ⟨.hbm, 466, rfl⟩
abbrev main_call1_call1_c_35 : Ref sig .tc := ⟨.hbm, 467, rfl⟩
abbrev main_call1_call1_v140 : Ref sig .tc := ⟨.hbm, 468, rfl⟩
abbrev main_call1_call1_v141 : Ref sig .tc := ⟨.hbm, 469, rfl⟩
abbrev main_call1_call1_v142 : Ref sig .tc := ⟨.hbm, 470, rfl⟩
abbrev main_call1_call1_c_36 : Ref sig .tc := ⟨.hbm, 471, rfl⟩
abbrev main_call1_call1_v143 : Ref sig .tc := ⟨.hbm, 472, rfl⟩
abbrev main_call1_call1_v144 : Ref sig .tc := ⟨.hbm, 473, rfl⟩
abbrev main_call1_call1_c_37 : Ref sig .tc := ⟨.hbm, 474, rfl⟩
abbrev main_call1_call1_v145 : Ref sig .tc := ⟨.hbm, 475, rfl⟩
abbrev main_call1_call1_v146 : Ref sig .tc := ⟨.hbm, 476, rfl⟩
abbrev main_call1_call1_v147 : Ref sig .tc := ⟨.hbm, 477, rfl⟩
abbrev main_call1_call1_v148 : Ref sig .tc := ⟨.hbm, 478, rfl⟩
abbrev main_call1_call1_v149 : Ref sig .tc := ⟨.hbm, 479, rfl⟩
abbrev main_call1_call1_c_38 : Ref sig .tc := ⟨.hbm, 480, rfl⟩
abbrev main_call1_call1_v150 : Ref sig .tc := ⟨.hbm, 481, rfl⟩
abbrev main_call1_call1_v151 : Ref sig .tc := ⟨.hbm, 482, rfl⟩
abbrev main_call1_call1_c_39 : Ref sig .tc := ⟨.hbm, 483, rfl⟩
abbrev main_call1_call1_v152 : Ref sig .tc := ⟨.hbm, 484, rfl⟩
abbrev main_call1_call1_v153 : Ref sig .tc := ⟨.hbm, 485, rfl⟩
abbrev main_call1_call1_v154 : Ref sig .tc := ⟨.hbm, 486, rfl⟩
abbrev main_call1_call1_v155 : Ref sig .tc := ⟨.hbm, 487, rfl⟩
abbrev main_call1_call1_v156 : Ref sig .tc := ⟨.hbm, 488, rfl⟩
abbrev main_call1_call1_c_40 : Ref sig .tc := ⟨.hbm, 489, rfl⟩
abbrev main_call1_call1_v157 : Ref sig .tc := ⟨.hbm, 490, rfl⟩
abbrev main_call1_call1_v158 : Ref sig .tc := ⟨.hbm, 491, rfl⟩
abbrev main_call1_call1_c_41 : Ref sig .tc := ⟨.hbm, 492, rfl⟩
abbrev main_call1_call1_v159 : Ref sig .tc := ⟨.hbm, 493, rfl⟩
abbrev main_call1_call1_v160 : Ref sig .tc := ⟨.hbm, 494, rfl⟩
abbrev main_call1_call1_v161 : Ref sig .tc := ⟨.hbm, 495, rfl⟩
abbrev main_call1_call1_v162 : Ref sig .tc := ⟨.hbm, 496, rfl⟩
abbrev main_call1_call1_v163 : Ref sig .tc := ⟨.hbm, 497, rfl⟩
abbrev main_call1_call1_c_42 : Ref sig .tc := ⟨.hbm, 498, rfl⟩
abbrev main_call1_call1_v164 : Ref sig .tc := ⟨.hbm, 499, rfl⟩
abbrev main_call1_call1_v165 : Ref sig .tc := ⟨.hbm, 500, rfl⟩
abbrev main_call1_call1_c_43 : Ref sig .tc := ⟨.hbm, 501, rfl⟩
abbrev main_call1_call1_v166 : Ref sig .tc := ⟨.hbm, 502, rfl⟩
abbrev main_call1_call1_v167 : Ref sig .tc := ⟨.hbm, 503, rfl⟩
abbrev main_call1_call1_v168 : Ref sig .tc := ⟨.hbm, 504, rfl⟩
abbrev main_call1_call1_v169 : Ref sig .tc := ⟨.hbm, 505, rfl⟩
abbrev main_call1_call1_v170 : Ref sig .tc := ⟨.hbm, 506, rfl⟩
abbrev main_call1_v16_0 : Ref sig .tc := ⟨.hbm, 507, rfl⟩
abbrev main_call1_call1_v172 : Ref sig .tc := ⟨.hbm, 508, rfl⟩
abbrev main_call1_call1_v173 : Ref sig .tc := ⟨.hbm, 509, rfl⟩
abbrev main_call1_call1_c_44 : Ref sig .tc := ⟨.hbm, 510, rfl⟩
abbrev main_call1_call1_v174 : Ref sig .tc := ⟨.hbm, 511, rfl⟩
abbrev main_call1_v16_1 : Ref sig .tc := ⟨.hbm, 512, rfl⟩
abbrev main_call1_v17 : Ref sig .tc := ⟨.hbm, 513, rfl⟩
abbrev main_call1_v18_0 : Ref sig .tc := ⟨.hbm, 514, rfl⟩
abbrev main_v24 : Ref sig .tc := ⟨.hbm, 515, rfl⟩
abbrev main_v25 : Ref sig .tc := ⟨.hbm, 516, rfl⟩
abbrev main_v26 : Ref sig .tc := ⟨.hbm, 517, rfl⟩
abbrev main_v27 : Ref sig .tc := ⟨.hbm, 518, rfl⟩
abbrev main_v28 : Ref sig .tc := ⟨.hbm, 519, rfl⟩
abbrev main_cst_4 : Ref sig .tc := ⟨.hbm, 520, rfl⟩
abbrev main_v29 : Ref sig .tc := ⟨.hbm, 521, rfl⟩
abbrev main_c_5 : Ref sig .tc := ⟨.hbm, 522, rfl⟩
abbrev main_call2_v0 : Ref sig .tc := ⟨.hbm, 523, rfl⟩
abbrev main_call2_c : Ref sig .tc := ⟨.hbm, 524, rfl⟩
abbrev main_call2_v1 : Ref sig .tc := ⟨.hbm, 525, rfl⟩
abbrev main_call2_c_0 : Ref sig .tc := ⟨.hbm, 526, rfl⟩
abbrev main_call2_v2 : Ref sig .tc := ⟨.hbm, 527, rfl⟩
abbrev main_call2_v3 : Ref sig .tc := ⟨.hbm, 528, rfl⟩
abbrev main_call2_v4 : Ref sig .tc := ⟨.hbm, 529, rfl⟩
abbrev main_call2_c_1 : Ref sig .tc := ⟨.hbm, 530, rfl⟩
abbrev main_call2_v5 : Ref sig .tc := ⟨.hbm, 531, rfl⟩
abbrev main_call2_v6 : Ref sig .tc := ⟨.hbm, 532, rfl⟩
abbrev main_call2_c_2 : Ref sig .tc := ⟨.hbm, 533, rfl⟩
abbrev main_call2_v7 : Ref sig .tc := ⟨.hbm, 534, rfl⟩
abbrev main_call2_v8 : Ref sig .tc := ⟨.hbm, 535, rfl⟩
abbrev main_call2_c_3 : Ref sig .tc := ⟨.hbm, 536, rfl⟩
abbrev main_call2_v9 : Ref sig .tc := ⟨.hbm, 537, rfl⟩
abbrev main_call2_v10 : Ref sig .tc := ⟨.hbm, 538, rfl⟩
abbrev main_call2_v11 : Ref sig .tc := ⟨.hbm, 539, rfl⟩
abbrev main_call2_v12 : Ref sig .tc := ⟨.hbm, 540, rfl⟩
abbrev main_call2_v13 : Ref sig .tc := ⟨.hbm, 541, rfl⟩
abbrev main_call2_v14 : Ref sig .tc := ⟨.hbm, 542, rfl⟩
abbrev main_v30 : Ref sig .tc := ⟨.hbm, 543, rfl⟩
abbrev main_c_6 : Ref sig .tc := ⟨.hbm, 544, rfl⟩
abbrev main_c_7 : Ref sig .tc := ⟨.hbm, 545, rfl⟩
abbrev main_call3_v0 : Ref sig .tc := ⟨.hbm, 546, rfl⟩
abbrev main_call3_v1 : Ref sig .tc := ⟨.hbm, 547, rfl⟩
abbrev main_call3_v2 : Ref sig .tc := ⟨.hbm, 548, rfl⟩
abbrev main_call3_v3 : Ref sig .tc := ⟨.hbm, 549, rfl⟩
abbrev main_call3_v4 : Ref sig .tc := ⟨.hbm, 550, rfl⟩
abbrev main_v31 : Ref sig .tc := ⟨.hbm, 551, rfl⟩
abbrev main_v32 : Ref sig .tc := ⟨.hbm, 552, rfl⟩
abbrev main_c_8 : Ref sig .tc := ⟨.hbm, 553, rfl⟩
abbrev main_v33 : Ref sig .tc := ⟨.hbm, 554, rfl⟩
abbrev main_v34 : Ref sig .tc := ⟨.hbm, 555, rfl⟩
abbrev main_c_9 : Ref sig .tc := ⟨.hbm, 556, rfl⟩
abbrev main_call4_v0 : Ref sig .tc := ⟨.hbm, 557, rfl⟩
abbrev main_call4_v1 : Ref sig .tc := ⟨.hbm, 558, rfl⟩
abbrev main_call4_v2 : Ref sig .tc := ⟨.hbm, 559, rfl⟩
abbrev main_call4_v3 : Ref sig .tc := ⟨.hbm, 560, rfl⟩
abbrev main_call4_v4 : Ref sig .tc := ⟨.hbm, 561, rfl⟩
abbrev main_call4_v5 : Ref sig .tc := ⟨.hbm, 562, rfl⟩
abbrev main_call4_v6 : Ref sig .tc := ⟨.hbm, 563, rfl⟩
abbrev main_call4_v7 : Ref sig .tc := ⟨.hbm, 564, rfl⟩
abbrev main_call4_v8 : Ref sig .tc := ⟨.hbm, 565, rfl⟩
abbrev main_call4_c : Ref sig .tc := ⟨.hbm, 566, rfl⟩
abbrev main_call4_v9 : Ref sig .tc := ⟨.hbm, 567, rfl⟩
abbrev main_call4_v10 : Ref sig .tc := ⟨.hbm, 568, rfl⟩
abbrev main_call4_v11 : Ref sig .tc := ⟨.hbm, 569, rfl⟩
abbrev main_call4_c_0 : Ref sig .tc := ⟨.hbm, 570, rfl⟩
abbrev main_call4_v12 : Ref sig .tc := ⟨.hbm, 571, rfl⟩
abbrev main_call4_v13 : Ref sig .tc := ⟨.hbm, 572, rfl⟩
abbrev main_v35 : Ref sig .tc := ⟨.hbm, 573, rfl⟩
abbrev main_c_10 : Ref sig .tc := ⟨.hbm, 574, rfl⟩
abbrev main_c_11 : Ref sig .tc := ⟨.hbm, 575, rfl⟩
abbrev main_call5_v0 : Ref sig .tc := ⟨.hbm, 576, rfl⟩
abbrev main_call5_v1 : Ref sig .tc := ⟨.hbm, 577, rfl⟩
abbrev main_call5_v2 : Ref sig .tc := ⟨.hbm, 578, rfl⟩
abbrev main_call5_v3 : Ref sig .tc := ⟨.hbm, 579, rfl⟩
abbrev main_call5_v4 : Ref sig .tc := ⟨.hbm, 580, rfl⟩
abbrev main_v36 : Ref sig .tc := ⟨.hbm, 581, rfl⟩
abbrev main_v37 : Ref sig .tc := ⟨.hbm, 582, rfl⟩
abbrev main_c_12 : Ref sig .tc := ⟨.hbm, 583, rfl⟩
abbrev main_v38 : Ref sig .tc := ⟨.hbm, 584, rfl⟩
abbrev main_v39 : Ref sig .tc := ⟨.hbm, 585, rfl⟩
abbrev main_v40_0 : Ref sig .tc := ⟨.hbm, 586, rfl⟩
abbrev main_v40_1 : Ref sig .tc := ⟨.hbm, 587, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem8_1 : DmaSem sig := 11

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S4x384x226 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S9x384x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S384x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S8x384 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S8x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S76x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S196x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1x4x96 .i32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x4x96 .i32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== ReferenceIdeal.lean ====
abbrev S8x64x384x14x14 : Shape := ⟨5, ![8, 64, 384, 14, 14]⟩
abbrev S384x1x3x3 : Shape := ⟨4, ![384, 1, 3, 3]⟩
abbrev S384 : Shape := ⟨1, ![384]⟩
abbrev S1x384x1x1 : Shape := ⟨4, ![1, 384, 1, 1]⟩
abbrev S1 : Shape := ⟨1, ![1]⟩
abbrev S512x384x14x14 : Shape := ⟨4, ![512, 384, 14, 14]⟩
abbrev S_ : Shape := ⟨0, ![]⟩
abbrev S512x384x16x16 : Shape := ⟨4, ![512, 384, 16, 16]⟩
abbrev S384x1x1x1 : Shape := ⟨4, ![384, 1, 1, 1]⟩
abbrev S1x384 : Shape := ⟨2, ![1, 384]⟩
abbrev S512x14x14x1 : Shape := ⟨4, ![512, 14, 14, 1]⟩
abbrev S512x1x14x14 : Shape := ⟨4, ![512, 1, 14, 14]⟩
abbrev S1x1x1x1 : Shape := ⟨4, ![1, 1, 1, 1]⟩
abbrev S512x196 : Shape := ⟨2, ![512, 196]⟩
abbrev S512x20 : Shape := ⟨2, ![512, 20]⟩
abbrev S512 : Shape := ⟨1, ![512]⟩
abbrev S512x1 : Shape := ⟨2, ![512, 1]⟩
abbrev S512x20x1 : Shape := ⟨3, ![512, 20, 1]⟩
abbrev S512x20x2 : Shape := ⟨3, ![512, 20, 2]⟩
abbrev S512x176 : Shape := ⟨2, ![512, 176]⟩
abbrev S2 : Shape := ⟨1, ![2]⟩
abbrev S176 : Shape := ⟨1, ![176]⟩
abbrev S2x1 : Shape := ⟨2, ![2, 1]⟩
abbrev S2x2 : Shape := ⟨2, ![2, 2]⟩
abbrev S1x2 : Shape := ⟨2, ![1, 2]⟩
abbrev S76 : Shape := ⟨1, ![76]⟩
abbrev S76x1 : Shape := ⟨2, ![76, 1]⟩
abbrev S512x76 : Shape := ⟨2, ![512, 76]⟩
abbrev S64x20 : Shape := ⟨2, ![64, 20]⟩
abbrev S64x76 : Shape := ⟨2, ![64, 76]⟩
abbrev S64x96 : Shape := ⟨2, ![64, 96]⟩
abbrev S16x4x96 : Shape := ⟨3, ![16, 4, 96]⟩

abbrev nBuf : Space → Nat
  | .hbm => 742
  | .vmem => 0
  | .smem => 0
  | _ => 0

abbrev hbmTy0_0 (i : Nat) : BufTy := match i % 128 with
  | 0 => ⟨S8x64x384x14x14, .f32⟩
  | 1 => ⟨S384x1x3x3, .f32⟩
  | 2 => ⟨S384, .f32⟩
  | 3 => ⟨S1x384x1x1, .f32⟩
  | 4 => ⟨S1, .f32⟩
  | 5 => ⟨S512x384x14x14, .f32⟩
  | 6 => ⟨S_, .i32⟩
  | 7 => ⟨S_, .f32⟩
  | 8 => ⟨S512x384x16x16, .f32⟩
  | 9 => ⟨S512x384x14x14, .f32⟩
  | 10 => ⟨S384x1x1x1, .f32⟩
  | 11 => ⟨S384, .f32⟩
  | 12 => ⟨S1x384x1x1, .f32⟩
  | 13 => ⟨S512x384x14x14, .f32⟩
  | 14 => ⟨S512x384x14x14, .f32⟩
  | 15 => ⟨S512x384x14x14, .f32⟩
  | 16 => ⟨S384x1x1x1, .f32⟩
  | 17 => ⟨S384, .f32⟩
  | 18 => ⟨S1x384x1x1, .f32⟩
  | 19 => ⟨S512x384x14x14, .f32⟩
  | 20 => ⟨S512x384x14x14, .f32⟩
  | 21 => ⟨S512x384x14x14, .f32⟩
  | 22 => ⟨S512x384x14x14, .f32⟩
  | 23 => ⟨S384x1x1x1, .f32⟩
  | 24 => ⟨S384, .f32⟩
  | 25 => ⟨S1x384x1x1, .f32⟩
  | 26 => ⟨S512x384x14x14, .f32⟩
  | 27 => ⟨S512x384x14x14, .f32⟩
  | 28 => ⟨S512x384x14x14, .f32⟩
  | 29 => ⟨S512x384x14x14, .f32⟩
  | 30 => ⟨S384x1x1x1, .f32⟩
  | 31 => ⟨S384, .f32⟩
  | 32 => ⟨S1x384x1x1, .f32⟩
  | 33 => ⟨S512x384x14x14, .f32⟩
  | 34 => ⟨S512x384x14x14, .f32⟩
  | 35 => ⟨S512x384x14x14, .f32⟩
  | 36 => ⟨S512x384x14x14, .f32⟩
  | 37 => ⟨S384x1x1x1, .f32⟩
  | 38 => ⟨S384, .f32⟩
  | 39 => ⟨S1x384x1x1, .f32⟩
  | 40 => ⟨S512x384x14x14, .f32⟩
  | 41 => ⟨S512x384x14x14, .f32⟩
  | 42 => ⟨S512x384x14x14, .f32⟩
  | 43 => ⟨S512x384x14x14, .f32⟩
  | 44 => ⟨S384x1x1x1, .f32⟩
  | 45 => ⟨S384, .f32⟩
  | 46 => ⟨S1x384x1x1, .f32⟩
  | 47 => ⟨S512x384x14x14, .f32⟩
  | 48 => ⟨S512x384x14x14, .f32⟩
  | 49 => ⟨S512x384x14x14, .f32⟩
  | 50 => ⟨S512x384x14x14, .f32⟩
  | 51 => ⟨S384x1x1x1, .f32⟩
  | 52 => ⟨S384, .f32⟩
  | 53 => ⟨S1x384x1x1, .f32⟩
  | 54 => ⟨S512x384x14x14, .f32⟩
  | 55 => ⟨S512x384x14x14, .f32⟩
  | 56 => ⟨S512x384x14x14, .f32⟩
  | 57 => ⟨S512x384x14x14, .f32⟩
  | 58 => ⟨S384x1x1x1, .f32⟩
  | 59 => ⟨S384, .f32⟩
  | 60 => ⟨S1x384x1x1, .f32⟩
  | 61 => ⟨S512x384x14x14, .f32⟩
  | 62 => ⟨S512x384x14x14, .f32⟩
  | 63 => ⟨S512x384x14x14, .f32⟩
  | 64 => ⟨S512x384x14x14, .f32⟩
  | 65 => ⟨S384x1x1x1, .f32⟩
  | 66 => ⟨S384, .f32⟩
  | 67 => ⟨S1x384x1x1, .f32⟩
  | 68 => ⟨S512x384x14x14, .f32⟩
  | 69 => ⟨S512x384x14x14, .f32⟩
  | 70 => ⟨S512x384x14x14, .f32⟩
  | 71 => ⟨S1x384x1x1, .f32⟩
  | 72 => ⟨S512x384x14x14, .f32⟩
  | 73 => ⟨S512x384x14x14, .f32⟩
  | 74 => ⟨S1x384, .f32⟩
  | 75 => ⟨S512x14x14x1, .f32⟩
  | 76 => ⟨S512x1x14x14, .f32⟩
  | 77 => ⟨S1x1x1x1, .f32⟩
  | 78 => ⟨S512x1x14x14, .f32⟩
  | 79 => ⟨S512x1x14x14, .f32⟩
  | 80 => ⟨S512x1x14x14, .f32⟩
  | 81 => ⟨S512x1x14x14, .f32⟩
  | 82 => ⟨S_, .f32⟩
  | 83 => ⟨S512x1x14x14, .f32⟩
  | 84 => ⟨S512x1x14x14, .f32⟩
  | 85 => ⟨S_, .f32⟩
  | 86 => ⟨S512x1x14x14, .f32⟩
  | 87 => ⟨S512x1x14x14, .f32⟩
  | 88 => ⟨S512x196, .f32⟩
  | 89 => ⟨S512x20, .f32⟩
  | 90 => ⟨S512x20, .i32⟩
  | 91 => ⟨S512, .i32⟩
  | 92 => ⟨S512x1, .i32⟩
  | 93 => ⟨S_, .i1⟩
  | 94 => ⟨S512x196, .i1⟩
  | 95 => ⟨S_, .i32⟩
  | 96 => ⟨S512x1, .i32⟩
  | 97 => ⟨S512x1, .i1⟩
  | 98 => ⟨S_, .i32⟩
  | 99 => ⟨S512x1, .i32⟩
  | 100 => ⟨S512x1, .i32⟩
  | 101 => ⟨S512x1, .i32⟩
  | 102 => ⟨S_, .i32⟩
  | 103 => ⟨S512x20, .i32⟩
  | 104 => ⟨S512x20, .i1⟩
  | 105 => ⟨S_, .i32⟩
  | 106 => ⟨S512x20, .i32⟩
  | 107 => ⟨S512x20, .i32⟩
  | 108 => ⟨S512x20, .i32⟩
  | 109 => ⟨S512x20, .i32⟩
  | 110 => ⟨S512x20x1, .i32⟩
  | 111 => ⟨S512x20x1, .i32⟩
  | 112 => ⟨S512x20x2, .i32⟩
  | 113 => ⟨S_, .i1⟩
  | 114 => ⟨S512x20, .i1⟩
  | 115 => ⟨S512x196, .i1⟩
  | 116 => ⟨S512x196, .i32⟩
  | 117 => ⟨S512x196, .i32⟩
  | 118 => ⟨S512x196, .i32⟩
  | 119 => ⟨S512x196, .i32⟩
  | 120 => ⟨S512x176, .i32⟩
  | 121 => ⟨S_, .i32⟩
  | 122 => ⟨S_, .i32⟩
  | 123 => ⟨S_, .i32⟩
  | 124 => ⟨S_, .i32⟩
  | 125 => ⟨S1, .i32⟩
  | 126 => ⟨S_, .i32⟩
  | 127 => ⟨S_, .i32⟩
  | _ => ⟨S8x64x384x14x14, .f32⟩

abbrev hbmTy0_1 (i : Nat) : BufTy := match i % 128 with
  | 0 => ⟨S_, .i32⟩
  | 1 => ⟨S1, .i32⟩
  | 2 => ⟨S2, .i32⟩
  | 3 => ⟨S176, .i32⟩
  | 4 => ⟨S1, .i32⟩
  | 5 => ⟨S_, .i32⟩
  | 6 => ⟨S1, .i32⟩
  | 7 => ⟨S_, .i32⟩
  | 8 => ⟨S2, .i64⟩
  | 9 => ⟨S_, .i64⟩
  | 10 => ⟨S2, .i64⟩
  | 11 => ⟨S2, .i64⟩
  | 12 => ⟨S_, .i64⟩
  | 13 => ⟨S2, .i64⟩
  | 14 => ⟨S2, .i64⟩
  | 15 => ⟨S2, .i32⟩
  | 16 => ⟨S2, .i32⟩
  | 17 => ⟨S_, .i32⟩
  | 18 => ⟨S_, .i32⟩
  | 19 => ⟨S_, .i32⟩
  | 20 => ⟨S2, .i32⟩
  | 21 => ⟨S2, .i32⟩
  | 22 => ⟨S2, .i32⟩
  | 23 => ⟨S2, .i32⟩
  | 24 => ⟨S2, .i32⟩
  | 25 => ⟨S_, .i32⟩
  | 26 => ⟨S2, .i32⟩
  | 27 => ⟨S2, .i32⟩
  | 28 => ⟨S_, .i32⟩
  | 29 => ⟨S2, .i32⟩
  | 30 => ⟨S2, .i32⟩
  | 31 => ⟨S2, .i32⟩
  | 32 => ⟨S2, .i32⟩
  | 33 => ⟨S2, .i32⟩
  | 34 => ⟨S_, .i32⟩
  | 35 => ⟨S2, .i32⟩
  | 36 => ⟨S2, .i32⟩
  | 37 => ⟨S_, .i32⟩
  | 38 => ⟨S2, .i32⟩
  | 39 => ⟨S2, .i32⟩
  | 40 => ⟨S2, .i32⟩
  | 41 => ⟨S2, .i32⟩
  | 42 => ⟨S2, .i32⟩
  | 43 => ⟨S_, .i32⟩
  | 44 => ⟨S2, .i32⟩
  | 45 => ⟨S2, .i32⟩
  | 46 => ⟨S_, .i32⟩
  | 47 => ⟨S2, .i32⟩
  | 48 => ⟨S2, .i32⟩
  | 49 => ⟨S2, .i32⟩
  | 50 => ⟨S2, .i32⟩
  | 51 => ⟨S2, .i32⟩
  | 52 => ⟨S_, .i32⟩
  | 53 => ⟨S2, .i32⟩
  | 54 => ⟨S2, .i32⟩
  | 55 => ⟨S_, .i32⟩
  | 56 => ⟨S2, .i32⟩
  | 57 => ⟨S2, .i32⟩
  | 58 => ⟨S2, .i32⟩
  | 59 => ⟨S2, .i32⟩
  | 60 => ⟨S2, .i32⟩
  | 61 => ⟨S2, .i32⟩
  | 62 => ⟨S2, .i32⟩
  | 63 => ⟨S2, .i32⟩
  | 64 => ⟨S_, .i32⟩
  | 65 => ⟨S2, .i32⟩
  | 66 => ⟨S2, .i32⟩
  | 67 => ⟨S2, .i32⟩
  | 68 => ⟨S_, .i32⟩
  | 69 => ⟨S2, .i32⟩
  | 70 => ⟨S2, .i32⟩
  | 71 => ⟨S_, .i32⟩
  | 72 => ⟨S2, .i32⟩
  | 73 => ⟨S2, .i32⟩
  | 74 => ⟨S2, .i32⟩
  | 75 => ⟨S2, .i32⟩
  | 76 => ⟨S2, .i32⟩
  | 77 => ⟨S_, .i32⟩
  | 78 => ⟨S2, .i32⟩
  | 79 => ⟨S2, .i32⟩
  | 80 => ⟨S_, .i32⟩
  | 81 => ⟨S2, .i32⟩
  | 82 => ⟨S2, .i32⟩
  | 83 => ⟨S2, .i32⟩
  | 84 => ⟨S2, .i32⟩
  | 85 => ⟨S2, .i32⟩
  | 86 => ⟨S_, .i32⟩
  | 87 => ⟨S2, .i32⟩
  | 88 => ⟨S2, .i32⟩
  | 89 => ⟨S_, .i32⟩
  | 90 => ⟨S2, .i32⟩
  | 91 => ⟨S2, .i32⟩
  | 92 => ⟨S2, .i32⟩
  | 93 => ⟨S2, .i32⟩
  | 94 => ⟨S2, .i32⟩
  | 95 => ⟨S_, .i32⟩
  | 96 => ⟨S2, .i32⟩
  | 97 => ⟨S2, .i32⟩
  | 98 => ⟨S_, .i32⟩
  | 99 => ⟨S2, .i32⟩
  | 100 => ⟨S2, .i32⟩
  | 101 => ⟨S2, .i32⟩
  | 102 => ⟨S2, .i32⟩
  | 103 => ⟨S2, .i32⟩
  | 104 => ⟨S2, .i32⟩
  | 105 => ⟨S2, .i32⟩
  | 106 => ⟨S2, .i32⟩
  | 107 => ⟨S_, .i32⟩
  | 108 => ⟨S2, .i32⟩
  | 109 => ⟨S2, .i32⟩
  | 110 => ⟨S2, .i32⟩
  | 111 => ⟨S_, .i32⟩
  | 112 => ⟨S2, .i32⟩
  | 113 => ⟨S2, .i32⟩
  | 114 => ⟨S_, .i32⟩
  | 115 => ⟨S2, .i32⟩
  | 116 => ⟨S2, .i32⟩
  | 117 => ⟨S2, .i32⟩
  | 118 => ⟨S2, .i32⟩
  | 119 => ⟨S2, .i32⟩
  | 120 => ⟨S_, .i32⟩
  | 121 => ⟨S2, .i32⟩
  | 122 => ⟨S2, .i32⟩
  | 123 => ⟨S_, .i32⟩
  | 124 => ⟨S2, .i32⟩
  | 125 => ⟨S2, .i32⟩
  | 126 => ⟨S2, .i32⟩
  | 127 => ⟨S2, .i32⟩
  | _ => ⟨S8x64x384x14x14, .f32⟩

abbrev hbmTy0_2 (i : Nat) : BufTy := match i % 128 with
  | 0 => ⟨S2, .i32⟩
  | 1 => ⟨S_, .i32⟩
  | 2 => ⟨S2, .i32⟩
  | 3 => ⟨S2, .i32⟩
  | 4 => ⟨S_, .i32⟩
  | 5 => ⟨S2, .i32⟩
  | 6 => ⟨S2, .i32⟩
  | 7 => ⟨S2, .i32⟩
  | 8 => ⟨S2, .i32⟩
  | 9 => ⟨S2, .i32⟩
  | 10 => ⟨S_, .i32⟩
  | 11 => ⟨S2, .i32⟩
  | 12 => ⟨S2, .i32⟩
  | 13 => ⟨S_, .i32⟩
  | 14 => ⟨S2, .i32⟩
  | 15 => ⟨S2, .i32⟩
  | 16 => ⟨S2, .i32⟩
  | 17 => ⟨S2, .i32⟩
  | 18 => ⟨S2, .i32⟩
  | 19 => ⟨S2, .i32⟩
  | 20 => ⟨S2, .i32⟩
  | 21 => ⟨S2, .i32⟩
  | 22 => ⟨S_, .i32⟩
  | 23 => ⟨S2, .i32⟩
  | 24 => ⟨S2, .i32⟩
  | 25 => ⟨S2, .i32⟩
  | 26 => ⟨S_, .i32⟩
  | 27 => ⟨S2, .i32⟩
  | 28 => ⟨S2, .i32⟩
  | 29 => ⟨S_, .i32⟩
  | 30 => ⟨S2, .i32⟩
  | 31 => ⟨S2, .i32⟩
  | 32 => ⟨S2, .i32⟩
  | 33 => ⟨S2, .i32⟩
  | 34 => ⟨S2, .i32⟩
  | 35 => ⟨S_, .i32⟩
  | 36 => ⟨S2, .i32⟩
  | 37 => ⟨S2, .i32⟩
  | 38 => ⟨S_, .i32⟩
  | 39 => ⟨S2, .i32⟩
  | 40 => ⟨S2, .i32⟩
  | 41 => ⟨S2, .i32⟩
  | 42 => ⟨S2, .i32⟩
  | 43 => ⟨S2, .i32⟩
  | 44 => ⟨S_, .i32⟩
  | 45 => ⟨S2, .i32⟩
  | 46 => ⟨S2, .i32⟩
  | 47 => ⟨S_, .i32⟩
  | 48 => ⟨S2, .i32⟩
  | 49 => ⟨S2, .i32⟩
  | 50 => ⟨S2, .i32⟩
  | 51 => ⟨S2, .i32⟩
  | 52 => ⟨S2, .i32⟩
  | 53 => ⟨S_, .i32⟩
  | 54 => ⟨S2, .i32⟩
  | 55 => ⟨S2, .i32⟩
  | 56 => ⟨S_, .i32⟩
  | 57 => ⟨S2, .i32⟩
  | 58 => ⟨S2, .i32⟩
  | 59 => ⟨S2, .i32⟩
  | 60 => ⟨S2, .i32⟩
  | 61 => ⟨S2, .i32⟩
  | 62 => ⟨S2, .i32⟩
  | 63 => ⟨S2, .i32⟩
  | 64 => ⟨S2, .i32⟩
  | 65 => ⟨S_, .i32⟩
  | 66 => ⟨S2, .i32⟩
  | 67 => ⟨S2, .i32⟩
  | 68 => ⟨S2, .i32⟩
  | 69 => ⟨S_, .i32⟩
  | 70 => ⟨S2, .i32⟩
  | 71 => ⟨S2, .i32⟩
  | 72 => ⟨S_, .i32⟩
  | 73 => ⟨S2, .i32⟩
  | 74 => ⟨S2, .i32⟩
  | 75 => ⟨S2, .i32⟩
  | 76 => ⟨S2, .i32⟩
  | 77 => ⟨S2, .i32⟩
  | 78 => ⟨S_, .i32⟩
  | 79 => ⟨S2, .i32⟩
  | 80 => ⟨S2, .i32⟩
  | 81 => ⟨S_, .i32⟩
  | 82 => ⟨S2, .i32⟩
  | 83 => ⟨S2, .i32⟩
  | 84 => ⟨S2, .i32⟩
  | 85 => ⟨S2, .i32⟩
  | 86 => ⟨S2, .i32⟩
  | 87 => ⟨S_, .i32⟩
  | 88 => ⟨S2, .i32⟩
  | 89 => ⟨S2, .i32⟩
  | 90 => ⟨S_, .i32⟩
  | 91 => ⟨S2, .i32⟩
  | 92 => ⟨S2, .i32⟩
  | 93 => ⟨S2, .i32⟩
  | 94 => ⟨S2, .i32⟩
  | 95 => ⟨S2, .i32⟩
  | 96 => ⟨S_, .i32⟩
  | 97 => ⟨S2, .i32⟩
  | 98 => ⟨S2, .i32⟩
  | 99 => ⟨S_, .i32⟩
  | 100 => ⟨S2, .i32⟩
  | 101 => ⟨S2, .i32⟩
  | 102 => ⟨S2, .i32⟩
  | 103 => ⟨S2, .i32⟩
  | 104 => ⟨S2, .i32⟩
  | 105 => ⟨S2, .i32⟩
  | 106 => ⟨S2, .i32⟩
  | 107 => ⟨S2, .i32⟩
  | 108 => ⟨S_, .i32⟩
  | 109 => ⟨S2, .i32⟩
  | 110 => ⟨S2, .i32⟩
  | 111 => ⟨S2x1, .i32⟩
  | 112 => ⟨S2x1, .i32⟩
  | 113 => ⟨S2x2, .i32⟩
  | 114 => ⟨S1x2, .i32⟩
  | 115 => ⟨S2, .i32⟩
  | 116 => ⟨S1x2, .i32⟩
  | 117 => ⟨S2, .i32⟩
  | 118 => ⟨S1, .i32⟩
  | 119 => ⟨S_, .i32⟩
  | 120 => ⟨S1, .i32⟩
  | 121 => ⟨S_, .i32⟩
  | 122 => ⟨S176, .i64⟩
  | 123 => ⟨S_, .i64⟩
  | 124 => ⟨S176, .i64⟩
  | 125 => ⟨S176, .i64⟩
  | 126 => ⟨S_, .i64⟩
  | 127 => ⟨S176, .i64⟩
  | _ => ⟨S8x64x384x14x14, .f32⟩

abbrev hbmTy0_3 (i : Nat) : BufTy := match i % 128 with
  | 0 => ⟨S176, .i64⟩
  | 1 => ⟨S176, .i32⟩
  | 2 => ⟨S176, .i32⟩
  | 3 => ⟨S_, .i32⟩
  | 4 => ⟨S_, .i32⟩
  | 5 => ⟨S_, .i32⟩
  | 6 => ⟨S176, .i32⟩
  | 7 => ⟨S176, .i32⟩
  | 8 => ⟨S176, .i32⟩
  | 9 => ⟨S176, .i32⟩
  | 10 => ⟨S176, .i32⟩
  | 11 => ⟨S_, .i32⟩
  | 12 => ⟨S176, .i32⟩
  | 13 => ⟨S176, .i32⟩
  | 14 => ⟨S_, .i32⟩
  | 15 => ⟨S176, .i32⟩
  | 16 => ⟨S176, .i32⟩
  | 17 => ⟨S176, .i32⟩
  | 18 => ⟨S176, .i32⟩
  | 19 => ⟨S176, .i32⟩
  | 20 => ⟨S_, .i32⟩
  | 21 => ⟨S176, .i32⟩
  | 22 => ⟨S176, .i32⟩
  | 23 => ⟨S_, .i32⟩
  | 24 => ⟨S176, .i32⟩
  | 25 => ⟨S176, .i32⟩
  | 26 => ⟨S176, .i32⟩
  | 27 => ⟨S176, .i32⟩
  | 28 => ⟨S176, .i32⟩
  | 29 => ⟨S_, .i32⟩
  | 30 => ⟨S176, .i32⟩
  | 31 => ⟨S176, .i32⟩
  | 32 => ⟨S_, .i32⟩
  | 33 => ⟨S176, .i32⟩
  | 34 => ⟨S176, .i32⟩
  | 35 => ⟨S176, .i32⟩
  | 36 => ⟨S176, .i32⟩
  | 37 => ⟨S176, .i32⟩
  | 38 => ⟨S_, .i32⟩
  | 39 => ⟨S176, .i32⟩
  | 40 => ⟨S176, .i32⟩
  | 41 => ⟨S_, .i32⟩
  | 42 => ⟨S176, .i32⟩
  | 43 => ⟨S176, .i32⟩
  | 44 => ⟨S176, .i32⟩
  | 45 => ⟨S176, .i32⟩
  | 46 => ⟨S176, .i32⟩
  | 47 => ⟨S176, .i32⟩
  | 48 => ⟨S176, .i32⟩
  | 49 => ⟨S176, .i32⟩
  | 50 => ⟨S_, .i32⟩
  | 51 => ⟨S176, .i32⟩
  | 52 => ⟨S176, .i32⟩
  | 53 => ⟨S176, .i32⟩
  | 54 => ⟨S_, .i32⟩
  | 55 => ⟨S176, .i32⟩
  | 56 => ⟨S176, .i32⟩
  | 57 => ⟨S_, .i32⟩
  | 58 => ⟨S176, .i32⟩
  | 59 => ⟨S176, .i32⟩
  | 60 => ⟨S176, .i32⟩
  | 61 => ⟨S176, .i32⟩
  | 62 => ⟨S176, .i32⟩
  | 63 => ⟨S_, .i32⟩
  | 64 => ⟨S176, .i32⟩
  | 65 => ⟨S176, .i32⟩
  | 66 => ⟨S_, .i32⟩
  | 67 => ⟨S176, .i32⟩
  | 68 => ⟨S176, .i32⟩
  | 69 => ⟨S176, .i32⟩
  | 70 => ⟨S176, .i32⟩
  | 71 => ⟨S176, .i32⟩
  | 72 => ⟨S_, .i32⟩
  | 73 => ⟨S176, .i32⟩
  | 74 => ⟨S176, .i32⟩
  | 75 => ⟨S_, .i32⟩
  | 76 => ⟨S176, .i32⟩
  | 77 => ⟨S176, .i32⟩
  | 78 => ⟨S176, .i32⟩
  | 79 => ⟨S176, .i32⟩
  | 80 => ⟨S176, .i32⟩
  | 81 => ⟨S_, .i32⟩
  | 82 => ⟨S176, .i32⟩
  | 83 => ⟨S176, .i32⟩
  | 84 => ⟨S_, .i32⟩
  | 85 => ⟨S176, .i32⟩
  | 86 => ⟨S176, .i32⟩
  | 87 => ⟨S176, .i32⟩
  | 88 => ⟨S176, .i32⟩
  | 89 => ⟨S176, .i32⟩
  | 90 => ⟨S176, .i32⟩
  | 91 => ⟨S176, .i32⟩
  | 92 => ⟨S176, .i32⟩
  | 93 => ⟨S_, .i32⟩
  | 94 => ⟨S176, .i32⟩
  | 95 => ⟨S176, .i32⟩
  | 96 => ⟨S176, .i32⟩
  | 97 => ⟨S_, .i32⟩
  | 98 => ⟨S176, .i32⟩
  | 99 => ⟨S176, .i32⟩
  | 100 => ⟨S_, .i32⟩
  | 101 => ⟨S176, .i32⟩
  | 102 => ⟨S176, .i32⟩
  | 103 => ⟨S176, .i32⟩
  | 104 => ⟨S176, .i32⟩
  | 105 => ⟨S176, .i32⟩
  | 106 => ⟨S_, .i32⟩
  | 107 => ⟨S176, .i32⟩
  | 108 => ⟨S176, .i32⟩
  | 109 => ⟨S_, .i32⟩
  | 110 => ⟨S176, .i32⟩
  | 111 => ⟨S176, .i32⟩
  | 112 => ⟨S176, .i32⟩
  | 113 => ⟨S176, .i32⟩
  | 114 => ⟨S176, .i32⟩
  | 115 => ⟨S_, .i32⟩
  | 116 => ⟨S176, .i32⟩
  | 117 => ⟨S176, .i32⟩
  | 118 => ⟨S_, .i32⟩
  | 119 => ⟨S176, .i32⟩
  | 120 => ⟨S176, .i32⟩
  | 121 => ⟨S176, .i32⟩
  | 122 => ⟨S176, .i32⟩
  | 123 => ⟨S176, .i32⟩
  | 124 => ⟨S_, .i32⟩
  | 125 => ⟨S176, .i32⟩
  | 126 => ⟨S176, .i32⟩
  | 127 => ⟨S_, .i32⟩
  | _ => ⟨S8x64x384x14x14, .f32⟩

abbrev hbmTy0_4 (i : Nat) : BufTy := match i % 128 with
  | 0 => ⟨S176, .i32⟩
  | 1 => ⟨S176, .i32⟩
  | 2 => ⟨S176, .i32⟩
  | 3 => ⟨S176, .i32⟩
  | 4 => ⟨S176, .i32⟩
  | 5 => ⟨S176, .i32⟩
  | 6 => ⟨S176, .i32⟩
  | 7 => ⟨S176, .i32⟩
  | 8 => ⟨S_, .i32⟩
  | 9 => ⟨S176, .i32⟩
  | 10 => ⟨S176, .i32⟩
  | 11 => ⟨S176, .i32⟩
  | 12 => ⟨S_, .i32⟩
  | 13 => ⟨S176, .i32⟩
  | 14 => ⟨S176, .i32⟩
  | 15 => ⟨S_, .i32⟩
  | 16 => ⟨S176, .i32⟩
  | 17 => ⟨S176, .i32⟩
  | 18 => ⟨S176, .i32⟩
  | 19 => ⟨S176, .i32⟩
  | 20 => ⟨S176, .i32⟩
  | 21 => ⟨S_, .i32⟩
  | 22 => ⟨S176, .i32⟩
  | 23 => ⟨S176, .i32⟩
  | 24 => ⟨S_, .i32⟩
  | 25 => ⟨S176, .i32⟩
  | 26 => ⟨S176, .i32⟩
  | 27 => ⟨S176, .i32⟩
  | 28 => ⟨S176, .i32⟩
  | 29 => ⟨S176, .i32⟩
  | 30 => ⟨S_, .i32⟩
  | 31 => ⟨S176, .i32⟩
  | 32 => ⟨S176, .i32⟩
  | 33 => ⟨S_, .i32⟩
  | 34 => ⟨S176, .i32⟩
  | 35 => ⟨S176, .i32⟩
  | 36 => ⟨S176, .i32⟩
  | 37 => ⟨S176, .i32⟩
  | 38 => ⟨S176, .i32⟩
  | 39 => ⟨S_, .i32⟩
  | 40 => ⟨S176, .i32⟩
  | 41 => ⟨S176, .i32⟩
  | 42 => ⟨S_, .i32⟩
  | 43 => ⟨S176, .i32⟩
  | 44 => ⟨S176, .i32⟩
  | 45 => ⟨S176, .i32⟩
  | 46 => ⟨S176, .i32⟩
  | 47 => ⟨S176, .i32⟩
  | 48 => ⟨S176, .i32⟩
  | 49 => ⟨S176, .i32⟩
  | 50 => ⟨S176, .i32⟩
  | 51 => ⟨S_, .i32⟩
  | 52 => ⟨S176, .i32⟩
  | 53 => ⟨S176, .i32⟩
  | 54 => ⟨S176, .i32⟩
  | 55 => ⟨S_, .i32⟩
  | 56 => ⟨S176, .i32⟩
  | 57 => ⟨S176, .i32⟩
  | 58 => ⟨S_, .i32⟩
  | 59 => ⟨S176, .i32⟩
  | 60 => ⟨S176, .i32⟩
  | 61 => ⟨S176, .i32⟩
  | 62 => ⟨S176, .i32⟩
  | 63 => ⟨S176, .i32⟩
  | 64 => ⟨S_, .i32⟩
  | 65 => ⟨S176, .i32⟩
  | 66 => ⟨S176, .i32⟩
  | 67 => ⟨S_, .i32⟩
  | 68 => ⟨S176, .i32⟩
  | 69 => ⟨S176, .i32⟩
  | 70 => ⟨S176, .i32⟩
  | 71 => ⟨S176, .i32⟩
  | 72 => ⟨S176, .i32⟩
  | 73 => ⟨S_, .i32⟩
  | 74 => ⟨S176, .i32⟩
  | 75 => ⟨S176, .i32⟩
  | 76 => ⟨S_, .i32⟩
  | 77 => ⟨S176, .i32⟩
  | 78 => ⟨S176, .i32⟩
  | 79 => ⟨S176, .i32⟩
  | 80 => ⟨S176, .i32⟩
  | 81 => ⟨S176, .i32⟩
  | 82 => ⟨S_, .i32⟩
  | 83 => ⟨S176, .i32⟩
  | 84 => ⟨S176, .i32⟩
  | 85 => ⟨S_, .i32⟩
  | 86 => ⟨S176, .i32⟩
  | 87 => ⟨S176, .i32⟩
  | 88 => ⟨S176, .i32⟩
  | 89 => ⟨S176, .i32⟩
  | 90 => ⟨S176, .i32⟩
  | 91 => ⟨S176, .i32⟩
  | 92 => ⟨S176, .i32⟩
  | 93 => ⟨S176, .i32⟩
  | 94 => ⟨S_, .i32⟩
  | 95 => ⟨S176, .i32⟩
  | 96 => ⟨S176, .i32⟩
  | 97 => ⟨S176, .i32⟩
  | 98 => ⟨S176, .i32⟩
  | 99 => ⟨S176, .i32⟩
  | 100 => ⟨S76, .i32⟩
  | 101 => ⟨S_, .i32⟩
  | 102 => ⟨S76, .i32⟩
  | 103 => ⟨S76, .i1⟩
  | 104 => ⟨S_, .i32⟩
  | 105 => ⟨S76, .i32⟩
  | 106 => ⟨S76, .i32⟩
  | 107 => ⟨S76, .i32⟩
  | 108 => ⟨S76x1, .i32⟩
  | 109 => ⟨S512x76, .i32⟩
  | 110 => ⟨S_, .i32⟩
  | 111 => ⟨S_, .i32⟩
  | 112 => ⟨S_, .i32⟩
  | 113 => ⟨S_, .i1⟩
  | 114 => ⟨S_, .i32⟩
  | 115 => ⟨S_, .i32⟩
  | 116 => ⟨S512x20, .i32⟩
  | 117 => ⟨S512x20, .i32⟩
  | 118 => ⟨S_, .i32⟩
  | 119 => ⟨S512x20, .i32⟩
  | 120 => ⟨S512x20, .i1⟩
  | 121 => ⟨S_, .i32⟩
  | 122 => ⟨S512x20, .i32⟩
  | 123 => ⟨S512x20, .i1⟩
  | 124 => ⟨S_, .i32⟩
  | 125 => ⟨S_, .i1⟩
  | 126 => ⟨S512x20, .i1⟩
  | 127 => ⟨S512x20, .i1⟩
  | _ => ⟨S8x64x384x14x14, .f32⟩

abbrev hbmTy0_5 (i : Nat) : BufTy := match i % 128 with
  | 0 => ⟨S512x20, .i1⟩
  | 1 => ⟨S512x20, .i32⟩
  | 2 => ⟨S512x20, .i32⟩
  | 3 => ⟨S512x20, .i32⟩
  | 4 => ⟨S_, .i32⟩
  | 5 => ⟨S_, .i32⟩
  | 6 => ⟨S512x20, .i32⟩
  | 7 => ⟨S512x20, .i32⟩
  | 8 => ⟨S512x20, .i32⟩
  | 9 => ⟨S_, .i32⟩
  | 10 => ⟨S512x20, .i32⟩
  | 11 => ⟨S512x20, .i1⟩
  | 12 => ⟨S512x20, .i32⟩
  | 13 => ⟨S512x20, .i32⟩
  | 14 => ⟨S_, .i32⟩
  | 15 => ⟨S512x20, .i32⟩
  | 16 => ⟨S512x20, .i1⟩
  | 17 => ⟨S512x20, .i1⟩
  | 18 => ⟨S_, .i32⟩
  | 19 => ⟨S512x20, .i32⟩
  | 20 => ⟨S512x20, .i32⟩
  | 21 => ⟨S512x20, .i32⟩
  | 22 => ⟨S64x20, .i32⟩
  | 23 => ⟨S64x20, .i32⟩
  | 24 => ⟨S_, .i32⟩
  | 25 => ⟨S_, .i32⟩
  | 26 => ⟨S_, .i32⟩
  | 27 => ⟨S_, .i1⟩
  | 28 => ⟨S_, .i32⟩
  | 29 => ⟨S_, .i32⟩
  | 30 => ⟨S512x76, .i32⟩
  | 31 => ⟨S512x76, .i32⟩
  | 32 => ⟨S_, .i32⟩
  | 33 => ⟨S512x76, .i32⟩
  | 34 => ⟨S512x76, .i1⟩
  | 35 => ⟨S_, .i32⟩
  | 36 => ⟨S512x76, .i32⟩
  | 37 => ⟨S512x76, .i1⟩
  | 38 => ⟨S_, .i32⟩
  | 39 => ⟨S_, .i1⟩
  | 40 => ⟨S512x76, .i1⟩
  | 41 => ⟨S512x76, .i1⟩
  | 42 => ⟨S512x76, .i1⟩
  | 43 => ⟨S512x76, .i32⟩
  | 44 => ⟨S512x76, .i32⟩
  | 45 => ⟨S512x76, .i32⟩
  | 46 => ⟨S_, .i32⟩
  | 47 => ⟨S_, .i32⟩
  | 48 => ⟨S512x76, .i32⟩
  | 49 => ⟨S512x76, .i32⟩
  | 50 => ⟨S512x76, .i32⟩
  | 51 => ⟨S_, .i32⟩
  | 52 => ⟨S512x76, .i32⟩
  | 53 => ⟨S512x76, .i1⟩
  | 54 => ⟨S512x76, .i32⟩
  | 55 => ⟨S512x76, .i32⟩
  | 56 => ⟨S_, .i32⟩
  | 57 => ⟨S512x76, .i32⟩
  | 58 => ⟨S512x76, .i1⟩
  | 59 => ⟨S512x76, .i1⟩
  | 60 => ⟨S_, .i32⟩
  | 61 => ⟨S512x76, .i32⟩
  | 62 => ⟨S512x76, .i32⟩
  | 63 => ⟨S512x76, .i32⟩
  | 64 => ⟨S64x76, .i32⟩
  | 65 => ⟨S64x76, .i32⟩
  | 66 => ⟨S_, .i32⟩
  | 67 => ⟨S_, .i32⟩
  | 68 => ⟨S_, .i32⟩
  | 69 => ⟨S64x20, .i32⟩
  | 70 => ⟨S64x20, .i32⟩
  | 71 => ⟨S_, .i32⟩
  | 72 => ⟨S64x20, .i32⟩
  | 73 => ⟨S64x20, .i32⟩
  | 74 => ⟨S_, .i32⟩
  | 75 => ⟨S_, .i32⟩
  | 76 => ⟨S_, .i32⟩
  | 77 => ⟨S64x20, .i32⟩
  | 78 => ⟨S64x20, .i32⟩
  | 79 => ⟨S_, .i32⟩
  | 80 => ⟨S64x20, .i32⟩
  | 81 => ⟨S64x20, .i32⟩
  | 82 => ⟨S_, .i32⟩
  | 83 => ⟨S_, .i32⟩
  | 84 => ⟨S_, .i32⟩
  | 85 => ⟨S64x76, .i32⟩
  | 86 => ⟨S64x76, .i32⟩
  | 87 => ⟨S_, .i32⟩
  | 88 => ⟨S64x76, .i32⟩
  | 89 => ⟨S64x76, .i32⟩
  | 90 => ⟨S_, .i32⟩
  | 91 => ⟨S_, .i32⟩
  | 92 => ⟨S_, .i32⟩
  | 93 => ⟨S64x76, .i32⟩
  | 94 => ⟨S64x76, .i32⟩
  | 95 => ⟨S_, .i32⟩
  | 96 => ⟨S64x76, .i32⟩
  | 97 => ⟨S64x76, .i32⟩
  | 98 => ⟨S64x96, .i32⟩
  | 99 => ⟨S64x96, .i32⟩
  | 100 => ⟨S16x4x96, .i32⟩
  | 101 => ⟨S16x4x96, .i32⟩
  | _ => ⟨S8x64x384x14x14, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | _ => ⟨S8x64x384x14x14, .f32⟩

abbrev bufTy : (tb : Table) → Fin (tcTables nBuf tb) → BufTy
  | .hbm, ⟨i, _⟩ => hbmTy i
  | _, _ => ⟨S8x64x384x14x14, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_call0_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_v42 : Ref sig .tc := ⟨.hbm, 49, rfl⟩
abbrev main_v43 : Ref sig .tc := ⟨.hbm, 50, rfl⟩
abbrev main_v44 : Ref sig .tc := ⟨.hbm, 51, rfl⟩
abbrev main_v45 : Ref sig .tc := ⟨.hbm, 52, rfl⟩
abbrev main_v46 : Ref sig .tc := ⟨.hbm, 53, rfl⟩
abbrev main_v47 : Ref sig .tc := ⟨.hbm, 54, rfl⟩
abbrev main_v48 : Ref sig .tc := ⟨.hbm, 55, rfl⟩
abbrev main_v49 : Ref sig .tc := ⟨.hbm, 56, rfl⟩
abbrev main_v50 : Ref sig .tc := ⟨.hbm, 57, rfl⟩
abbrev main_v51 : Ref sig .tc := ⟨.hbm, 58, rfl⟩
abbrev main_v52 : Ref sig .tc := ⟨.hbm, 59, rfl⟩
abbrev main_v53 : Ref sig .tc := ⟨.hbm, 60, rfl⟩
abbrev main_v54 : Ref sig .tc := ⟨.hbm, 61, rfl⟩
abbrev main_v55 : Ref sig .tc := ⟨.hbm, 62, rfl⟩
abbrev main_v56 : Ref sig .tc := ⟨.hbm, 63, rfl⟩
abbrev main_v57 : Ref sig .tc := ⟨.hbm, 64, rfl⟩
abbrev main_v58 : Ref sig .tc := ⟨.hbm, 65, rfl⟩
abbrev main_v59 : Ref sig .tc := ⟨.hbm, 66, rfl⟩
abbrev main_v60 : Ref sig .tc := ⟨.hbm, 67, rfl⟩
abbrev main_v61 : Ref sig .tc := ⟨.hbm, 68, rfl⟩
abbrev main_v62 : Ref sig .tc := ⟨.hbm, 69, rfl⟩
abbrev main_v63 : Ref sig .tc := ⟨.hbm, 70, rfl⟩
abbrev main_v64 : Ref sig .tc := ⟨.hbm, 71, rfl⟩
abbrev main_v65 : Ref sig .tc := ⟨.hbm, 72, rfl⟩
abbrev main_v66 : Ref sig .tc := ⟨.hbm, 73, rfl⟩
abbrev main_v67 : Ref sig .tc := ⟨.hbm, 74, rfl⟩
abbrev main_v68 : Ref sig .tc := ⟨.hbm, 75, rfl⟩
abbrev main_v69 : Ref sig .tc := ⟨.hbm, 76, rfl⟩
abbrev main_v70 : Ref sig .tc := ⟨.hbm, 77, rfl⟩
abbrev main_v71 : Ref sig .tc := ⟨.hbm, 78, rfl⟩
abbrev main_v72 : Ref sig .tc := ⟨.hbm, 79, rfl⟩
abbrev main_v73 : Ref sig .tc := ⟨.hbm, 80, rfl⟩
abbrev main_v74 : Ref sig .tc := ⟨.hbm, 81, rfl⟩
abbrev main_cst : Ref sig .tc := ⟨.hbm, 82, rfl⟩
abbrev main_v75 : Ref sig .tc := ⟨.hbm, 83, rfl⟩
abbrev main_v76 : Ref sig .tc := ⟨.hbm, 84, rfl⟩
abbrev main_cst_0 : Ref sig .tc := ⟨.hbm, 85, rfl⟩
abbrev main_v77 : Ref sig .tc := ⟨.hbm, 86, rfl⟩
abbrev main_v78 : Ref sig .tc := ⟨.hbm, 87, rfl⟩
abbrev main_v79 : Ref sig .tc := ⟨.hbm, 88, rfl⟩
abbrev main_values : Ref sig .tc := ⟨.hbm, 89, rfl⟩
abbrev main_indices : Ref sig .tc := ⟨.hbm, 90, rfl⟩
abbrev main_v80 : Ref sig .tc := ⟨.hbm, 91, rfl⟩
abbrev main_v81 : Ref sig .tc := ⟨.hbm, 92, rfl⟩
abbrev main_c_1 : Ref sig .tc := ⟨.hbm, 93, rfl⟩
abbrev main_v82 : Ref sig .tc := ⟨.hbm, 94, rfl⟩
abbrev main_c_2 : Ref sig .tc := ⟨.hbm, 95, rfl⟩
abbrev main_v83 : Ref sig .tc := ⟨.hbm, 96, rfl⟩
abbrev main_v84 : Ref sig .tc := ⟨.hbm, 97, rfl⟩
abbrev main_c_3 : Ref sig .tc := ⟨.hbm, 98, rfl⟩
abbrev main_v85 : Ref sig .tc := ⟨.hbm, 99, rfl⟩
abbrev main_v86 : Ref sig .tc := ⟨.hbm, 100, rfl⟩
abbrev main_v87 : Ref sig .tc := ⟨.hbm, 101, rfl⟩
abbrev main_c_4 : Ref sig .tc := ⟨.hbm, 102, rfl⟩
abbrev main_v88 : Ref sig .tc := ⟨.hbm, 103, rfl⟩
abbrev main_v89 : Ref sig .tc := ⟨.hbm, 104, rfl⟩
abbrev main_c_5 : Ref sig .tc := ⟨.hbm, 105, rfl⟩
abbrev main_v90 : Ref sig .tc := ⟨.hbm, 106, rfl⟩
abbrev main_v91 : Ref sig .tc := ⟨.hbm, 107, rfl⟩
abbrev main_v92 : Ref sig .tc := ⟨.hbm, 108, rfl⟩
abbrev main_v93 : Ref sig .tc := ⟨.hbm, 109, rfl⟩
abbrev main_v94 : Ref sig .tc := ⟨.hbm, 110, rfl⟩
abbrev main_v95 : Ref sig .tc := ⟨.hbm, 111, rfl⟩
abbrev main_v96 : Ref sig .tc := ⟨.hbm, 112, rfl⟩
abbrev main_c_6 : Ref sig .tc := ⟨.hbm, 113, rfl⟩
abbrev main_v97 : Ref sig .tc := ⟨.hbm, 114, rfl⟩
abbrev main_v98 : Ref sig .tc := ⟨.hbm, 115, rfl⟩
abbrev main_v99 : Ref sig .tc := ⟨.hbm, 116, rfl⟩
abbrev main_call1_v0 : Ref sig .tc := ⟨.hbm, 117, rfl⟩
abbrev main_call1_v1_0 : Ref sig .tc := ⟨.hbm, 118, rfl⟩
abbrev main_v100 : Ref sig .tc := ⟨.hbm, 119, rfl⟩
abbrev main_v101 : Ref sig .tc := ⟨.hbm, 120, rfl⟩
abbrev main_c_7 : Ref sig .tc := ⟨.hbm, 121, rfl⟩
abbrev main_c_8 : Ref sig .tc := ⟨.hbm, 122, rfl⟩
abbrev main_v102 : Ref sig .tc := ⟨.hbm, 123, rfl⟩
abbrev main_v103 : Ref sig .tc := ⟨.hbm, 124, rfl⟩
abbrev main_v104 : Ref sig .tc := ⟨.hbm, 125, rfl⟩
abbrev main_c_9 : Ref sig .tc := ⟨.hbm, 126, rfl⟩
abbrev main_v105 : Ref sig .tc := ⟨.hbm, 127, rfl⟩
abbrev main_v106 : Ref sig .tc := ⟨.hbm, 128, rfl⟩
abbrev main_v107 : Ref sig .tc := ⟨.hbm, 129, rfl⟩
abbrev main_v108 : Ref sig .tc := ⟨.hbm, 130, rfl⟩
abbrev main_v109 : Ref sig .tc := ⟨.hbm, 131, rfl⟩
abbrev main_call2_call0_v0 : Ref sig .tc := ⟨.hbm, 132, rfl⟩
abbrev main_call2_call0_v1 : Ref sig .tc := ⟨.hbm, 133, rfl⟩
abbrev main_call2_call0_v2 : Ref sig .tc := ⟨.hbm, 134, rfl⟩
abbrev main_call2_call0_v3 : Ref sig .tc := ⟨.hbm, 135, rfl⟩
abbrev main_call2_call0_v4 : Ref sig .tc := ⟨.hbm, 136, rfl⟩
abbrev main_call2_call0_c : Ref sig .tc := ⟨.hbm, 137, rfl⟩
abbrev main_call2_call0_v5 : Ref sig .tc := ⟨.hbm, 138, rfl⟩
abbrev main_call2_call0_v6 : Ref sig .tc := ⟨.hbm, 139, rfl⟩
abbrev main_call2_call0_c_0 : Ref sig .tc := ⟨.hbm, 140, rfl⟩
abbrev main_call2_call0_v7 : Ref sig .tc := ⟨.hbm, 141, rfl⟩
abbrev main_call2_call0_v8 : Ref sig .tc := ⟨.hbm, 142, rfl⟩
abbrev main_call2_call0_v9 : Ref sig .tc := ⟨.hbm, 143, rfl⟩
abbrev main_call2_call0_v10 : Ref sig .tc := ⟨.hbm, 144, rfl⟩
abbrev main_call2_call0_call0_v0 : Ref sig .tc := ⟨.hbm, 145, rfl⟩
abbrev main_call2_call0_call0_c : Ref sig .tc := ⟨.hbm, 146, rfl⟩
abbrev main_call2_call0_call0_v1 : Ref sig .tc := ⟨.hbm, 147, rfl⟩
abbrev main_call2_call0_call0_v2 : Ref sig .tc := ⟨.hbm, 148, rfl⟩
abbrev main_call2_call0_call0_v3 : Ref sig .tc := ⟨.hbm, 149, rfl⟩
abbrev main_call2_call0_call0_v4 : Ref sig .tc := ⟨.hbm, 150, rfl⟩
abbrev main_call2_call0_call0_v5 : Ref sig .tc := ⟨.hbm, 151, rfl⟩
abbrev main_call2_call0_call0_v6 : Ref sig .tc := ⟨.hbm, 152, rfl⟩
abbrev main_call2_call0_call0_c_0 : Ref sig .tc := ⟨.hbm, 153, rfl⟩
abbrev main_call2_call0_call0_v7 : Ref sig .tc := ⟨.hbm, 154, rfl⟩
abbrev main_call2_call0_call0_v8 : Ref sig .tc := ⟨.hbm, 155, rfl⟩
abbrev main_call2_call0_call0_c_1 : Ref sig .tc := ⟨.hbm, 156, rfl⟩
abbrev main_call2_call0_call0_v9 : Ref sig .tc := ⟨.hbm, 157, rfl⟩
abbrev main_call2_call0_call0_v10 : Ref sig .tc := ⟨.hbm, 158, rfl⟩
abbrev main_call2_call0_call0_v11 : Ref sig .tc := ⟨.hbm, 159, rfl⟩
abbrev main_call2_call0_call0_v12 : Ref sig .tc := ⟨.hbm, 160, rfl⟩
abbrev main_call2_call0_call0_v13 : Ref sig .tc := ⟨.hbm, 161, rfl⟩
abbrev main_call2_call0_call0_c_2 : Ref sig .tc := ⟨.hbm, 162, rfl⟩
abbrev main_call2_call0_call0_v14 : Ref sig .tc := ⟨.hbm, 163, rfl⟩
abbrev main_call2_call0_call0_v15 : Ref sig .tc := ⟨.hbm, 164, rfl⟩
abbrev main_call2_call0_call0_c_3 : Ref sig .tc := ⟨.hbm, 165, rfl⟩
abbrev main_call2_call0_call0_v16 : Ref sig .tc := ⟨.hbm, 166, rfl⟩
abbrev main_call2_call0_call0_v17 : Ref sig .tc := ⟨.hbm, 167, rfl⟩
abbrev main_call2_call0_call0_v18 : Ref sig .tc := ⟨.hbm, 168, rfl⟩
abbrev main_call2_call0_call0_v19 : Ref sig .tc := ⟨.hbm, 169, rfl⟩
abbrev main_call2_call0_call0_v20 : Ref sig .tc := ⟨.hbm, 170, rfl⟩
abbrev main_call2_call0_call0_c_4 : Ref sig .tc := ⟨.hbm, 171, rfl⟩
abbrev main_call2_call0_call0_v21 : Ref sig .tc := ⟨.hbm, 172, rfl⟩
abbrev main_call2_call0_call0_v22 : Ref sig .tc := ⟨.hbm, 173, rfl⟩
abbrev main_call2_call0_call0_c_5 : Ref sig .tc := ⟨.hbm, 174, rfl⟩
abbrev main_call2_call0_call0_v23 : Ref sig .tc := ⟨.hbm, 175, rfl⟩
abbrev main_call2_call0_call0_v24 : Ref sig .tc := ⟨.hbm, 176, rfl⟩
abbrev main_call2_call0_call0_v25 : Ref sig .tc := ⟨.hbm, 177, rfl⟩
abbrev main_call2_call0_call0_v26 : Ref sig .tc := ⟨.hbm, 178, rfl⟩
abbrev main_call2_call0_call0_v27 : Ref sig .tc := ⟨.hbm, 179, rfl⟩
abbrev main_call2_call0_call0_c_6 : Ref sig .tc := ⟨.hbm, 180, rfl⟩
abbrev main_call2_call0_call0_v28 : Ref sig .tc := ⟨.hbm, 181, rfl⟩
abbrev main_call2_call0_call0_v29 : Ref sig .tc := ⟨.hbm, 182, rfl⟩
abbrev main_call2_call0_call0_c_7 : Ref sig .tc := ⟨.hbm, 183, rfl⟩
abbrev main_call2_call0_call0_v30 : Ref sig .tc := ⟨.hbm, 184, rfl⟩
abbrev main_call2_call0_call0_v31 : Ref sig .tc := ⟨.hbm, 185, rfl⟩
abbrev main_call2_call0_call0_v32 : Ref sig .tc := ⟨.hbm, 186, rfl⟩
abbrev main_call2_call0_call0_v33 : Ref sig .tc := ⟨.hbm, 187, rfl⟩
abbrev main_call2_call0_call0_v34 : Ref sig .tc := ⟨.hbm, 188, rfl⟩
abbrev main_call2_call0_call0_v35 : Ref sig .tc := ⟨.hbm, 189, rfl⟩
abbrev main_call2_call0_call0_v36 : Ref sig .tc := ⟨.hbm, 190, rfl⟩
abbrev main_call2_call0_call0_v37 : Ref sig .tc := ⟨.hbm, 191, rfl⟩
abbrev main_call2_call0_call0_c_8 : Ref sig .tc := ⟨.hbm, 192, rfl⟩
abbrev main_call2_call0_call0_v38 : Ref sig .tc := ⟨.hbm, 193, rfl⟩
abbrev main_call2_call0_call0_v39 : Ref sig .tc := ⟨.hbm, 194, rfl⟩
abbrev main_call2_call0_call0_v40 : Ref sig .tc := ⟨.hbm, 195, rfl⟩
abbrev main_call2_call0_call0_c_9 : Ref sig .tc := ⟨.hbm, 196, rfl⟩
abbrev main_call2_call0_call0_v41 : Ref sig .tc := ⟨.hbm, 197, rfl⟩
abbrev main_call2_call0_call0_v42 : Ref sig .tc := ⟨.hbm, 198, rfl⟩
abbrev main_call2_call0_call0_c_10 : Ref sig .tc := ⟨.hbm, 199, rfl⟩
abbrev main_call2_call0_call0_v43 : Ref sig .tc := ⟨.hbm, 200, rfl⟩
abbrev main_call2_call0_call0_v44 : Ref sig .tc := ⟨.hbm, 201, rfl⟩
abbrev main_call2_call0_call0_v45 : Ref sig .tc := ⟨.hbm, 202, rfl⟩
abbrev main_call2_call0_call0_v46 : Ref sig .tc := ⟨.hbm, 203, rfl⟩
abbrev main_call2_call0_call0_v47 : Ref sig .tc := ⟨.hbm, 204, rfl⟩
abbrev main_call2_call0_call0_c_11 : Ref sig .tc := ⟨.hbm, 205, rfl⟩
abbrev main_call2_call0_call0_v48 : Ref sig .tc := ⟨.hbm, 206, rfl⟩
abbrev main_call2_call0_call0_v49 : Ref sig .tc := ⟨.hbm, 207, rfl⟩
abbrev main_call2_call0_call0_c_12 : Ref sig .tc := ⟨.hbm, 208, rfl⟩
abbrev main_call2_call0_call0_v50 : Ref sig .tc := ⟨.hbm, 209, rfl⟩
abbrev main_call2_call0_call0_v51 : Ref sig .tc := ⟨.hbm, 210, rfl⟩
abbrev main_call2_call0_call0_v52 : Ref sig .tc := ⟨.hbm, 211, rfl⟩
abbrev main_call2_call0_call0_v53 : Ref sig .tc := ⟨.hbm, 212, rfl⟩
abbrev main_call2_call0_call0_v54 : Ref sig .tc := ⟨.hbm, 213, rfl⟩
abbrev main_call2_call0_call0_c_13 : Ref sig .tc := ⟨.hbm, 214, rfl⟩
abbrev main_call2_call0_call0_v55 : Ref sig .tc := ⟨.hbm, 215, rfl⟩
abbrev main_call2_call0_call0_v56 : Ref sig .tc := ⟨.hbm, 216, rfl⟩
abbrev main_call2_call0_call0_c_14 : Ref sig .tc := ⟨.hbm, 217, rfl⟩
abbrev main_call2_call0_call0_v57 : Ref sig .tc := ⟨.hbm, 218, rfl⟩
abbrev main_call2_call0_call0_v58 : Ref sig .tc := ⟨.hbm, 219, rfl⟩
abbrev main_call2_call0_call0_v59 : Ref sig .tc := ⟨.hbm, 220, rfl⟩
abbrev main_call2_call0_call0_v60 : Ref sig .tc := ⟨.hbm, 221, rfl⟩
abbrev main_call2_call0_call0_v61 : Ref sig .tc := ⟨.hbm, 222, rfl⟩
abbrev main_call2_call0_call0_c_15 : Ref sig .tc := ⟨.hbm, 223, rfl⟩
abbrev main_call2_call0_call0_v62 : Ref sig .tc := ⟨.hbm, 224, rfl⟩
abbrev main_call2_call0_call0_v63 : Ref sig .tc := ⟨.hbm, 225, rfl⟩
abbrev main_call2_call0_call0_c_16 : Ref sig .tc := ⟨.hbm, 226, rfl⟩
abbrev main_call2_call0_call0_v64 : Ref sig .tc := ⟨.hbm, 227, rfl⟩
abbrev main_call2_call0_call0_v65 : Ref sig .tc := ⟨.hbm, 228, rfl⟩
abbrev main_call2_call0_call0_v66 : Ref sig .tc := ⟨.hbm, 229, rfl⟩
abbrev main_call2_call0_call0_v67 : Ref sig .tc := ⟨.hbm, 230, rfl⟩
abbrev main_call2_call0_call0_v68 : Ref sig .tc := ⟨.hbm, 231, rfl⟩
abbrev main_call2_call0_call0_v69 : Ref sig .tc := ⟨.hbm, 232, rfl⟩
abbrev main_call2_call0_call0_v70 : Ref sig .tc := ⟨.hbm, 233, rfl⟩
abbrev main_call2_call0_call0_v71 : Ref sig .tc := ⟨.hbm, 234, rfl⟩
abbrev main_call2_call0_call0_c_17 : Ref sig .tc := ⟨.hbm, 235, rfl⟩
abbrev main_call2_call0_call0_v72 : Ref sig .tc := ⟨.hbm, 236, rfl⟩
abbrev main_call2_call0_call0_v73 : Ref sig .tc := ⟨.hbm, 237, rfl⟩
abbrev main_call2_call0_call0_v74 : Ref sig .tc := ⟨.hbm, 238, rfl⟩
abbrev main_call2_call0_call0_c_18 : Ref sig .tc := ⟨.hbm, 239, rfl⟩
abbrev main_call2_call0_call0_v75 : Ref sig .tc := ⟨.hbm, 240, rfl⟩
abbrev main_call2_call0_call0_v76 : Ref sig .tc := ⟨.hbm, 241, rfl⟩
abbrev main_call2_call0_call0_c_19 : Ref sig .tc := ⟨.hbm, 242, rfl⟩
abbrev main_call2_call0_call0_v77 : Ref sig .tc := ⟨.hbm, 243, rfl⟩
abbrev main_call2_call0_call0_v78 : Ref sig .tc := ⟨.hbm, 244, rfl⟩
abbrev main_call2_call0_call0_v79 : Ref sig .tc := ⟨.hbm, 245, rfl⟩
abbrev main_call2_call0_call0_v80 : Ref sig .tc := ⟨.hbm, 246, rfl⟩
abbrev main_call2_call0_call0_v81 : Ref sig .tc := ⟨.hbm, 247, rfl⟩
abbrev main_call2_call0_call0_c_20 : Ref sig .tc := ⟨.hbm, 248, rfl⟩
abbrev main_call2_call0_call0_v82 : Ref sig .tc := ⟨.hbm, 249, rfl⟩
abbrev main_call2_call0_call0_v83 : Ref sig .tc := ⟨.hbm, 250, rfl⟩
abbrev main_call2_call0_call0_c_21 : Ref sig .tc := ⟨.hbm, 251, rfl⟩
abbrev main_call2_call0_call0_v84 : Ref sig .tc := ⟨.hbm, 252, rfl⟩
abbrev main_call2_call0_call0_v85 : Ref sig .tc := ⟨.hbm, 253, rfl⟩
abbrev main_call2_call0_call0_v86 : Ref sig .tc := ⟨.hbm, 254, rfl⟩
abbrev main_call2_call0_call0_v87 : Ref sig .tc := ⟨.hbm, 255, rfl⟩
abbrev main_call2_call0_call0_v88 : Ref sig .tc := ⟨.hbm, 256, rfl⟩
abbrev main_call2_call0_call0_c_22 : Ref sig .tc := ⟨.hbm, 257, rfl⟩
abbrev main_call2_call0_call0_v89 : Ref sig .tc := ⟨.hbm, 258, rfl⟩
abbrev main_call2_call0_call0_v90 : Ref sig .tc := ⟨.hbm, 259, rfl⟩
abbrev main_call2_call0_call0_c_23 : Ref sig .tc := ⟨.hbm, 260, rfl⟩
abbrev main_call2_call0_call0_v91 : Ref sig .tc := ⟨.hbm, 261, rfl⟩
abbrev main_call2_call0_call0_v92 : Ref sig .tc := ⟨.hbm, 262, rfl⟩
abbrev main_call2_call0_call0_v93 : Ref sig .tc := ⟨.hbm, 263, rfl⟩
abbrev main_call2_call0_call0_v94 : Ref sig .tc := ⟨.hbm, 264, rfl⟩
abbrev main_call2_call0_call0_v95 : Ref sig .tc := ⟨.hbm, 265, rfl⟩
abbrev main_call2_call0_call0_c_24 : Ref sig .tc := ⟨.hbm, 266, rfl⟩
abbrev main_call2_call0_call0_v96 : Ref sig .tc := ⟨.hbm, 267, rfl⟩
abbrev main_call2_call0_call0_v97 : Ref sig .tc := ⟨.hbm, 268, rfl⟩
abbrev main_call2_call0_call0_c_25 : Ref sig .tc := ⟨.hbm, 269, rfl⟩
abbrev main_call2_call0_call0_v98 : Ref sig .tc := ⟨.hbm, 270, rfl⟩
abbrev main_call2_call0_call0_v99 : Ref sig .tc := ⟨.hbm, 271, rfl⟩
abbrev main_call2_call0_call0_v100 : Ref sig .tc := ⟨.hbm, 272, rfl⟩
abbrev main_call2_call0_call0_v101 : Ref sig .tc := ⟨.hbm, 273, rfl⟩
abbrev main_call2_call0_call0_v102 : Ref sig .tc := ⟨.hbm, 274, rfl⟩
abbrev main_call2_call0_call0_v103 : Ref sig .tc := ⟨.hbm, 275, rfl⟩
abbrev main_call2_call0_call0_v104 : Ref sig .tc := ⟨.hbm, 276, rfl⟩
abbrev main_call2_call0_call0_v105 : Ref sig .tc := ⟨.hbm, 277, rfl⟩
abbrev main_call2_call0_call0_c_26 : Ref sig .tc := ⟨.hbm, 278, rfl⟩
abbrev main_call2_call0_call0_v106 : Ref sig .tc := ⟨.hbm, 279, rfl⟩
abbrev main_call2_call0_call0_v107 : Ref sig .tc := ⟨.hbm, 280, rfl⟩
abbrev main_call2_call0_call0_v108 : Ref sig .tc := ⟨.hbm, 281, rfl⟩
abbrev main_call2_call0_call0_c_27 : Ref sig .tc := ⟨.hbm, 282, rfl⟩
abbrev main_call2_call0_call0_v109 : Ref sig .tc := ⟨.hbm, 283, rfl⟩
abbrev main_call2_call0_call0_v110 : Ref sig .tc := ⟨.hbm, 284, rfl⟩
abbrev main_call2_call0_call0_c_28 : Ref sig .tc := ⟨.hbm, 285, rfl⟩
abbrev main_call2_call0_call0_v111 : Ref sig .tc := ⟨.hbm, 286, rfl⟩
abbrev main_call2_call0_call0_v112 : Ref sig .tc := ⟨.hbm, 287, rfl⟩
abbrev main_call2_call0_call0_v113 : Ref sig .tc := ⟨.hbm, 288, rfl⟩
abbrev main_call2_call0_call0_v114 : Ref sig .tc := ⟨.hbm, 289, rfl⟩
abbrev main_call2_call0_call0_v115 : Ref sig .tc := ⟨.hbm, 290, rfl⟩
abbrev main_call2_call0_call0_c_29 : Ref sig .tc := ⟨.hbm, 291, rfl⟩
abbrev main_call2_call0_call0_v116 : Ref sig .tc := ⟨.hbm, 292, rfl⟩
abbrev main_call2_call0_call0_v117 : Ref sig .tc := ⟨.hbm, 293, rfl⟩
abbrev main_call2_call0_call0_c_30 : Ref sig .tc := ⟨.hbm, 294, rfl⟩
abbrev main_call2_call0_call0_v118 : Ref sig .tc := ⟨.hbm, 295, rfl⟩
abbrev main_call2_call0_call0_v119 : Ref sig .tc := ⟨.hbm, 296, rfl⟩
abbrev main_call2_call0_call0_v120 : Ref sig .tc := ⟨.hbm, 297, rfl⟩
abbrev main_call2_call0_call0_v121 : Ref sig .tc := ⟨.hbm, 298, rfl⟩
abbrev main_call2_call0_call0_v122 : Ref sig .tc := ⟨.hbm, 299, rfl⟩
abbrev main_call2_call0_call0_c_31 : Ref sig .tc := ⟨.hbm, 300, rfl⟩
abbrev main_call2_call0_call0_v123 : Ref sig .tc := ⟨.hbm, 301, rfl⟩
abbrev main_call2_call0_call0_v124 : Ref sig .tc := ⟨.hbm, 302, rfl⟩
abbrev main_call2_call0_call0_c_32 : Ref sig .tc := ⟨.hbm, 303, rfl⟩
abbrev main_call2_call0_call0_v125 : Ref sig .tc := ⟨.hbm, 304, rfl⟩
abbrev main_call2_call0_call0_v126 : Ref sig .tc := ⟨.hbm, 305, rfl⟩
abbrev main_call2_call0_call0_v127 : Ref sig .tc := ⟨.hbm, 306, rfl⟩
abbrev main_call2_call0_call0_v128 : Ref sig .tc := ⟨.hbm, 307, rfl⟩
abbrev main_call2_call0_call0_v129 : Ref sig .tc := ⟨.hbm, 308, rfl⟩
abbrev main_call2_call0_call0_c_33 : Ref sig .tc := ⟨.hbm, 309, rfl⟩
abbrev main_call2_call0_call0_v130 : Ref sig .tc := ⟨.hbm, 310, rfl⟩
abbrev main_call2_call0_call0_v131 : Ref sig .tc := ⟨.hbm, 311, rfl⟩
abbrev main_call2_call0_call0_c_34 : Ref sig .tc := ⟨.hbm, 312, rfl⟩
abbrev main_call2_call0_call0_v132 : Ref sig .tc := ⟨.hbm, 313, rfl⟩
abbrev main_call2_call0_call0_v133 : Ref sig .tc := ⟨.hbm, 314, rfl⟩
abbrev main_call2_call0_call0_v134 : Ref sig .tc := ⟨.hbm, 315, rfl⟩
abbrev main_call2_call0_call0_v135 : Ref sig .tc := ⟨.hbm, 316, rfl⟩
abbrev main_call2_call0_call0_v136 : Ref sig .tc := ⟨.hbm, 317, rfl⟩
abbrev main_call2_call0_call0_v137 : Ref sig .tc := ⟨.hbm, 318, rfl⟩
abbrev main_call2_call0_call0_v138 : Ref sig .tc := ⟨.hbm, 319, rfl⟩
abbrev main_call2_call0_call0_v139 : Ref sig .tc := ⟨.hbm, 320, rfl⟩
abbrev main_call2_call0_call0_c_35 : Ref sig .tc := ⟨.hbm, 321, rfl⟩
abbrev main_call2_call0_call0_v140 : Ref sig .tc := ⟨.hbm, 322, rfl⟩
abbrev main_call2_call0_call0_v141 : Ref sig .tc := ⟨.hbm, 323, rfl⟩
abbrev main_call2_call0_call0_v142 : Ref sig .tc := ⟨.hbm, 324, rfl⟩
abbrev main_call2_call0_call0_c_36 : Ref sig .tc := ⟨.hbm, 325, rfl⟩
abbrev main_call2_call0_call0_v143 : Ref sig .tc := ⟨.hbm, 326, rfl⟩
abbrev main_call2_call0_call0_v144 : Ref sig .tc := ⟨.hbm, 327, rfl⟩
abbrev main_call2_call0_call0_c_37 : Ref sig .tc := ⟨.hbm, 328, rfl⟩
abbrev main_call2_call0_call0_v145 : Ref sig .tc := ⟨.hbm, 329, rfl⟩
abbrev main_call2_call0_call0_v146 : Ref sig .tc := ⟨.hbm, 330, rfl⟩
abbrev main_call2_call0_call0_v147 : Ref sig .tc := ⟨.hbm, 331, rfl⟩
abbrev main_call2_call0_call0_v148 : Ref sig .tc := ⟨.hbm, 332, rfl⟩
abbrev main_call2_call0_call0_v149 : Ref sig .tc := ⟨.hbm, 333, rfl⟩
abbrev main_call2_call0_call0_c_38 : Ref sig .tc := ⟨.hbm, 334, rfl⟩
abbrev main_call2_call0_call0_v150 : Ref sig .tc := ⟨.hbm, 335, rfl⟩
abbrev main_call2_call0_call0_v151 : Ref sig .tc := ⟨.hbm, 336, rfl⟩
abbrev main_call2_call0_call0_c_39 : Ref sig .tc := ⟨.hbm, 337, rfl⟩
abbrev main_call2_call0_call0_v152 : Ref sig .tc := ⟨.hbm, 338, rfl⟩
abbrev main_call2_call0_call0_v153 : Ref sig .tc := ⟨.hbm, 339, rfl⟩
abbrev main_call2_call0_call0_v154 : Ref sig .tc := ⟨.hbm, 340, rfl⟩
abbrev main_call2_call0_call0_v155 : Ref sig .tc := ⟨.hbm, 341, rfl⟩
abbrev main_call2_call0_call0_v156 : Ref sig .tc := ⟨.hbm, 342, rfl⟩
abbrev main_call2_call0_call0_c_40 : Ref sig .tc := ⟨.hbm, 343, rfl⟩
abbrev main_call2_call0_call0_v157 : Ref sig .tc := ⟨.hbm, 344, rfl⟩
abbrev main_call2_call0_call0_v158 : Ref sig .tc := ⟨.hbm, 345, rfl⟩
abbrev main_call2_call0_call0_c_41 : Ref sig .tc := ⟨.hbm, 346, rfl⟩
abbrev main_call2_call0_call0_v159 : Ref sig .tc := ⟨.hbm, 347, rfl⟩
abbrev main_call2_call0_call0_v160 : Ref sig .tc := ⟨.hbm, 348, rfl⟩
abbrev main_call2_call0_call0_v161 : Ref sig .tc := ⟨.hbm, 349, rfl⟩
abbrev main_call2_call0_call0_v162 : Ref sig .tc := ⟨.hbm, 350, rfl⟩
abbrev main_call2_call0_call0_v163 : Ref sig .tc := ⟨.hbm, 351, rfl⟩
abbrev main_call2_call0_call0_c_42 : Ref sig .tc := ⟨.hbm, 352, rfl⟩
abbrev main_call2_call0_call0_v164 : Ref sig .tc := ⟨.hbm, 353, rfl⟩
abbrev main_call2_call0_call0_v165 : Ref sig .tc := ⟨.hbm, 354, rfl⟩
abbrev main_call2_call0_call0_c_43 : Ref sig .tc := ⟨.hbm, 355, rfl⟩
abbrev main_call2_call0_call0_v166 : Ref sig .tc := ⟨.hbm, 356, rfl⟩
abbrev main_call2_call0_call0_v167 : Ref sig .tc := ⟨.hbm, 357, rfl⟩
abbrev main_call2_call0_call0_v168 : Ref sig .tc := ⟨.hbm, 358, rfl⟩
abbrev main_call2_call0_call0_v169 : Ref sig .tc := ⟨.hbm, 359, rfl⟩
abbrev main_call2_call0_call0_v170 : Ref sig .tc := ⟨.hbm, 360, rfl⟩
abbrev main_call2_call0_v11_0 : Ref sig .tc := ⟨.hbm, 361, rfl⟩
abbrev main_call2_call0_call0_v172 : Ref sig .tc := ⟨.hbm, 362, rfl⟩
abbrev main_call2_call0_call0_v173 : Ref sig .tc := ⟨.hbm, 363, rfl⟩
abbrev main_call2_call0_call0_c_44 : Ref sig .tc := ⟨.hbm, 364, rfl⟩
abbrev main_call2_call0_call0_v174 : Ref sig .tc := ⟨.hbm, 365, rfl⟩
abbrev main_call2_call0_v11_1 : Ref sig .tc := ⟨.hbm, 366, rfl⟩
abbrev main_call2_call0_v12 : Ref sig .tc := ⟨.hbm, 367, rfl⟩
abbrev main_call2_call0_v13 : Ref sig .tc := ⟨.hbm, 368, rfl⟩
abbrev main_call2_v0 : Ref sig .tc := ⟨.hbm, 369, rfl⟩
abbrev main_call2_v1 : Ref sig .tc := ⟨.hbm, 370, rfl⟩
abbrev main_call2_v2 : Ref sig .tc := ⟨.hbm, 371, rfl⟩
abbrev main_call2_v3 : Ref sig .tc := ⟨.hbm, 372, rfl⟩
abbrev main_call2_v4 : Ref sig .tc := ⟨.hbm, 373, rfl⟩
abbrev main_call2_v5 : Ref sig .tc := ⟨.hbm, 374, rfl⟩
abbrev main_call2_v6 : Ref sig .tc := ⟨.hbm, 375, rfl⟩
abbrev main_call2_v7 : Ref sig .tc := ⟨.hbm, 376, rfl⟩
abbrev main_call2_v8 : Ref sig .tc := ⟨.hbm, 377, rfl⟩
abbrev main_call2_v9 : Ref sig .tc := ⟨.hbm, 378, rfl⟩
abbrev main_call2_c : Ref sig .tc := ⟨.hbm, 379, rfl⟩
abbrev main_call2_v10 : Ref sig .tc := ⟨.hbm, 380, rfl⟩
abbrev main_call2_v11 : Ref sig .tc := ⟨.hbm, 381, rfl⟩
abbrev main_call2_c_0 : Ref sig .tc := ⟨.hbm, 382, rfl⟩
abbrev main_call2_v12 : Ref sig .tc := ⟨.hbm, 383, rfl⟩
abbrev main_call2_v13 : Ref sig .tc := ⟨.hbm, 384, rfl⟩
abbrev main_call2_v14 : Ref sig .tc := ⟨.hbm, 385, rfl⟩
abbrev main_call2_v15 : Ref sig .tc := ⟨.hbm, 386, rfl⟩
abbrev main_call2_call1_v0 : Ref sig .tc := ⟨.hbm, 387, rfl⟩
abbrev main_call2_call1_c : Ref sig .tc := ⟨.hbm, 388, rfl⟩
abbrev main_call2_call1_v1 : Ref sig .tc := ⟨.hbm, 389, rfl⟩
abbrev main_call2_call1_v2 : Ref sig .tc := ⟨.hbm, 390, rfl⟩
abbrev main_call2_call1_v3 : Ref sig .tc := ⟨.hbm, 391, rfl⟩
abbrev main_call2_call1_v4 : Ref sig .tc := ⟨.hbm, 392, rfl⟩
abbrev main_call2_call1_v5 : Ref sig .tc := ⟨.hbm, 393, rfl⟩
abbrev main_call2_call1_v6 : Ref sig .tc := ⟨.hbm, 394, rfl⟩
abbrev main_call2_call1_c_0 : Ref sig .tc := ⟨.hbm, 395, rfl⟩
abbrev main_call2_call1_v7 : Ref sig .tc := ⟨.hbm, 396, rfl⟩
abbrev main_call2_call1_v8 : Ref sig .tc := ⟨.hbm, 397, rfl⟩
abbrev main_call2_call1_c_1 : Ref sig .tc := ⟨.hbm, 398, rfl⟩
abbrev main_call2_call1_v9 : Ref sig .tc := ⟨.hbm, 399, rfl⟩
abbrev main_call2_call1_v10 : Ref sig .tc := ⟨.hbm, 400, rfl⟩
abbrev main_call2_call1_v11 : Ref sig .tc := ⟨.hbm, 401, rfl⟩
abbrev main_call2_call1_v12 : Ref sig .tc := ⟨.hbm, 402, rfl⟩
abbrev main_call2_call1_v13 : Ref sig .tc := ⟨.hbm, 403, rfl⟩
abbrev main_call2_call1_c_2 : Ref sig .tc := ⟨.hbm, 404, rfl⟩
abbrev main_call2_call1_v14 : Ref sig .tc := ⟨.hbm, 405, rfl⟩
abbrev main_call2_call1_v15 : Ref sig .tc := ⟨.hbm, 406, rfl⟩
abbrev main_call2_call1_c_3 : Ref sig .tc := ⟨.hbm, 407, rfl⟩
abbrev main_call2_call1_v16 : Ref sig .tc := ⟨.hbm, 408, rfl⟩
abbrev main_call2_call1_v17 : Ref sig .tc := ⟨.hbm, 409, rfl⟩
abbrev main_call2_call1_v18 : Ref sig .tc := ⟨.hbm, 410, rfl⟩
abbrev main_call2_call1_v19 : Ref sig .tc := ⟨.hbm, 411, rfl⟩
abbrev main_call2_call1_v20 : Ref sig .tc := ⟨.hbm, 412, rfl⟩
abbrev main_call2_call1_c_4 : Ref sig .tc := ⟨.hbm, 413, rfl⟩
abbrev main_call2_call1_v21 : Ref sig .tc := ⟨.hbm, 414, rfl⟩
abbrev main_call2_call1_v22 : Ref sig .tc := ⟨.hbm, 415, rfl⟩
abbrev main_call2_call1_c_5 : Ref sig .tc := ⟨.hbm, 416, rfl⟩
abbrev main_call2_call1_v23 : Ref sig .tc := ⟨.hbm, 417, rfl⟩
abbrev main_call2_call1_v24 : Ref sig .tc := ⟨.hbm, 418, rfl⟩
abbrev main_call2_call1_v25 : Ref sig .tc := ⟨.hbm, 419, rfl⟩
abbrev main_call2_call1_v26 : Ref sig .tc := ⟨.hbm, 420, rfl⟩
abbrev main_call2_call1_v27 : Ref sig .tc := ⟨.hbm, 421, rfl⟩
abbrev main_call2_call1_c_6 : Ref sig .tc := ⟨.hbm, 422, rfl⟩
abbrev main_call2_call1_v28 : Ref sig .tc := ⟨.hbm, 423, rfl⟩
abbrev main_call2_call1_v29 : Ref sig .tc := ⟨.hbm, 424, rfl⟩
abbrev main_call2_call1_c_7 : Ref sig .tc := ⟨.hbm, 425, rfl⟩
abbrev main_call2_call1_v30 : Ref sig .tc := ⟨.hbm, 426, rfl⟩
abbrev main_call2_call1_v31 : Ref sig .tc := ⟨.hbm, 427, rfl⟩
abbrev main_call2_call1_v32 : Ref sig .tc := ⟨.hbm, 428, rfl⟩
abbrev main_call2_call1_v33 : Ref sig .tc := ⟨.hbm, 429, rfl⟩
abbrev main_call2_call1_v34 : Ref sig .tc := ⟨.hbm, 430, rfl⟩
abbrev main_call2_call1_v35 : Ref sig .tc := ⟨.hbm, 431, rfl⟩
abbrev main_call2_call1_v36 : Ref sig .tc := ⟨.hbm, 432, rfl⟩
abbrev main_call2_call1_v37 : Ref sig .tc := ⟨.hbm, 433, rfl⟩
abbrev main_call2_call1_c_8 : Ref sig .tc := ⟨.hbm, 434, rfl⟩
abbrev main_call2_call1_v38 : Ref sig .tc := ⟨.hbm, 435, rfl⟩
abbrev main_call2_call1_v39 : Ref sig .tc := ⟨.hbm, 436, rfl⟩
abbrev main_call2_call1_v40 : Ref sig .tc := ⟨.hbm, 437, rfl⟩
abbrev main_call2_call1_c_9 : Ref sig .tc := ⟨.hbm, 438, rfl⟩
abbrev main_call2_call1_v41 : Ref sig .tc := ⟨.hbm, 439, rfl⟩
abbrev main_call2_call1_v42 : Ref sig .tc := ⟨.hbm, 440, rfl⟩
abbrev main_call2_call1_c_10 : Ref sig .tc := ⟨.hbm, 441, rfl⟩
abbrev main_call2_call1_v43 : Ref sig .tc := ⟨.hbm, 442, rfl⟩
abbrev main_call2_call1_v44 : Ref sig .tc := ⟨.hbm, 443, rfl⟩
abbrev main_call2_call1_v45 : Ref sig .tc := ⟨.hbm, 444, rfl⟩
abbrev main_call2_call1_v46 : Ref sig .tc := ⟨.hbm, 445, rfl⟩
abbrev main_call2_call1_v47 : Ref sig .tc := ⟨.hbm, 446, rfl⟩
abbrev main_call2_call1_c_11 : Ref sig .tc := ⟨.hbm, 447, rfl⟩
abbrev main_call2_call1_v48 : Ref sig .tc := ⟨.hbm, 448, rfl⟩
abbrev main_call2_call1_v49 : Ref sig .tc := ⟨.hbm, 449, rfl⟩
abbrev main_call2_call1_c_12 : Ref sig .tc := ⟨.hbm, 450, rfl⟩
abbrev main_call2_call1_v50 : Ref sig .tc := ⟨.hbm, 451, rfl⟩
abbrev main_call2_call1_v51 : Ref sig .tc := ⟨.hbm, 452, rfl⟩
abbrev main_call2_call1_v52 : Ref sig .tc := ⟨.hbm, 453, rfl⟩
abbrev main_call2_call1_v53 : Ref sig .tc := ⟨.hbm, 454, rfl⟩
abbrev main_call2_call1_v54 : Ref sig .tc := ⟨.hbm, 455, rfl⟩
abbrev main_call2_call1_c_13 : Ref sig .tc := ⟨.hbm, 456, rfl⟩
abbrev main_call2_call1_v55 : Ref sig .tc := ⟨.hbm, 457, rfl⟩
abbrev main_call2_call1_v56 : Ref sig .tc := ⟨.hbm, 458, rfl⟩
abbrev main_call2_call1_c_14 : Ref sig .tc := ⟨.hbm, 459, rfl⟩
abbrev main_call2_call1_v57 : Ref sig .tc := ⟨.hbm, 460, rfl⟩
abbrev main_call2_call1_v58 : Ref sig .tc := ⟨.hbm, 461, rfl⟩
abbrev main_call2_call1_v59 : Ref sig .tc := ⟨.hbm, 462, rfl⟩
abbrev main_call2_call1_v60 : Ref sig .tc := ⟨.hbm, 463, rfl⟩
abbrev main_call2_call1_v61 : Ref sig .tc := ⟨.hbm, 464, rfl⟩
abbrev main_call2_call1_c_15 : Ref sig .tc := ⟨.hbm, 465, rfl⟩
abbrev main_call2_call1_v62 : Ref sig .tc := ⟨.hbm, 466, rfl⟩
abbrev main_call2_call1_v63 : Ref sig .tc := ⟨.hbm, 467, rfl⟩
abbrev main_call2_call1_c_16 : Ref sig .tc := ⟨.hbm, 468, rfl⟩
abbrev main_call2_call1_v64 : Ref sig .tc := ⟨.hbm, 469, rfl⟩
abbrev main_call2_call1_v65 : Ref sig .tc := ⟨.hbm, 470, rfl⟩
abbrev main_call2_call1_v66 : Ref sig .tc := ⟨.hbm, 471, rfl⟩
abbrev main_call2_call1_v67 : Ref sig .tc := ⟨.hbm, 472, rfl⟩
abbrev main_call2_call1_v68 : Ref sig .tc := ⟨.hbm, 473, rfl⟩
abbrev main_call2_call1_v69 : Ref sig .tc := ⟨.hbm, 474, rfl⟩
abbrev main_call2_call1_v70 : Ref sig .tc := ⟨.hbm, 475, rfl⟩
abbrev main_call2_call1_v71 : Ref sig .tc := ⟨.hbm, 476, rfl⟩
abbrev main_call2_call1_c_17 : Ref sig .tc := ⟨.hbm, 477, rfl⟩
abbrev main_call2_call1_v72 : Ref sig .tc := ⟨.hbm, 478, rfl⟩
abbrev main_call2_call1_v73 : Ref sig .tc := ⟨.hbm, 479, rfl⟩
abbrev main_call2_call1_v74 : Ref sig .tc := ⟨.hbm, 480, rfl⟩
abbrev main_call2_call1_c_18 : Ref sig .tc := ⟨.hbm, 481, rfl⟩
abbrev main_call2_call1_v75 : Ref sig .tc := ⟨.hbm, 482, rfl⟩
abbrev main_call2_call1_v76 : Ref sig .tc := ⟨.hbm, 483, rfl⟩
abbrev main_call2_call1_c_19 : Ref sig .tc := ⟨.hbm, 484, rfl⟩
abbrev main_call2_call1_v77 : Ref sig .tc := ⟨.hbm, 485, rfl⟩
abbrev main_call2_call1_v78 : Ref sig .tc := ⟨.hbm, 486, rfl⟩
abbrev main_call2_call1_v79 : Ref sig .tc := ⟨.hbm, 487, rfl⟩
abbrev main_call2_call1_v80 : Ref sig .tc := ⟨.hbm, 488, rfl⟩
abbrev main_call2_call1_v81 : Ref sig .tc := ⟨.hbm, 489, rfl⟩
abbrev main_call2_call1_c_20 : Ref sig .tc := ⟨.hbm, 490, rfl⟩
abbrev main_call2_call1_v82 : Ref sig .tc := ⟨.hbm, 491, rfl⟩
abbrev main_call2_call1_v83 : Ref sig .tc := ⟨.hbm, 492, rfl⟩
abbrev main_call2_call1_c_21 : Ref sig .tc := ⟨.hbm, 493, rfl⟩
abbrev main_call2_call1_v84 : Ref sig .tc := ⟨.hbm, 494, rfl⟩
abbrev main_call2_call1_v85 : Ref sig .tc := ⟨.hbm, 495, rfl⟩
abbrev main_call2_call1_v86 : Ref sig .tc := ⟨.hbm, 496, rfl⟩
abbrev main_call2_call1_v87 : Ref sig .tc := ⟨.hbm, 497, rfl⟩
abbrev main_call2_call1_v88 : Ref sig .tc := ⟨.hbm, 498, rfl⟩
abbrev main_call2_call1_c_22 : Ref sig .tc := ⟨.hbm, 499, rfl⟩
abbrev main_call2_call1_v89 : Ref sig .tc := ⟨.hbm, 500, rfl⟩
abbrev main_call2_call1_v90 : Ref sig .tc := ⟨.hbm, 501, rfl⟩
abbrev main_call2_call1_c_23 : Ref sig .tc := ⟨.hbm, 502, rfl⟩
abbrev main_call2_call1_v91 : Ref sig .tc := ⟨.hbm, 503, rfl⟩
abbrev main_call2_call1_v92 : Ref sig .tc := ⟨.hbm, 504, rfl⟩
abbrev main_call2_call1_v93 : Ref sig .tc := ⟨.hbm, 505, rfl⟩
abbrev main_call2_call1_v94 : Ref sig .tc := ⟨.hbm, 506, rfl⟩
abbrev main_call2_call1_v95 : Ref sig .tc := ⟨.hbm, 507, rfl⟩
abbrev main_call2_call1_c_24 : Ref sig .tc := ⟨.hbm, 508, rfl⟩
abbrev main_call2_call1_v96 : Ref sig .tc := ⟨.hbm, 509, rfl⟩
abbrev main_call2_call1_v97 : Ref sig .tc := ⟨.hbm, 510, rfl⟩
abbrev main_call2_call1_c_25 : Ref sig .tc := ⟨.hbm, 511, rfl⟩
abbrev main_call2_call1_v98 : Ref sig .tc := ⟨.hbm, 512, rfl⟩
abbrev main_call2_call1_v99 : Ref sig .tc := ⟨.hbm, 513, rfl⟩
abbrev main_call2_call1_v100 : Ref sig .tc := ⟨.hbm, 514, rfl⟩
abbrev main_call2_call1_v101 : Ref sig .tc := ⟨.hbm, 515, rfl⟩
abbrev main_call2_call1_v102 : Ref sig .tc := ⟨.hbm, 516, rfl⟩
abbrev main_call2_call1_v103 : Ref sig .tc := ⟨.hbm, 517, rfl⟩
abbrev main_call2_call1_v104 : Ref sig .tc := ⟨.hbm, 518, rfl⟩
abbrev main_call2_call1_v105 : Ref sig .tc := ⟨.hbm, 519, rfl⟩
abbrev main_call2_call1_c_26 : Ref sig .tc := ⟨.hbm, 520, rfl⟩
abbrev main_call2_call1_v106 : Ref sig .tc := ⟨.hbm, 521, rfl⟩
abbrev main_call2_call1_v107 : Ref sig .tc := ⟨.hbm, 522, rfl⟩
abbrev main_call2_call1_v108 : Ref sig .tc := ⟨.hbm, 523, rfl⟩
abbrev main_call2_call1_c_27 : Ref sig .tc := ⟨.hbm, 524, rfl⟩
abbrev main_call2_call1_v109 : Ref sig .tc := ⟨.hbm, 525, rfl⟩
abbrev main_call2_call1_v110 : Ref sig .tc := ⟨.hbm, 526, rfl⟩
abbrev main_call2_call1_c_28 : Ref sig .tc := ⟨.hbm, 527, rfl⟩
abbrev main_call2_call1_v111 : Ref sig .tc := ⟨.hbm, 528, rfl⟩
abbrev main_call2_call1_v112 : Ref sig .tc := ⟨.hbm, 529, rfl⟩
abbrev main_call2_call1_v113 : Ref sig .tc := ⟨.hbm, 530, rfl⟩
abbrev main_call2_call1_v114 : Ref sig .tc := ⟨.hbm, 531, rfl⟩
abbrev main_call2_call1_v115 : Ref sig .tc := ⟨.hbm, 532, rfl⟩
abbrev main_call2_call1_c_29 : Ref sig .tc := ⟨.hbm, 533, rfl⟩
abbrev main_call2_call1_v116 : Ref sig .tc := ⟨.hbm, 534, rfl⟩
abbrev main_call2_call1_v117 : Ref sig .tc := ⟨.hbm, 535, rfl⟩
abbrev main_call2_call1_c_30 : Ref sig .tc := ⟨.hbm, 536, rfl⟩
abbrev main_call2_call1_v118 : Ref sig .tc := ⟨.hbm, 537, rfl⟩
abbrev main_call2_call1_v119 : Ref sig .tc := ⟨.hbm, 538, rfl⟩
abbrev main_call2_call1_v120 : Ref sig .tc := ⟨.hbm, 539, rfl⟩
abbrev main_call2_call1_v121 : Ref sig .tc := ⟨.hbm, 540, rfl⟩
abbrev main_call2_call1_v122 : Ref sig .tc := ⟨.hbm, 541, rfl⟩
abbrev main_call2_call1_c_31 : Ref sig .tc := ⟨.hbm, 542, rfl⟩
abbrev main_call2_call1_v123 : Ref sig .tc := ⟨.hbm, 543, rfl⟩
abbrev main_call2_call1_v124 : Ref sig .tc := ⟨.hbm, 544, rfl⟩
abbrev main_call2_call1_c_32 : Ref sig .tc := ⟨.hbm, 545, rfl⟩
abbrev main_call2_call1_v125 : Ref sig .tc := ⟨.hbm, 546, rfl⟩
abbrev main_call2_call1_v126 : Ref sig .tc := ⟨.hbm, 547, rfl⟩
abbrev main_call2_call1_v127 : Ref sig .tc := ⟨.hbm, 548, rfl⟩
abbrev main_call2_call1_v128 : Ref sig .tc := ⟨.hbm, 549, rfl⟩
abbrev main_call2_call1_v129 : Ref sig .tc := ⟨.hbm, 550, rfl⟩
abbrev main_call2_call1_c_33 : Ref sig .tc := ⟨.hbm, 551, rfl⟩
abbrev main_call2_call1_v130 : Ref sig .tc := ⟨.hbm, 552, rfl⟩
abbrev main_call2_call1_v131 : Ref sig .tc := ⟨.hbm, 553, rfl⟩
abbrev main_call2_call1_c_34 : Ref sig .tc := ⟨.hbm, 554, rfl⟩
abbrev main_call2_call1_v132 : Ref sig .tc := ⟨.hbm, 555, rfl⟩
abbrev main_call2_call1_v133 : Ref sig .tc := ⟨.hbm, 556, rfl⟩
abbrev main_call2_call1_v134 : Ref sig .tc := ⟨.hbm, 557, rfl⟩
abbrev main_call2_call1_v135 : Ref sig .tc := ⟨.hbm, 558, rfl⟩
abbrev main_call2_call1_v136 : Ref sig .tc := ⟨.hbm, 559, rfl⟩
abbrev main_call2_call1_v137 : Ref sig .tc := ⟨.hbm, 560, rfl⟩
abbrev main_call2_call1_v138 : Ref sig .tc := ⟨.hbm, 561, rfl⟩
abbrev main_call2_call1_v139 : Ref sig .tc := ⟨.hbm, 562, rfl⟩
abbrev main_call2_call1_c_35 : Ref sig .tc := ⟨.hbm, 563, rfl⟩
abbrev main_call2_call1_v140 : Ref sig .tc := ⟨.hbm, 564, rfl⟩
abbrev main_call2_call1_v141 : Ref sig .tc := ⟨.hbm, 565, rfl⟩
abbrev main_call2_call1_v142 : Ref sig .tc := ⟨.hbm, 566, rfl⟩
abbrev main_call2_call1_c_36 : Ref sig .tc := ⟨.hbm, 567, rfl⟩
abbrev main_call2_call1_v143 : Ref sig .tc := ⟨.hbm, 568, rfl⟩
abbrev main_call2_call1_v144 : Ref sig .tc := ⟨.hbm, 569, rfl⟩
abbrev main_call2_call1_c_37 : Ref sig .tc := ⟨.hbm, 570, rfl⟩
abbrev main_call2_call1_v145 : Ref sig .tc := ⟨.hbm, 571, rfl⟩
abbrev main_call2_call1_v146 : Ref sig .tc := ⟨.hbm, 572, rfl⟩
abbrev main_call2_call1_v147 : Ref sig .tc := ⟨.hbm, 573, rfl⟩
abbrev main_call2_call1_v148 : Ref sig .tc := ⟨.hbm, 574, rfl⟩
abbrev main_call2_call1_v149 : Ref sig .tc := ⟨.hbm, 575, rfl⟩
abbrev main_call2_call1_c_38 : Ref sig .tc := ⟨.hbm, 576, rfl⟩
abbrev main_call2_call1_v150 : Ref sig .tc := ⟨.hbm, 577, rfl⟩
abbrev main_call2_call1_v151 : Ref sig .tc := ⟨.hbm, 578, rfl⟩
abbrev main_call2_call1_c_39 : Ref sig .tc := ⟨.hbm, 579, rfl⟩
abbrev main_call2_call1_v152 : Ref sig .tc := ⟨.hbm, 580, rfl⟩
abbrev main_call2_call1_v153 : Ref sig .tc := ⟨.hbm, 581, rfl⟩
abbrev main_call2_call1_v154 : Ref sig .tc := ⟨.hbm, 582, rfl⟩
abbrev main_call2_call1_v155 : Ref sig .tc := ⟨.hbm, 583, rfl⟩
abbrev main_call2_call1_v156 : Ref sig .tc := ⟨.hbm, 584, rfl⟩
abbrev main_call2_call1_c_40 : Ref sig .tc := ⟨.hbm, 585, rfl⟩
abbrev main_call2_call1_v157 : Ref sig .tc := ⟨.hbm, 586, rfl⟩
abbrev main_call2_call1_v158 : Ref sig .tc := ⟨.hbm, 587, rfl⟩
abbrev main_call2_call1_c_41 : Ref sig .tc := ⟨.hbm, 588, rfl⟩
abbrev main_call2_call1_v159 : Ref sig .tc := ⟨.hbm, 589, rfl⟩
abbrev main_call2_call1_v160 : Ref sig .tc := ⟨.hbm, 590, rfl⟩
abbrev main_call2_call1_v161 : Ref sig .tc := ⟨.hbm, 591, rfl⟩
abbrev main_call2_call1_v162 : Ref sig .tc := ⟨.hbm, 592, rfl⟩
abbrev main_call2_call1_v163 : Ref sig .tc := ⟨.hbm, 593, rfl⟩
abbrev main_call2_call1_c_42 : Ref sig .tc := ⟨.hbm, 594, rfl⟩
abbrev main_call2_call1_v164 : Ref sig .tc := ⟨.hbm, 595, rfl⟩
abbrev main_call2_call1_v165 : Ref sig .tc := ⟨.hbm, 596, rfl⟩
abbrev main_call2_call1_c_43 : Ref sig .tc := ⟨.hbm, 597, rfl⟩
abbrev main_call2_call1_v166 : Ref sig .tc := ⟨.hbm, 598, rfl⟩
abbrev main_call2_call1_v167 : Ref sig .tc := ⟨.hbm, 599, rfl⟩
abbrev main_call2_call1_v168 : Ref sig .tc := ⟨.hbm, 600, rfl⟩
abbrev main_call2_call1_v169 : Ref sig .tc := ⟨.hbm, 601, rfl⟩
abbrev main_call2_call1_v170 : Ref sig .tc := ⟨.hbm, 602, rfl⟩
abbrev main_call2_v16_0 : Ref sig .tc := ⟨.hbm, 603, rfl⟩
abbrev main_call2_call1_v172 : Ref sig .tc := ⟨.hbm, 604, rfl⟩
abbrev main_call2_call1_v173 : Ref sig .tc := ⟨.hbm, 605, rfl⟩
abbrev main_call2_call1_c_44 : Ref sig .tc := ⟨.hbm, 606, rfl⟩
abbrev main_call2_call1_v174 : Ref sig .tc := ⟨.hbm, 607, rfl⟩
abbrev main_call2_v16_1 : Ref sig .tc := ⟨.hbm, 608, rfl⟩
abbrev main_call2_v17 : Ref sig .tc := ⟨.hbm, 609, rfl⟩
abbrev main_call2_v18_0 : Ref sig .tc := ⟨.hbm, 610, rfl⟩
abbrev main_v110 : Ref sig .tc := ⟨.hbm, 611, rfl⟩
abbrev main_v111 : Ref sig .tc := ⟨.hbm, 612, rfl⟩
abbrev main_c_10 : Ref sig .tc := ⟨.hbm, 613, rfl⟩
abbrev main_v112 : Ref sig .tc := ⟨.hbm, 614, rfl⟩
abbrev main_v113 : Ref sig .tc := ⟨.hbm, 615, rfl⟩
abbrev main_c_11 : Ref sig .tc := ⟨.hbm, 616, rfl⟩
abbrev main_v114 : Ref sig .tc := ⟨.hbm, 617, rfl⟩
abbrev main_v115 : Ref sig .tc := ⟨.hbm, 618, rfl⟩
abbrev main_v116 : Ref sig .tc := ⟨.hbm, 619, rfl⟩
abbrev main_v117 : Ref sig .tc := ⟨.hbm, 620, rfl⟩
abbrev main_v118 : Ref sig .tc := ⟨.hbm, 621, rfl⟩
abbrev main_c_12 : Ref sig .tc := ⟨.hbm, 622, rfl⟩
abbrev main_call3_v0 : Ref sig .tc := ⟨.hbm, 623, rfl⟩
abbrev main_call3_c : Ref sig .tc := ⟨.hbm, 624, rfl⟩
abbrev main_call3_v1 : Ref sig .tc := ⟨.hbm, 625, rfl⟩
abbrev main_call3_c_0 : Ref sig .tc := ⟨.hbm, 626, rfl⟩
abbrev main_call3_v2 : Ref sig .tc := ⟨.hbm, 627, rfl⟩
abbrev main_call3_v3 : Ref sig .tc := ⟨.hbm, 628, rfl⟩
abbrev main_call3_v4 : Ref sig .tc := ⟨.hbm, 629, rfl⟩
abbrev main_call3_c_1 : Ref sig .tc := ⟨.hbm, 630, rfl⟩
abbrev main_call3_v5 : Ref sig .tc := ⟨.hbm, 631, rfl⟩
abbrev main_call3_v6 : Ref sig .tc := ⟨.hbm, 632, rfl⟩
abbrev main_call3_c_2 : Ref sig .tc := ⟨.hbm, 633, rfl⟩
abbrev main_call3_v7 : Ref sig .tc := ⟨.hbm, 634, rfl⟩
abbrev main_call3_v8 : Ref sig .tc := ⟨.hbm, 635, rfl⟩
abbrev main_call3_c_3 : Ref sig .tc := ⟨.hbm, 636, rfl⟩
abbrev main_call3_v9 : Ref sig .tc := ⟨.hbm, 637, rfl⟩
abbrev main_call3_v10 : Ref sig .tc := ⟨.hbm, 638, rfl⟩
abbrev main_call3_v11 : Ref sig .tc := ⟨.hbm, 639, rfl⟩
abbrev main_call3_v12 : Ref sig .tc := ⟨.hbm, 640, rfl⟩
abbrev main_call3_v13 : Ref sig .tc := ⟨.hbm, 641, rfl⟩
abbrev main_call3_v14 : Ref sig .tc := ⟨.hbm, 642, rfl⟩
abbrev main_v119 : Ref sig .tc := ⟨.hbm, 643, rfl⟩
abbrev main_c_13 : Ref sig .tc := ⟨.hbm, 644, rfl⟩
abbrev main_call4_v0 : Ref sig .tc := ⟨.hbm, 645, rfl⟩
abbrev main_call4_v1 : Ref sig .tc := ⟨.hbm, 646, rfl⟩
abbrev main_call4_v2 : Ref sig .tc := ⟨.hbm, 647, rfl⟩
abbrev main_call4_v3 : Ref sig .tc := ⟨.hbm, 648, rfl⟩
abbrev main_call4_v4 : Ref sig .tc := ⟨.hbm, 649, rfl⟩
abbrev main_call4_v5 : Ref sig .tc := ⟨.hbm, 650, rfl⟩
abbrev main_call4_v6 : Ref sig .tc := ⟨.hbm, 651, rfl⟩
abbrev main_call4_v7 : Ref sig .tc := ⟨.hbm, 652, rfl⟩
abbrev main_call4_v8 : Ref sig .tc := ⟨.hbm, 653, rfl⟩
abbrev main_call4_c : Ref sig .tc := ⟨.hbm, 654, rfl⟩
abbrev main_call4_v9 : Ref sig .tc := ⟨.hbm, 655, rfl⟩
abbrev main_call4_v10 : Ref sig .tc := ⟨.hbm, 656, rfl⟩
abbrev main_call4_v11 : Ref sig .tc := ⟨.hbm, 657, rfl⟩
abbrev main_call4_c_0 : Ref sig .tc := ⟨.hbm, 658, rfl⟩
abbrev main_call4_v12 : Ref sig .tc := ⟨.hbm, 659, rfl⟩
abbrev main_call4_v13 : Ref sig .tc := ⟨.hbm, 660, rfl⟩
abbrev main_v120 : Ref sig .tc := ⟨.hbm, 661, rfl⟩
abbrev main_v121 : Ref sig .tc := ⟨.hbm, 662, rfl⟩
abbrev main_v122 : Ref sig .tc := ⟨.hbm, 663, rfl⟩
abbrev main_c_14 : Ref sig .tc := ⟨.hbm, 664, rfl⟩
abbrev main_call5_v0 : Ref sig .tc := ⟨.hbm, 665, rfl⟩
abbrev main_call5_c : Ref sig .tc := ⟨.hbm, 666, rfl⟩
abbrev main_call5_v1 : Ref sig .tc := ⟨.hbm, 667, rfl⟩
abbrev main_call5_c_0 : Ref sig .tc := ⟨.hbm, 668, rfl⟩
abbrev main_call5_v2 : Ref sig .tc := ⟨.hbm, 669, rfl⟩
abbrev main_call5_v3 : Ref sig .tc := ⟨.hbm, 670, rfl⟩
abbrev main_call5_v4 : Ref sig .tc := ⟨.hbm, 671, rfl⟩
abbrev main_call5_c_1 : Ref sig .tc := ⟨.hbm, 672, rfl⟩
abbrev main_call5_v5 : Ref sig .tc := ⟨.hbm, 673, rfl⟩
abbrev main_call5_v6 : Ref sig .tc := ⟨.hbm, 674, rfl⟩
abbrev main_call5_c_2 : Ref sig .tc := ⟨.hbm, 675, rfl⟩
abbrev main_call5_v7 : Ref sig .tc := ⟨.hbm, 676, rfl⟩
abbrev main_call5_v8 : Ref sig .tc := ⟨.hbm, 677, rfl⟩
abbrev main_call5_c_3 : Ref sig .tc := ⟨.hbm, 678, rfl⟩
abbrev main_call5_v9 : Ref sig .tc := ⟨.hbm, 679, rfl⟩
abbrev main_call5_v10 : Ref sig .tc := ⟨.hbm, 680, rfl⟩
abbrev main_call5_v11 : Ref sig .tc := ⟨.hbm, 681, rfl⟩
abbrev main_call5_v12 : Ref sig .tc := ⟨.hbm, 682, rfl⟩
abbrev main_call5_v13 : Ref sig .tc := ⟨.hbm, 683, rfl⟩
abbrev main_call5_v14 : Ref sig .tc := ⟨.hbm, 684, rfl⟩
abbrev main_v123 : Ref sig .tc := ⟨.hbm, 685, rfl⟩
abbrev main_c_15 : Ref sig .tc := ⟨.hbm, 686, rfl⟩
abbrev main_call6_v0 : Ref sig .tc := ⟨.hbm, 687, rfl⟩
abbrev main_call6_v1 : Ref sig .tc := ⟨.hbm, 688, rfl⟩
abbrev main_call6_v2 : Ref sig .tc := ⟨.hbm, 689, rfl⟩
abbrev main_call6_v3 : Ref sig .tc := ⟨.hbm, 690, rfl⟩
abbrev main_call6_v4 : Ref sig .tc := ⟨.hbm, 691, rfl⟩
abbrev main_call6_v5 : Ref sig .tc := ⟨.hbm, 692, rfl⟩
abbrev main_call6_v6 : Ref sig .tc := ⟨.hbm, 693, rfl⟩
abbrev main_call6_v7 : Ref sig .tc := ⟨.hbm, 694, rfl⟩
abbrev main_call6_v8 : Ref sig .tc := ⟨.hbm, 695, rfl⟩
abbrev main_call6_c : Ref sig .tc := ⟨.hbm, 696, rfl⟩
abbrev main_call6_v9 : Ref sig .tc := ⟨.hbm, 697, rfl⟩
abbrev main_call6_v10 : Ref sig .tc := ⟨.hbm, 698, rfl⟩
abbrev main_call6_v11 : Ref sig .tc := ⟨.hbm, 699, rfl⟩
abbrev main_call6_c_0 : Ref sig .tc := ⟨.hbm, 700, rfl⟩
abbrev main_call6_v12 : Ref sig .tc := ⟨.hbm, 701, rfl⟩
abbrev main_call6_v13 : Ref sig .tc := ⟨.hbm, 702, rfl⟩
abbrev main_v124 : Ref sig .tc := ⟨.hbm, 703, rfl⟩
abbrev main_v125 : Ref sig .tc := ⟨.hbm, 704, rfl⟩
abbrev main_v126 : Ref sig .tc := ⟨.hbm, 705, rfl⟩
abbrev main_c_16 : Ref sig .tc := ⟨.hbm, 706, rfl⟩
abbrev main_c_17 : Ref sig .tc := ⟨.hbm, 707, rfl⟩
abbrev main_call7_v0 : Ref sig .tc := ⟨.hbm, 708, rfl⟩
abbrev main_call7_v1 : Ref sig .tc := ⟨.hbm, 709, rfl⟩
abbrev main_call7_v2 : Ref sig .tc := ⟨.hbm, 710, rfl⟩
abbrev main_call7_v3 : Ref sig .tc := ⟨.hbm, 711, rfl⟩
abbrev main_call7_v4 : Ref sig .tc := ⟨.hbm, 712, rfl⟩
abbrev main_v127 : Ref sig .tc := ⟨.hbm, 713, rfl⟩
abbrev main_c_18 : Ref sig .tc := ⟨.hbm, 714, rfl⟩
abbrev main_c_19 : Ref sig .tc := ⟨.hbm, 715, rfl⟩
abbrev main_call8_v0 : Ref sig .tc := ⟨.hbm, 716, rfl⟩
abbrev main_call8_v1 : Ref sig .tc := ⟨.hbm, 717, rfl⟩
abbrev main_call8_v2 : Ref sig .tc := ⟨.hbm, 718, rfl⟩
abbrev main_call8_v3 : Ref sig .tc := ⟨.hbm, 719, rfl⟩
abbrev main_call8_v4 : Ref sig .tc := ⟨.hbm, 720, rfl⟩
abbrev main_v128 : Ref sig .tc := ⟨.hbm, 721, rfl⟩
abbrev main_c_20 : Ref sig .tc := ⟨.hbm, 722, rfl⟩
abbrev main_c_21 : Ref sig .tc := ⟨.hbm, 723, rfl⟩
abbrev main_call9_v0 : Ref sig .tc := ⟨.hbm, 724, rfl⟩
abbrev main_call9_v1 : Ref sig .tc := ⟨.hbm, 725, rfl⟩
abbrev main_call9_v2 : Ref sig .tc := ⟨.hbm, 726, rfl⟩
abbrev main_call9_v3 : Ref sig .tc := ⟨.hbm, 727, rfl⟩
abbrev main_call9_v4 : Ref sig .tc := ⟨.hbm, 728, rfl⟩
abbrev main_v129 : Ref sig .tc := ⟨.hbm, 729, rfl⟩
abbrev main_c_22 : Ref sig .tc := ⟨.hbm, 730, rfl⟩
abbrev main_c_23 : Ref sig .tc := ⟨.hbm, 731, rfl⟩
abbrev main_call10_v0 : Ref sig .tc := ⟨.hbm, 732, rfl⟩
abbrev main_call10_v1 : Ref sig .tc := ⟨.hbm, 733, rfl⟩
abbrev main_call10_v2 : Ref sig .tc := ⟨.hbm, 734, rfl⟩
abbrev main_call10_v3 : Ref sig .tc := ⟨.hbm, 735, rfl⟩
abbrev main_call10_v4 : Ref sig .tc := ⟨.hbm, 736, rfl⟩
abbrev main_v130 : Ref sig .tc := ⟨.hbm, 737, rfl⟩
abbrev main_v131 : Ref sig .tc := ⟨.hbm, 738, rfl⟩
abbrev main_v132 : Ref sig .tc := ⟨.hbm, 739, rfl⟩
abbrev main_v133 : Ref sig .tc := ⟨.hbm, 740, rfl⟩
abbrev main_v134 : Ref sig .tc := ⟨.hbm, 741, rfl⟩

abbrev nD : Nat := 1
abbrev τ : Topo := Topo.v7x

variable {F : FTy → Type} [FloatOps F]
-- ==== Proof.Steps.lean ====
/-
  Straight lines of host operations, read as equations.

  A `Step` is one host operation together with the references it reads, the one it writes, and the EQUATION it
  states of the buffers: the contents of its result are its function of the contents of its operands. In a line
  whose results are written to consecutive buffers and whose operands were written before (`Ordered`), nothing is
  ever overwritten, so at the end of the line every step's equation holds (`eqns_of_ordered`), and a buffer numbered
  below the line is as it was (`kept_of_ordered`).
-/
module

public import Idealize.ShloMosaic.Lib.StableHlo.Run

@[expose] public section

noncomputable section

namespace Cert.Steps

open Idealize.ShloMosaic Idealize.ShloMosaic.StableHlo

variable {τ : Topo} {sig : RefSig} {Val : EltTy → Type}

/-- What `W` holds at a typed reference, at the value's type. -/
def rd {T : BufTy} (W : Valuation τ sig Val) (x : TRef sig T) : T.Contents Val :=
  x.ofBuf (W (Proc.devRef .tc x.ref))

/-- One host operation, what it reads and writes, and the equation that it states. -/
structure Step (τ : Topo) (sig : RefSig) (Val : EltTy → Type) where
  /-- The operation. -/
  op : HloOp τ sig Val
  /-- The references it reads. -/
  reads : List (Ref sig .tc)
  /-- The reference it writes. -/
  w : Ref sig .tc
  /-- Its equation. -/
  eqn : Valuation τ sig Val → Prop
  writes_eq : op.writes = {Proc.devRef .tc w}
  bufs_sub : op.bufs ⊆ tcRefs τ sig
  fresh_eq : op.fresh = ∅
  /-- The equation holds of any contents that agree with those before the operation where it reads and hold
      the operation's value where it writes. -/
  sound : ∀ F W : Valuation τ sig Val, (∀ r ∈ reads, W (Proc.devRef .tc r) = F (Proc.devRef .tc r)) →
    W (Proc.devRef .tc w) = op.result F (Proc.devRef .tc w) → eqn W

namespace Step

variable (x c a b y : Ref sig .tc)

/-- A constant. -/
def nullary (v : y.ty.Contents Val)
    (hy : y.space ≠ .host ∧ (Proc.devRef (τ := τ) .tc y).isScoped = false := by exact ⟨by decide, rfl⟩) : Step τ sig Val where
  op := StableHlo.nullary y v hy
  reads := []
  w := y
  eqn W := W (Proc.devRef .tc y) = v
  writes_eq := rfl
  bufs_sub := nullary_bufs_sub ..
  fresh_eq := rfl
  sound F _ _ h := h.trans (nullary_result y v hy F)

/-- An operation of one operand. -/
def unary (f : x.ty.Contents Val → y.ty.Contents Val)
    (hx : x.space ≠ .host ∧ (Proc.devRef (τ := τ) .tc x).isScoped = false := by exact ⟨by decide, rfl⟩)
    (hy : y.space ≠ .host ∧ (Proc.devRef (τ := τ) .tc y).isScoped = false := by exact ⟨by decide, rfl⟩) : Step τ sig Val where
  op := StableHlo.unary x y f hx hy
  reads := [x]
  w := y
  eqn W := W (Proc.devRef .tc y) = f (W (Proc.devRef .tc x))
  writes_eq := rfl
  bufs_sub := unary_bufs_sub ..
  fresh_eq := rfl
  sound F W hr h := by rw [h, unary_result, hr x (by simp)]

/-- An operation of two operands. -/
def binary (f : a.ty.Contents Val → b.ty.Contents Val → y.ty.Contents Val)
    (ha : a.space ≠ .host ∧ (Proc.devRef (τ := τ) .tc a).isScoped = false := by exact ⟨by decide, rfl⟩)
    (hb : b.space ≠ .host ∧ (Proc.devRef (τ := τ) .tc b).isScoped = false := by exact ⟨by decide, rfl⟩)
    (hy : y.space ≠ .host ∧ (Proc.devRef (τ := τ) .tc y).isScoped = false := by exact ⟨by decide, rfl⟩) : Step τ sig Val where
  op := StableHlo.binary a b y f ha hb hy
  reads := [a, b]
  w := y
  eqn W := W (Proc.devRef .tc y) = f (W (Proc.devRef .tc a)) (W (Proc.devRef .tc b))
  writes_eq := rfl
  bufs_sub := binary_bufs_sub ..
  fresh_eq := rfl
  sound F W hr h := by rw [h, binary_result, hr a (by simp), hr b (by simp)]

/-- An operation of three operands. -/
def ternary (f : c.ty.Contents Val → a.ty.Contents Val → b.ty.Contents Val → y.ty.Contents Val)
    (hc : c.space ≠ .host ∧ (Proc.devRef (τ := τ) .tc c).isScoped = false := by exact ⟨by decide, rfl⟩)
    (ha : a.space ≠ .host ∧ (Proc.devRef (τ := τ) .tc a).isScoped = false := by exact ⟨by decide, rfl⟩)
    (hb : b.space ≠ .host ∧ (Proc.devRef (τ := τ) .tc b).isScoped = false := by exact ⟨by decide, rfl⟩)
    (hy : y.space ≠ .host ∧ (Proc.devRef (τ := τ) .tc y).isScoped = false := by exact ⟨by decide, rfl⟩) : Step τ sig Val where
  op := StableHlo.ternary c a b y f hc ha hb hy
  reads := [c, a, b]
  w := y
  eqn W := W (Proc.devRef .tc y) = f (W (Proc.devRef .tc c)) (W (Proc.devRef .tc a)) (W (Proc.devRef .tc b))
  writes_eq := rfl
  bufs_sub := ternary_bufs_sub ..
  fresh_eq := rfl
  sound F W hr h := by rw [h, ternary_result, hr c (by simp), hr a (by simp), hr b (by simp)]

/-- A change of shape. -/
def reshape (he : x.ty.elt = y.ty.elt) (hn : x.ty.shape.ShapeCasts y.ty.shape)
    (hx : x.space ≠ .host ∧ (Proc.devRef (τ := τ) .tc x).isScoped = false := by exact ⟨by decide, rfl⟩)
    (hy : y.space ≠ .host ∧ (Proc.devRef (τ := τ) .tc y).isScoped = false := by exact ⟨by decide, rfl⟩) : Step τ sig Val where
  op := StableHlo.reshape x y he hn hx hy
  reads := [x]
  w := y
  eqn W := W (Proc.devRef .tc y) = fun i => he ▸ shapeCast y.ty.shape (W (Proc.devRef .tc x)) hn i
  writes_eq := rfl
  bufs_sub := reshape_bufs_sub ..
  fresh_eq := rfl
  sound F W hr h := by rw [h, reshape_result, hr x (by simp)]

section Typed

variable {T Tx Ta Tb Tc Ty : BufTy}

/-- A constant, at a typed reference. -/
def tnullary (y : TRef sig Ty) (v : Ty.Contents Val) : Step τ sig Val :=
  { nullary y.ref (y.toBuf v) y.dev with
    eqn := fun W => rd W y = v
    sound := fun F W hr h => by
      have := (nullary y.ref (y.toBuf v) y.dev).sound F W hr h
      simp only [nullary] at this
      rw [rd, this]; simp [TRef.ofBuf, TRef.toBuf] }

/-- An operation of one operand, at typed references. -/
def tunary (x : TRef sig Tx) (y : TRef sig Ty) (f : Tx.Contents Val → Ty.Contents Val) : Step τ sig Val :=
  { unary x.ref y.ref (fun u => y.toBuf (f (x.ofBuf u))) x.dev y.dev with
    eqn := fun W => rd W y = f (rd W x)
    sound := fun F W hr h => by
      have := (unary x.ref y.ref (fun u => y.toBuf (f (x.ofBuf u))) x.dev y.dev).sound F W hr h
      simp only [unary] at this
      rw [rd, this]; simp [TRef.ofBuf, TRef.toBuf, rd] }

/-- An operation of two operands, at typed references. -/
def tbinary (a : TRef sig Ta) (b : TRef sig Tb) (y : TRef sig Ty)
    (f : Ta.Contents Val → Tb.Contents Val → Ty.Contents Val) : Step τ sig Val :=
  { binary a.ref b.ref y.ref (fun u v => y.toBuf (f (a.ofBuf u) (b.ofBuf v))) a.dev b.dev y.dev with
    eqn := fun W => rd W y = f (rd W a) (rd W b)
    sound := fun F W hr h => by
      have := (binary a.ref b.ref y.ref (fun u v => y.toBuf (f (a.ofBuf u) (b.ofBuf v))) a.dev b.dev y.dev).sound F W hr h
      simp only [binary] at this
      rw [rd, this]; simp [TRef.ofBuf, TRef.toBuf, rd] }

/-- An operation of three operands, at typed references. -/
def tternary (c : TRef sig Tc) (a : TRef sig Ta) (b : TRef sig Tb) (y : TRef sig Ty)
    (f : Tc.Contents Val → Ta.Contents Val → Tb.Contents Val → Ty.Contents Val) : Step τ sig Val :=
  { ternary c.ref a.ref b.ref y.ref (fun t u v => y.toBuf (f (c.ofBuf t) (a.ofBuf u) (b.ofBuf v))) c.dev a.dev b.dev y.dev with
    eqn := fun W => rd W y = f (rd W c) (rd W a) (rd W b)
    sound := fun F W hr h => by
      have := (ternary c.ref a.ref b.ref y.ref (fun t u v => y.toBuf (f (c.ofBuf t) (a.ofBuf u) (b.ofBuf v)))
        c.dev a.dev b.dev y.dev).sound F W hr h
      simp only [ternary] at this
      rw [rd, this]; simp [TRef.ofBuf, TRef.toBuf, rd] }

/-- A change of shape, at typed references. -/
def treshape (x : TRef sig Tx) (y : TRef sig Ty) (he : Tx.elt = Ty.elt) (hn : Tx.shape.ShapeCasts Ty.shape) :
    Step τ sig Val :=
  { reshape x.ref y.ref (((congrArg BufTy.elt x.ty_eq).trans he).trans (congrArg BufTy.elt y.ty_eq).symm)
      (congrArg BufTy.shape x.ty_eq ▸ congrArg BufTy.shape y.ty_eq ▸ hn) x.dev y.dev with
    eqn := fun W => rd W y = fun i => he ▸ shapeCast Ty.shape (rd W x) hn i
    sound := fun F W hr h => by
      have := (reshape x.ref y.ref (((congrArg BufTy.elt x.ty_eq).trans he).trans (congrArg BufTy.elt y.ty_eq).symm)
        (congrArg BufTy.shape x.ty_eq ▸ congrArg BufTy.shape y.ty_eq ▸ hn) x.dev y.dev).sound F W hr h
      simp only [reshape] at this
      rw [rd, this]
      obtain ⟨xr, xt, xo, xs⟩ := x
      obtain ⟨yr, yt, yo, ys⟩ := y
      subst xt yt
      rfl }

end Typed

end Step

/-- The line's results go to consecutive buffers from number `n` on, and every operand is numbered below its result. -/
def Ordered : Nat → List (Step τ sig Val) → Bool
  | _, [] => true
  | n, s :: l => (s.w.idx.val == n) && s.reads.all (fun r => Nat.blt r.idx.val n) && Ordered (n + 1) l

/-- The line's operations. -/
abbrev ops (l : List (Step τ sig Val)) : List (HloOp τ sig Val) := l.map Step.op

theorem ordered_append {n : Nat} : ∀ (l l' : List (Step τ sig Val)), Ordered n l = true → Ordered (n + l.length) l' = true →
    Ordered n (l ++ l') = true
  | [], l', _, h' => by simpa using h'
  | s :: l, l', h, h' => by
    simp only [Ordered, Bool.and_eq_true, List.cons_append] at h ⊢
    refine ⟨h.1, ordered_append l l' h.2 ?_⟩
    rw [List.length_cons] at h'
    rwa [show n + 1 + l.length = n + (l.length + 1) by omega]

/-- A buffer numbered below the line keeps its contents. -/
theorem kept_of_ordered {r : Ref sig .tc} : ∀ (l : List (Step τ sig Val)) {n : Nat} (V : Valuation τ sig Val),
    Ordered n l = true → r.idx.val < n → after (ops l) V (Proc.devRef .tc r) = V (Proc.devRef .tc r)
  | [], _, _, _, _ => rfl
  | s :: l, n, V, h, hr => by
    simp only [Ordered, Bool.and_eq_true, beq_iff_eq] at h
    rw [ops, List.map_cons, after_cons, kept_of_ordered l _ h.2 (Nat.lt_succ_of_lt hr)]
    refine result_of_writes_ne _ _ s.w r s.writes_eq ?_
    rintro rfl
    omega

/-- At the end of an ordered line every step's equation holds. -/
theorem eqns_of_ordered : ∀ (l : List (Step τ sig Val)) {n : Nat} (V : Valuation τ sig Val),
    Ordered n l = true → ∀ s ∈ l, s.eqn (after (ops l) V)
  | [], _, _, _ => by simp
  | s :: l, n, V, h => by
    have h₀ := h
    simp only [Ordered, Bool.and_eq_true, beq_iff_eq, List.all_eq_true] at h
    have hlt : ∀ r ∈ s.reads, r.idx.val < n := fun r hr => Nat.blt_eq.mp (h.1.2 r hr)
    intro t ht
    rcases List.mem_cons.mp ht with rfl | ht
    · refine t.sound V _ (fun r hr => kept_of_ordered (t :: l) V h₀ (hlt r hr)) ?_
      rw [ops, List.map_cons, after_cons]
      exact kept_of_ordered l _ h.2 (by omega)
    · exact eqns_of_ordered l _ h.2 t ht

/-- Every operation of the line touches TensorCore references only. -/
theorem ops_sub (l : List (Step τ sig Val)) : (ops l).Forall fun op => op.bufs ⊆ tcRefs τ sig := by
  rw [List.forall_iff_forall_mem]
  intro op h
  obtain ⟨s, -, rfl⟩ := List.mem_map.mp h
  exact s.bufs_sub

/-- No operation of the line leaves its result to the machine. -/
theorem ops_fresh (l : List (Step τ sig Val)) : (ops l).Forall fun op => op.fresh = ∅ := by
  rw [List.forall_iff_forall_mem]
  intro op h
  obtain ⟨s, -, rfl⟩ := List.mem_map.mp h
  exact s.fresh_eq

end Cert.Steps
-- ==== Proof.Threefry.lean ====
/-
  The threefry block cipher of the generator, once, for any number of lanes and any program: the references one
  call of it writes (`TfRefs`), its operations (`tfSteps`), and the words it computes (`cipher`). The 223 operations
  are twenty rounds in five groups of four, with a key injection after each group; the equations are followed round
  by round (`round_eq`, `group_eq`), so that no round's value is written more than once.
-/
module

public import proofs.«01_k».proof.Proof.Steps
public import Idealize.ShloMosaic.PureOps.Ideal

@[expose] public section

noncomputable section

namespace Cert.Steps

open Idealize.ShloMosaic Idealize.ShloMosaic.StableHlo

variable {τ : Topo} {sig : RefSig} {F : FTy → Type} [FloatOps F]

/-- The shape of a single word. -/
abbrev W0 : Shape := ⟨0, ![]⟩

/-- What one round writes: the sum, the two shifts with their amounts, the rotated word and the mixed word. -/
structure RoundRefs (sig : RefSig) (S : Shape) where
  x0 : TRef sig ⟨S, .i32⟩
  c : TRef sig ⟨W0, .i32⟩
  b : TRef sig ⟨S, .i32⟩
  s : TRef sig ⟨S, .i32⟩
  c' : TRef sig ⟨W0, .i32⟩
  b' : TRef sig ⟨S, .i32⟩
  s' : TRef sig ⟨S, .i32⟩
  o : TRef sig ⟨S, .i32⟩
  x1 : TRef sig ⟨S, .i32⟩

/-- What one group of four rounds and its key injection write. -/
structure GroupRefs (sig : RefSig) (S : Shape) where
  r0 : RoundRefs sig S
  r1 : RoundRefs sig S
  r2 : RoundRefs sig S
  r3 : RoundRefs sig S
  b0 : TRef sig ⟨S, .i32⟩
  x0 : TRef sig ⟨S, .i32⟩
  b1 : TRef sig ⟨S, .i32⟩
  y : TRef sig ⟨S, .i32⟩
  c : TRef sig ⟨W0, .i32⟩
  b2 : TRef sig ⟨S, .i32⟩
  x1 : TRef sig ⟨S, .i32⟩

/-- What one call of the cipher writes. -/
structure TfRefs (sig : RefSig) (S : Shape) where
  v0 : TRef sig ⟨W0, .i32⟩
  c : TRef sig ⟨W0, .i32⟩
  v1 : TRef sig ⟨W0, .i32⟩
  v2 : TRef sig ⟨S, .i32⟩
  v3 : TRef sig ⟨S, .i32⟩
  v4 : TRef sig ⟨S, .i32⟩
  v5 : TRef sig ⟨S, .i32⟩
  g0 : GroupRefs sig S
  g1 : GroupRefs sig S
  g2 : GroupRefs sig S
  g3 : GroupRefs sig S
  g4 : GroupRefs sig S

variable {S : Shape} (h : W0.BroadcastsInDim S (![] : Fin 0 → Fin S.rank))

/-- The operations of one round: rotation by `r`, `r'` being `32 - r`. -/
def roundSteps (r r' : BitVec 32) (y0 y1 : TRef sig ⟨S, .i32⟩) (R : RoundRefs sig S) : List (Step τ sig (Elt F)) :=
  [Step.tbinary y0 y1 R.x0 addi,
   Step.tnullary R.c (constantI W0 32 r),
   Step.tunary R.c R.b (broadcastInDim S ![] h),
   Step.tbinary y1 R.b R.s Host.shli,
   Step.tnullary R.c' (constantI W0 32 r'),
   Step.tunary R.c' R.b' (broadcastInDim S ![] h),
   Step.tbinary y1 R.b' R.s' Host.shrui,
   Step.tbinary R.s R.s' R.o ori,
   Step.tbinary R.x0 R.o R.x1 xori]

/-- The rotation amounts of a group's four rounds, each with its complement to 32. -/
structure Rots where
  a : BitVec 32
  a' : BitVec 32
  b : BitVec 32
  b' : BitVec 32
  c : BitVec 32
  c' : BitVec 32
  d : BitVec 32
  d' : BitVec 32

/-- The amounts of the first, third and fifth group. -/
def rotsA : Rots := ⟨13#32, 19#32, 15#32, 17#32, 26#32, 6#32, 6#32, 26#32⟩

/-- The amounts of the second and fourth group. -/
def rotsB : Rots := ⟨17#32, 15#32, 29#32, 3#32, 16#32, 16#32, 24#32, 8#32⟩

/-- The key injection after a group. -/
def injectSteps (i : BitVec 32) (ka kb : TRef sig ⟨W0, .i32⟩) (G : GroupRefs sig S) : List (Step τ sig (Elt F)) :=
  [Step.tunary ka G.b0 (broadcastInDim S ![] h),
   Step.tbinary G.r3.x0 G.b0 G.x0 addi,
   Step.tunary kb G.b1 (broadcastInDim S ![] h),
   Step.tbinary G.r3.x1 G.b1 G.y addi,
   Step.tnullary G.c (constantI W0 32 i),
   Step.tunary G.c G.b2 (broadcastInDim S ![] h),
   Step.tbinary G.y G.b2 G.x1 addi]

/-- The operations of one group. -/
def groupSteps (t : Rots) (i : BitVec 32) (ka kb : TRef sig ⟨W0, .i32⟩) (y0 y1 : TRef sig ⟨S, .i32⟩)
    (G : GroupRefs sig S) : List (Step τ sig (Elt F)) :=
  roundSteps h t.a t.a' y0 y1 G.r0 ++ (roundSteps h t.b t.b' G.r0.x0 G.r0.x1 G.r1 ++
    (roundSteps h t.c t.c' G.r1.x0 G.r1.x1 G.r2 ++ (roundSteps h t.d t.d' G.r2.x0 G.r2.x1 G.r3 ++
      injectSteps h i ka kb G)))

/-- The key schedule's third word and the first key addition. -/
def headSteps (a0 a1 : TRef sig ⟨W0, .i32⟩) (a2 a3 : TRef sig ⟨S, .i32⟩) (T : TfRefs sig S) : List (Step τ sig (Elt F)) :=
  [Step.tbinary a0 a1 T.v0 xori,
   Step.tnullary T.c (constantI W0 32 466688986#32),
   Step.tbinary T.v0 T.c T.v1 xori,
   Step.tunary a0 T.v2 (broadcastInDim S ![] h),
   Step.tbinary a2 T.v2 T.v3 addi,
   Step.tunary a1 T.v4 (broadcastInDim S ![] h),
   Step.tbinary a3 T.v4 T.v5 addi]

/-- The operations of one call of the cipher. -/
def tfSteps (a0 a1 : TRef sig ⟨W0, .i32⟩) (a2 a3 : TRef sig ⟨S, .i32⟩) (T : TfRefs sig S) : List (Step τ sig (Elt F)) :=
  headSteps h a0 a1 a2 a3 T ++ (groupSteps h rotsA 1#32 a1 T.v1 T.v3 T.v5 T.g0 ++
    (groupSteps h rotsB 2#32 T.v1 a0 T.g0.x0 T.g0.x1 T.g1 ++ (groupSteps h rotsA 3#32 a0 a1 T.g1.x0 T.g1.x1 T.g2 ++
      (groupSteps h rotsB 4#32 a1 T.v1 T.g2.x0 T.g2.x1 T.g3 ++ groupSteps h rotsA 5#32 T.v1 a0 T.g3.x0 T.g3.x1 T.g4))))

/-! ### The words -/

/-- A vector of 32-bit words. -/
abbrev Words (S : Shape) : Type := IVec S 32

/-- A vector of 64-bit words. -/
abbrev Words64 (S : Shape) : Type := IVec S 64

/-- One round. -/
def roundW (r r' : BitVec 32) (p : Words S × Words S) : Words S × Words S :=
  (addi p.1 p.2, xori (addi p.1 p.2) (ori (Host.shli p.2 (broadcastInDim S ![] h (constantI W0 32 r)))
    (Host.shrui p.2 (broadcastInDim S ![] h (constantI W0 32 r')))))

/-- One group of four rounds and its key injection. -/
def groupW (t : Rots) (i : BitVec 32) (ka kb : Words W0) (p : Words S × Words S) : Words S × Words S :=
  let q := roundW h t.d t.d' (roundW h t.c t.c' (roundW h t.b t.b' (roundW h t.a t.a' p)))
  (addi q.1 (broadcastInDim S ![] h ka),
    addi (addi q.2 (broadcastInDim S ![] h kb)) (broadcastInDim S ![] h (constantI W0 32 i)))

/-- The cipher: the two words of every lane under the key `k0`, `k1`. -/
def cipher (k0 k1 : Words W0) (x0 x1 : Words S) : Words S × Words S :=
  let k2 := xori (xori k0 k1) (constantI W0 32 466688986#32)
  groupW h rotsA 5#32 k2 k0 (groupW h rotsB 4#32 k1 k2 (groupW h rotsA 3#32 k0 k1 (groupW h rotsB 2#32 k2 k0
    (groupW h rotsA 1#32 k1 k2 (addi x0 (broadcastInDim S ![] h k0), addi x1 (broadcastInDim S ![] h k1))))))

variable {h}
variable {W : Valuation τ sig (Elt F)}

/-- Every equation of a line. -/
def Holds (W : Valuation τ sig (Elt F)) (l : List (Step τ sig (Elt F))) : Prop := ∀ s ∈ l, s.eqn W

theorem holds_nil : Holds W [] ↔ True := by simp [Holds]

theorem holds_cons {s : Step τ sig (Elt F)} {l : List (Step τ sig (Elt F))} : Holds W (s :: l) ↔ s.eqn W ∧ Holds W l := by
  simp [Holds]

theorem holds_append {l l' : List (Step τ sig (Elt F))} : Holds W (l ++ l') ↔ Holds W l ∧ Holds W l' := by
  simp [Holds, or_imp, forall_and]

theorem round_eq {r r' : BitVec 32} {y0 y1 : TRef sig ⟨S, .i32⟩} {R : RoundRefs sig S}
    (H : Holds W (roundSteps h r r' y0 y1 R)) :
    ((rd W R.x0, rd W R.x1) : Words S × Words S) = roundW h r r' (rd W y0, rd W y1) := by
  simp only [roundSteps, holds_cons, holds_nil, and_true, Step.tbinary, Step.tnullary, Step.tunary] at H
  obtain ⟨h0, h1, h2, h3, h4, h5, h6, h7, h8⟩ := H
  rw [h8, h7, h6, h5, h4, h3, h2, h1, h0]
  rfl

theorem group_eq {t : Rots} {i : BitVec 32} {ka kb : TRef sig ⟨W0, .i32⟩} {y0 y1 : TRef sig ⟨S, .i32⟩} {G : GroupRefs sig S}
    (H : Holds W (groupSteps h t i ka kb y0 y1 G)) :
    ((rd W G.x0, rd W G.x1) : Words S × Words S) = groupW h t i (rd W ka) (rd W kb) (rd W y0, rd W y1) := by
  simp only [groupSteps, holds_append] at H
  obtain ⟨h0, h1, h2, h3, h4⟩ := H
  simp only [groupW]
  rw [← round_eq h0, ← round_eq h1, ← round_eq h2, ← round_eq h3]
  simp only [injectSteps, holds_cons, holds_nil, and_true, Step.tbinary, Step.tnullary, Step.tunary] at h4
  obtain ⟨i0, i1, i2, i3, i4, i5, i6⟩ := h4
  rw [i6, i5, i4, i3, i2, i1, i0]

/-- The call's results are the cipher of its operands. -/
theorem tf_eq {a0 a1 : TRef sig ⟨W0, .i32⟩} {a2 a3 : TRef sig ⟨S, .i32⟩} {T : TfRefs sig S}
    (H : Holds W (tfSteps h a0 a1 a2 a3 T)) :
    ((rd W T.g4.x0, rd W T.g4.x1) : Words S × Words S) = cipher h (rd W a0) (rd W a1) (rd W a2) (rd W a3) := by
  simp only [tfSteps, holds_append] at H
  obtain ⟨hh, h0, h1, h2, h3, h4⟩ := H
  simp only [headSteps, holds_cons, holds_nil, and_true, Step.tbinary, Step.tnullary, Step.tunary] at hh
  obtain ⟨e0, e1, e2, e3, e4, e5, e6⟩ := hh
  rw [group_eq h4, group_eq h3, group_eq h2, group_eq h1, group_eq h0, e6, e5, e4, e3, e2, e1, e0]
  rfl

end Cert.Steps
-- ==== Proof.Shuffle.lean ====
/-
  The random permutation of 176 positions, once for any program: a key is split by the cipher over two lanes, the
  second half keys the cipher over 176 lanes, and the positions are sorted by the words. Both programs make the same
  call with the same key; what it leaves is one constant, `shuffled`, whose entries are below 176 (`shuffled_lt`).
-/
module

public import proofs.«01_k».proof.Proof.Threefry
public import Idealize.ShloMosaic.Lib.SortFacts
public import Idealize.ShloMosaic.Lib.ValueIdx

@[expose] public section

noncomputable section

namespace Cert.Steps

open Idealize.ShloMosaic Idealize.ShloMosaic.StableHlo

variable {τ : Topo} {sig : RefSig} {F : FTy → Type} [FloatOps F]

/-- Shapes of words: one, two, a row of two, a two by two table, 176. -/
abbrev W1 : Shape := ⟨1, ![1]⟩
@[inherit_doc W1] abbrev W2 : Shape := ⟨1, ![2]⟩
@[inherit_doc W1] abbrev W2x1 : Shape := ⟨2, ![2, 1]⟩
@[inherit_doc W1] abbrev W1x2 : Shape := ⟨2, ![1, 2]⟩
@[inherit_doc W1] abbrev W2x2 : Shape := ⟨2, ![2, 2]⟩
@[inherit_doc W1] abbrev W176 : Shape := ⟨1, ![176]⟩

theorem bc2 : W0.BroadcastsInDim W2 (![] : Fin 0 → Fin W2.rank) := by decide
theorem bc176 : W0.BroadcastsInDim W176 (![] : Fin 0 → Fin W176.rank) := by decide
theorem bc2x1 : W2.BroadcastsInDim W2x1 (![0] : Fin 1 → Fin W2x1.rank) := by decide
theorem sl0 : W2.Slices ![0] W1 := by decide
theorem sl1 : W2.Slices ![1] W1 := by decide
theorem sc0 : W1.ShapeCasts W0 := by decide
theorem sc2 : W1x2.ShapeCasts W2 := by decide
theorem row0 : W2x2.Slices ![0, 0] W1x2 := by decide
theorem row1 : W2x2.Slices ![1, 0] W1x2 := by decide
theorem cat22 : Shape.Concatenates [W2x1, W2x1] W2x2 1 := by decide
theorem lt64 : 32 < 64 := by decide

/-- What a counter of `S` lanes writes: the lane numbers as 64-bit words, and their high and low halves. -/
structure CountRefs (sig : RefSig) (S : Shape) where
  i : TRef sig ⟨S, .i64⟩
  c : TRef sig ⟨W0, .i64⟩
  b : TRef sig ⟨S, .i64⟩
  m : TRef sig ⟨S, .i64⟩
  d : TRef sig ⟨W0, .i64⟩
  e : TRef sig ⟨S, .i64⟩
  s : TRef sig ⟨S, .i64⟩
  lo : TRef sig ⟨S, .i32⟩
  hi : TRef sig ⟨S, .i32⟩

/-- What one call of the shuffle writes. -/
structure ShufRefs (sig : RefSig) where
  a0 : TRef sig ⟨W1, .i32⟩
  a1 : TRef sig ⟨W0, .i32⟩
  a2 : TRef sig ⟨W1, .i32⟩
  a3 : TRef sig ⟨W0, .i32⟩
  cnt2 : CountRefs sig W2
  t2 : TfRefs sig W2
  a12 : TRef sig ⟨W2x1, .i32⟩
  a13 : TRef sig ⟨W2x1, .i32⟩
  a14 : TRef sig ⟨W2x2, .i32⟩
  v1 : TRef sig ⟨W1x2, .i32⟩
  v2 : TRef sig ⟨W2, .i32⟩
  v3 : TRef sig ⟨W1x2, .i32⟩
  v4 : TRef sig ⟨W2, .i32⟩
  v5 : TRef sig ⟨W1, .i32⟩
  v6 : TRef sig ⟨W0, .i32⟩
  v7 : TRef sig ⟨W1, .i32⟩
  v8 : TRef sig ⟨W0, .i32⟩
  cnt : CountRefs sig W176
  t : TfRefs sig W176
  v17 : TRef sig ⟨W176, .i32⟩
  s0 : TRef sig ⟨W176, .i32⟩
  s1 : TRef sig ⟨W176, .i32⟩

/-- The counter's operations. -/
def countSteps {S : Shape} (h : W0.BroadcastsInDim S (![] : Fin 0 → Fin S.rank)) (i : Words64 S) (C : CountRefs sig S) :
    List (Step τ sig (Elt F)) :=
  [Step.tnullary C.i i,
   Step.tnullary C.c (constantI W0 64 1#64),
   Step.tunary C.c C.b (broadcastInDim S ![] h),
   Step.tbinary C.b C.i C.m muli,
   Step.tnullary C.d (constantI W0 64 32#64),
   Step.tunary C.d C.e (broadcastInDim S ![] h),
   Step.tbinary C.m C.e C.s Host.shrui,
   Step.tunary C.m C.lo (trunci 32 · lt64),
   Step.tunary C.s C.hi (trunci 32 · lt64)]

/-- The two words of the pair `x` that is split off, as steps. -/
def wordSteps (x : TRef sig ⟨W2, .i32⟩) (y0 : TRef sig ⟨W1, .i32⟩) (z0 : TRef sig ⟨W0, .i32⟩) (y1 : TRef sig ⟨W1, .i32⟩)
    (z1 : TRef sig ⟨W0, .i32⟩) : List (Step τ sig (Elt F)) :=
  [Step.tunary x y0 (extractStridedSlice W1 ![0] · sl0),
   Step.treshape y0 z0 (rfl : (.i32 : EltTy) = .i32) sc0,
   Step.tunary x y1 (extractStridedSlice W1 ![1] · sl1),
   Step.treshape y1 z1 (rfl : (.i32 : EltTy) = .i32) sc0]

/-- The unsigned order of the first words. -/
def firstBelow : BitVec 32 × BitVec 32 → BitVec 32 × BitVec 32 → BitVec 1 := fun l r => IntOp.cmpi .ult l.1 r.1

/-- The key's split. -/
def splitSteps (x : TRef sig ⟨W2, .i32⟩) (P : ShufRefs sig) : List (Step τ sig (Elt F)) :=
  wordSteps x P.a0 P.a1 P.a2 P.a3 ++ (countSteps bc2 (iotaInDim W2 64 0) P.cnt2 ++
    (tfSteps bc2 P.a1 P.a3 P.cnt2.hi P.cnt2.lo P.t2 ++
      [Step.tunary P.t2.g4.x0 P.a12 (broadcastInDim W2x1 ![0] bc2x1),
       Step.tunary P.t2.g4.x1 P.a13 (broadcastInDim W2x1 ![0] bc2x1),
       Step.tbinary P.a12 P.a13 P.a14 (fun a b => concatenate W2x2 1 [⟨W2x1, a⟩, ⟨W2x1, b⟩] cat22)]))

/-- The shuffle's operations. -/
def shufSteps (x : TRef sig ⟨W2, .i32⟩) (z : TRef sig ⟨W176, .i32⟩) (P : ShufRefs sig) : List (Step τ sig (Elt F)) :=
  splitSteps x P ++
   ([Step.tunary P.a14 P.v1 (extractStridedSlice W1x2 ![0, 0] · row0),
     Step.treshape P.v1 P.v2 (rfl : (.i32 : EltTy) = .i32) sc2,
     Step.tunary P.a14 P.v3 (extractStridedSlice W1x2 ![1, 0] · row1),
     Step.treshape P.v3 P.v4 (rfl : (.i32 : EltTy) = .i32) sc2] ++
    (wordSteps P.v4 P.v5 P.v6 P.v7 P.v8 ++ (countSteps bc176 (iotaInDim W176 64 0) P.cnt ++
      (tfSteps bc176 P.v6 P.v8 P.cnt.hi P.cnt.lo P.t ++
        [Step.tbinary P.t.g4.x0 P.t.g4.x1 P.v17 xori,
         Step.tbinary P.v17 z P.s0 (fun x y => (Host.sort2 W176 0 firstBelow x y).1),
         Step.tbinary P.v17 z P.s1 (fun x y => (Host.sort2 W176 0 firstBelow x y).2)]))))

/-! ### The words -/

/-- A counter's lane numbers, high and low halves. -/
def counts {S : Shape} (h : W0.BroadcastsInDim S (![] : Fin 0 → Fin S.rank)) (i : Words64 S) : Words S × Words S :=
  (trunci 32 (Host.shrui (muli (broadcastInDim S ![] h (constantI W0 64 1#64)) i)
      (broadcastInDim S ![] h (constantI W0 64 32#64))) lt64,
    trunci 32 (muli (broadcastInDim S ![] h (constantI W0 64 1#64)) i) lt64)

/-- The first and the second word of a pair. -/
def word0 (x : Words W2) : Words W0 := shapeCast W0 (extractStridedSlice W1 ![0] x sl0) sc0
@[inherit_doc word0]
def word1 (x : Words W2) : Words W0 := shapeCast W0 (extractStridedSlice W1 ![1] x sl1) sc0

/-- The second half of the split key. -/
def subkey (x : Words W2) : Words W2 :=
  let c := cipher bc2 (word0 x) (word1 x) (counts bc2 (iotaInDim W2 64 0)).1 (counts bc2 (iotaInDim W2 64 0)).2
  shapeCast W2 (extractStridedSlice W1x2 ![1, 0] (concatenate W2x2 1 [⟨W2x1, broadcastInDim W2x1 ![0] bc2x1 c.1⟩,
    ⟨W2x1, broadcastInDim W2x1 ![0] bc2x1 c.2⟩] cat22) row1) sc2

/-- The 176 words the positions are sorted by. -/
def sortWords (x : Words W2) : Words W176 :=
  let c := cipher bc176 (word0 (subkey x)) (word1 (subkey x)) (counts bc176 (iotaInDim W176 64 0)).1
    (counts bc176 (iotaInDim W176 64 0)).2
  xori c.1 c.2

/-- The table `z` shuffled under the key `x`. -/
def shuffleW (x : Words W2) (z : Words W176) : Words W176 := (Host.sort2 W176 0 firstBelow (sortWords x) z).2

variable {W : Valuation τ sig (Elt F)}

theorem count_eq {S : Shape} {h : W0.BroadcastsInDim S (![] : Fin 0 → Fin S.rank)} {i : Words64 S} {C : CountRefs sig S}
    (H : Holds W (countSteps h i C)) : rd W C.hi = (counts h i).1 ∧ rd W C.lo = (counts h i).2 := by
  simp only [countSteps, holds_cons, holds_nil, and_true, Step.tbinary, Step.tnullary, Step.tunary] at H
  obtain ⟨h0, h1, h2, h3, h4, h5, h6, h7, h8⟩ := H
  rw [h8, h7, h6, h5, h4, h3, h2, h1, h0]
  exact ⟨rfl, rfl⟩

theorem word_eq {x : TRef sig ⟨W2, .i32⟩} {y0 : TRef sig ⟨W1, .i32⟩} {z0 : TRef sig ⟨W0, .i32⟩}
    {y1 : TRef sig ⟨W1, .i32⟩} {z1 : TRef sig ⟨W0, .i32⟩} (H : Holds W (wordSteps x y0 z0 y1 z1)) :
    rd W z0 = word0 (rd W x) ∧ rd W z1 = word1 (rd W x) := by
  simp only [wordSteps, holds_cons, holds_nil, and_true, Step.tunary, Step.treshape] at H
  obtain ⟨h0, h1, h2, h3⟩ := H
  rw [h3, h2, h1, h0]
  exact ⟨rfl, rfl⟩

/-- What the shuffle's operations leave. -/
theorem shuf_eq {x : TRef sig ⟨W2, .i32⟩} {z : TRef sig ⟨W176, .i32⟩} {P : ShufRefs sig}
    (H : Holds W (shufSteps x z P)) : rd W P.s1 = shuffleW (rd W x) (rd W z) := by
  simp only [shufSteps, splitSteps, holds_append] at H
  obtain ⟨⟨hw, hc, ht, hk⟩, hr, hw', hc', ht', hs⟩ := H
  have ew := word_eq hw
  have ec := count_eq hc
  have et := tf_eq ht
  have et0 : rd W P.t2.g4.x0 = _ := congrArg Prod.fst et
  have et1 : rd W P.t2.g4.x1 = _ := congrArg Prod.snd et
  have ew' := word_eq hw'
  have ec' := count_eq hc'
  have et' := tf_eq ht'
  have et0' : rd W P.t.g4.x0 = _ := congrArg Prod.fst et'
  have et1' : rd W P.t.g4.x1 = _ := congrArg Prod.snd et'
  simp only [holds_cons, holds_nil, and_true, Step.tbinary, Step.tunary, Step.treshape] at hk hr hs
  obtain ⟨k0, k1, k2⟩ := hk
  obtain ⟨r0, r1, r2, r3⟩ := hr
  obtain ⟨s0, s1, s2⟩ := hs
  have key : rd W P.v4 = subkey (rd W x) := by
    rw [r3, r2, k2, k1, k0, et0, et1, ew.1, ew.2, ec.1, ec.2]
    rfl
  rw [s2, s0, et0', et1', ew'.1, ew'.2, ec'.1, ec'.2, key]
  rfl

theorem bc1 : W0.BroadcastsInDim W1 (![] : Fin 0 → Fin W1.rank) := by decide
theorem cat2 : Shape.Concatenates [W1, W1] W2 0 := by decide

/-- The key made of the seed 1: its high word and its low word. -/
def seedKey : Words W2 :=
  concatenate W2 0 [⟨W1, broadcastInDim W1 ![] bc1 (Host.shrui (constantI W0 32 1#32) (constantI W0 32 32#32))⟩,
    ⟨W1, broadcastInDim W1 ![] bc1 (andi (constantI W0 32 1#32) (constantI W0 32 4294967295#32))⟩] cat2

/-- The permutation both programs draw. -/
def shuffled : Words W176 := shuffleW seedKey (iotaInDim W176 32 0)

/-- Its entries are positions. -/
theorem shuffled_lt (j : W176.Idx) : (shuffled j).toNat < 176 := by
  obtain ⟨k, hk⟩ : ∃ k : Fin 176, shuffled j = BitVec.ofNat 32 k.val := by
    refine ⟨sortedFrom (fun k k' => firstBelow (sortWords seedKey (j.along 0 k), iotaInDim W176 32 0 (j.along 0 k))
      (sortWords seedKey (j.along 0 k'), iotaInDim W176 32 0 (j.along 0 k')) == 1#1) (j 0), ?_⟩
    unfold shuffled shuffleW Host.sort2
    exact congrArg (fun k : Fin 176 => BitVec.ofNat 32 k.val) (Function.update_self (0 : Fin 1) _ j)
  rw [hk, BitVec.toNat_ofNat]
  have := k.isLt
  omega

end Cert.Steps
-- ==== Proof.IntFns.lean ====
/-
  Remainder, floor division and clipping of integers by a scalar, as both programs call them, once for any shape:
  what one call writes, its operations, and the element it computes from one element (`remE`, `fdivE`, `clipE`).
-/
module

public import proofs.«01_k».proof.Proof.Threefry

@[expose] public section

noncomputable section

namespace Cert.Steps

open Idealize.ShloMosaic Idealize.ShloMosaic.StableHlo

variable {τ : Topo} {sig : RefSig} {F : FTy → Type} [FloatOps F] {S : Shape}

/-- What one call of the remainder writes. -/
structure RemRefs (sig : RefSig) (S : Shape) where
  v0 : TRef sig ⟨W0, .i32⟩
  c : TRef sig ⟨W0, .i32⟩
  v1 : TRef sig ⟨W0, .i1⟩
  c0 : TRef sig ⟨W0, .i32⟩
  w : TRef sig ⟨W0, .i32⟩
  v3 : TRef sig ⟨S, .i32⟩
  v4 : TRef sig ⟨S, .i32⟩
  c1 : TRef sig ⟨W0, .i32⟩
  v5 : TRef sig ⟨S, .i32⟩
  v6 : TRef sig ⟨S, .i1⟩
  c2 : TRef sig ⟨W0, .i32⟩
  v7 : TRef sig ⟨S, .i32⟩
  v8 : TRef sig ⟨S, .i1⟩
  c3 : TRef sig ⟨W0, .i32⟩
  v9 : TRef sig ⟨W0, .i1⟩
  v10 : TRef sig ⟨S, .i1⟩
  v11 : TRef sig ⟨S, .i1⟩
  v12 : TRef sig ⟨S, .i1⟩
  v13 : TRef sig ⟨S, .i32⟩
  v14 : TRef sig ⟨S, .i32⟩
  v15 : TRef sig ⟨S, .i32⟩

/-- What one call of the floor division writes. -/
structure DivRefs (sig : RefSig) (S : Shape) where
  v0 : TRef sig ⟨W0, .i32⟩
  v1 : TRef sig ⟨S, .i32⟩
  v2 : TRef sig ⟨S, .i32⟩
  v3 : TRef sig ⟨S, .i32⟩
  v4 : TRef sig ⟨W0, .i32⟩
  v5 : TRef sig ⟨S, .i32⟩
  v6 : TRef sig ⟨S, .i1⟩
  v7 : TRef sig ⟨S, .i32⟩
  v8 : TRef sig ⟨S, .i32⟩
  c : TRef sig ⟨W0, .i32⟩
  v9 : TRef sig ⟨S, .i32⟩
  v10 : TRef sig ⟨S, .i1⟩
  v11 : TRef sig ⟨S, .i1⟩
  c0 : TRef sig ⟨W0, .i32⟩
  v12 : TRef sig ⟨S, .i32⟩
  v13 : TRef sig ⟨S, .i32⟩
  w : TRef sig ⟨S, .i32⟩

/-- What one call of the clipping writes. -/
structure ClipRefs (sig : RefSig) (S : Shape) where
  v0 : TRef sig ⟨W0, .i32⟩
  v1 : TRef sig ⟨S, .i32⟩
  v2 : TRef sig ⟨S, .i32⟩
  v3 : TRef sig ⟨W0, .i32⟩
  v4 : TRef sig ⟨S, .i32⟩
  v5 : TRef sig ⟨S, .i32⟩

variable (h : W0.BroadcastsInDim S (![] : Fin 0 → Fin S.rank))

/-- The one index of a scalar. -/
def pt0 : W0.Idx := fun a => a.elim0

/-- The remainder's operations. -/
def remSteps (x : TRef sig ⟨S, .i32⟩) (y : TRef sig ⟨W0, .i32⟩) (R : RemRefs sig S) : List (Step τ sig (Elt F)) :=
  [Step.tunary y R.v0 id,
   Step.tnullary R.c (constantI W0 32 0#32),
   Step.tbinary R.v0 R.c R.v1 (cmpi .eq),
   Step.tnullary R.c0 (constantI W0 32 1#32),
   Step.tternary R.v1 R.c0 R.v0 R.w select,
   Step.tunary R.w R.v3 (broadcastInDim S ![] h),
   Step.tbinary x R.v3 R.v4 Host.remsi,
   Step.tnullary R.c1 (constantI W0 32 0#32),
   Step.tunary R.c1 R.v5 (broadcastInDim S ![] h),
   Step.tbinary R.v4 R.v5 R.v6 (cmpi .ne),
   Step.tnullary R.c2 (constantI W0 32 0#32),
   Step.tunary R.c2 R.v7 (broadcastInDim S ![] h),
   Step.tbinary R.v4 R.v7 R.v8 (cmpi .slt),
   Step.tnullary R.c3 (constantI W0 32 0#32),
   Step.tbinary R.w R.c3 R.v9 (cmpi .slt),
   Step.tunary R.v9 R.v10 (broadcastInDim S ![] h),
   Step.tbinary R.v8 R.v10 R.v11 (cmpi .ne),
   Step.tbinary R.v11 R.v6 R.v12 andi,
   Step.tunary R.w R.v13 (broadcastInDim S ![] h),
   Step.tbinary R.v4 R.v13 R.v14 addi,
   Step.tternary R.v12 R.v14 R.v4 R.v15 select]

/-- The floor division's operations. -/
def divSteps (x : TRef sig ⟨S, .i32⟩) (y : TRef sig ⟨W0, .i32⟩) (R : DivRefs sig S) : List (Step τ sig (Elt F)) :=
  [Step.tunary y R.v0 id,
   Step.tunary R.v0 R.v1 (broadcastInDim S ![] h),
   Step.tbinary x R.v1 R.v2 Host.divsi,
   Step.tunary x R.v3 signi,
   Step.tunary R.v0 R.v4 signi,
   Step.tunary R.v4 R.v5 (broadcastInDim S ![] h),
   Step.tbinary R.v3 R.v5 R.v6 (cmpi .ne),
   Step.tunary R.v0 R.v7 (broadcastInDim S ![] h),
   Step.tbinary x R.v7 R.v8 Host.remsi,
   Step.tnullary R.c (constantI W0 32 0#32),
   Step.tunary R.c R.v9 (broadcastInDim S ![] h),
   Step.tbinary R.v8 R.v9 R.v10 (cmpi .ne),
   Step.tbinary R.v6 R.v10 R.v11 andi,
   Step.tnullary R.c0 (constantI W0 32 1#32),
   Step.tunary R.c0 R.v12 (broadcastInDim S ![] h),
   Step.tbinary R.v2 R.v12 R.v13 subi,
   Step.tternary R.v11 R.v13 R.v2 R.w select]

/-- The clipping's operations. -/
def clipSteps (x : TRef sig ⟨S, .i32⟩) (l u : TRef sig ⟨W0, .i32⟩) (R : ClipRefs sig S) : List (Step τ sig (Elt F)) :=
  [Step.tunary l R.v0 id,
   Step.tunary R.v0 R.v1 (broadcastInDim S ![] h),
   Step.tbinary R.v1 x R.v2 maxsi,
   Step.tunary u R.v3 id,
   Step.tunary R.v3 R.v4 (broadcastInDim S ![] h),
   Step.tbinary R.v4 R.v2 R.v5 minsi]

/-- The remainder of one element by `y`. -/
def remE (x y : BitVec 32) : BitVec 32 :=
  let w := if IntOp.cmpi .eq y 0#32 = 1#1 then 1#32 else y
  let r := IntOp.remsi .host x w
  if IntOp.andi (IntOp.cmpi .ne (IntOp.cmpi .slt r 0#32) (IntOp.cmpi .slt w 0#32)) (IntOp.cmpi .ne r 0#32) = 1#1 then
    IntOp.addi r w else r

/-- The sign of one element. -/
def signE (x : BitVec 32) : BitVec 32 := if x = 0 then 0 else if x.msb then -1 else 1

/-- The floor division of one element by `y`. -/
def fdivE (x y : BitVec 32) : BitVec 32 :=
  if IntOp.andi (IntOp.cmpi .ne (signE x) (signE y)) (IntOp.cmpi .ne (IntOp.remsi .host x y) 0#32) = 1#1 then
    IntOp.subi (IntOp.divsi .host x y) 1#32 else IntOp.divsi .host x y

/-- One element clipped to `[l, u]`. -/
def clipE (x l u : BitVec 32) : BitVec 32 := IntOp.minsi u (IntOp.maxsi l x)

variable {h}
variable {W : Valuation τ sig (Elt F)}

/-- A scalar spread over a shape reads the scalar. -/
theorem bc_apply {α : Type} (v : W0.Idx → α) (i : S.Idx) : broadcastInDim S ![] h v i = v pt0 := by
  unfold broadcastInDim
  exact congrArg v (funext fun a => a.elim0)

theorem rem_eq {x : TRef sig ⟨S, .i32⟩} {y : TRef sig ⟨W0, .i32⟩} {R : RemRefs sig S} (H : Holds W (remSteps h x y R))
    (i : S.Idx) : rd W R.v15 i = remE (rd W x i) (rd W y pt0) := by
  simp only [remSteps, holds_cons, holds_nil, and_true, Step.tbinary, Step.tnullary, Step.tunary, Step.tternary] at H
  obtain ⟨h0, h1, h2, h3, h4, h5, h6, h7, h8, h9, h10, h11, h12, h13, h14, h15, h16, h17, h18, h19, h20⟩ := H
  have e4 : rd W R.w pt0 = if IntOp.cmpi .eq (rd W y pt0) 0#32 = 1#1 then 1#32 else rd W y pt0 := by
    rw [h4, h3, h2, h1, h0]; rfl
  have e6 : rd W R.v4 i = IntOp.remsi .host (rd W x i) (rd W R.w pt0) := by
    rw [h6, h5]; exact congrArg (IntOp.remsi .host (rd W x i)) (bc_apply ..)
  rw [h20, h19, h18, h17, h16, h15, h14, h13, h12, h11, h10, h9, h8, h7]
  simp only [select, cmpi, andi, addi, bc_apply, constantI]
  rw [e6, e4]
  rfl

theorem div_eq {x : TRef sig ⟨S, .i32⟩} {y : TRef sig ⟨W0, .i32⟩} {R : DivRefs sig S} (H : Holds W (divSteps h x y R))
    (i : S.Idx) : rd W R.w i = fdivE (rd W x i) (rd W y pt0) := by
  simp only [divSteps, holds_cons, holds_nil, and_true, Step.tbinary, Step.tnullary, Step.tunary, Step.tternary] at H
  obtain ⟨h0, h1, h2, h3, h4, h5, h6, h7, h8, h9, h10, h11, h12, h13, h14, h15, h16⟩ := H
  rw [h16, h15, h14, h13, h12, h11, h10, h9, h8, h7, h6, h5, h4, h3, h2, h1, h0]
  simp only [select, cmpi, andi, subi, bc_apply, constantI, Host.divsi, Host.remsi, signi, id]
  rfl

theorem clip_eq {x : TRef sig ⟨S, .i32⟩} {l u : TRef sig ⟨W0, .i32⟩} {R : ClipRefs sig S} (H : Holds W (clipSteps h x l u R))
    (i : S.Idx) : rd W R.v5 i = clipE (rd W x i) (rd W l pt0) (rd W u pt0) := by
  simp only [clipSteps, holds_cons, holds_nil, and_true, Step.tbinary, Step.tunary] at H
  obtain ⟨h0, h1, h2, h3, h4, h5⟩ := H
  rw [h5, h4, h3, h2, h1, h0]
  simp only [minsi, maxsi, bc_apply, id]
  rfl

end Cert.Steps
-- ==== Proof.RefCalls.lean ====
/-
  The reference's calls, as steps: the buffers of each call sorted into the roles its operations play, and each
  function's body as the line of those operations.
-/
module

public import proofs.«01_k».proof.Proof.Gen.ReferenceIdeal
public import proofs.«01_k».proof.Proof.Shuffle
public import proofs.«01_k».proof.Proof.IntFns

@[expose] public section

noncomputable section

namespace Cert.ReferenceIdeal.Line

open Cert.ReferenceIdeal Cert.ReferenceIdeal.Gen Cert.Steps Idealize.ShloMosaic Idealize.ShloMosaic.TcCoe Idealize.SL.Sem Idealize.ShloMosaic.StableHlo

variable {F : FTy → Type} [FloatOps F]

set_option maxRecDepth 8192
set_option maxHeartbeats 4000000

/-- The buffers of one call of the cipher over two lanes. -/
def tf2 (φ : fn_threefry2x32.Bufs) : TfRefs sig S2 :=
  ⟨φ.v0, φ.c, φ.v1, φ.v2, φ.v3, φ.v4, φ.v5,
    ⟨⟨φ.v6, φ.c_0, φ.v7, φ.v8, φ.c_1, φ.v9, φ.v10, φ.v11, φ.v12⟩,
      ⟨φ.v13, φ.c_2, φ.v14, φ.v15, φ.c_3, φ.v16, φ.v17, φ.v18, φ.v19⟩,
      ⟨φ.v20, φ.c_4, φ.v21, φ.v22, φ.c_5, φ.v23, φ.v24, φ.v25, φ.v26⟩,
      ⟨φ.v27, φ.c_6, φ.v28, φ.v29, φ.c_7, φ.v30, φ.v31, φ.v32, φ.v33⟩,
      φ.v34, φ.v35, φ.v36, φ.v37, φ.c_8, φ.v38, φ.v39⟩,
    ⟨⟨φ.v40, φ.c_9, φ.v41, φ.v42, φ.c_10, φ.v43, φ.v44, φ.v45, φ.v46⟩,
      ⟨φ.v47, φ.c_11, φ.v48, φ.v49, φ.c_12, φ.v50, φ.v51, φ.v52, φ.v53⟩,
      ⟨φ.v54, φ.c_13, φ.v55, φ.v56, φ.c_14, φ.v57, φ.v58, φ.v59, φ.v60⟩,
      ⟨φ.v61, φ.c_15, φ.v62, φ.v63, φ.c_16, φ.v64, φ.v65, φ.v66, φ.v67⟩,
      φ.v68, φ.v69, φ.v70, φ.v71, φ.c_17, φ.v72, φ.v73⟩,
    ⟨⟨φ.v74, φ.c_18, φ.v75, φ.v76, φ.c_19, φ.v77, φ.v78, φ.v79, φ.v80⟩,
      ⟨φ.v81, φ.c_20, φ.v82, φ.v83, φ.c_21, φ.v84, φ.v85, φ.v86, φ.v87⟩,
      ⟨φ.v88, φ.c_22, φ.v89, φ.v90, φ.c_23, φ.v91, φ.v92, φ.v93, φ.v94⟩,
      ⟨φ.v95, φ.c_24, φ.v96, φ.v97, φ.c_25, φ.v98, φ.v99, φ.v100, φ.v101⟩,
      φ.v102, φ.v103, φ.v104, φ.v105, φ.c_26, φ.v106, φ.v107⟩,
    ⟨⟨φ.v108, φ.c_27, φ.v109, φ.v110, φ.c_28, φ.v111, φ.v112, φ.v113, φ.v114⟩,
      ⟨φ.v115, φ.c_29, φ.v116, φ.v117, φ.c_30, φ.v118, φ.v119, φ.v120, φ.v121⟩,
      ⟨φ.v122, φ.c_31, φ.v123, φ.v124, φ.c_32, φ.v125, φ.v126, φ.v127, φ.v128⟩,
      ⟨φ.v129, φ.c_33, φ.v130, φ.v131, φ.c_34, φ.v132, φ.v133, φ.v134, φ.v135⟩,
      φ.v136, φ.v137, φ.v138, φ.v139, φ.c_35, φ.v140, φ.v141⟩,
    ⟨⟨φ.v142, φ.c_36, φ.v143, φ.v144, φ.c_37, φ.v145, φ.v146, φ.v147, φ.v148⟩,
      ⟨φ.v149, φ.c_38, φ.v150, φ.v151, φ.c_39, φ.v152, φ.v153, φ.v154, φ.v155⟩,
      ⟨φ.v156, φ.c_40, φ.v157, φ.v158, φ.c_41, φ.v159, φ.v160, φ.v161, φ.v162⟩,
      ⟨φ.v163, φ.c_42, φ.v164, φ.v165, φ.c_43, φ.v166, φ.v167, φ.v168, φ.v169⟩,
      φ.v170, φ.v171, φ.v172, φ.v173, φ.c_44, φ.v174, φ.v175⟩⟩

/-- The buffers of one call of the cipher over 176 lanes. -/
def tf176 (φ : fn_threefry2x32_0.Bufs) : TfRefs sig S176 :=
  ⟨φ.v0, φ.c, φ.v1, φ.v2, φ.v3, φ.v4, φ.v5,
    ⟨⟨φ.v6, φ.c_0, φ.v7, φ.v8, φ.c_1, φ.v9, φ.v10, φ.v11, φ.v12⟩,
      ⟨φ.v13, φ.c_2, φ.v14, φ.v15, φ.c_3, φ.v16, φ.v17, φ.v18, φ.v19⟩,
      ⟨φ.v20, φ.c_4, φ.v21, φ.v22, φ.c_5, φ.v23, φ.v24, φ.v25, φ.v26⟩,
      ⟨φ.v27, φ.c_6, φ.v28, φ.v29, φ.c_7, φ.v30, φ.v31, φ.v32, φ.v33⟩,
      φ.v34, φ.v35, φ.v36, φ.v37, φ.c_8, φ.v38, φ.v39⟩,
    ⟨⟨φ.v40, φ.c_9, φ.v41, φ.v42, φ.c_10, φ.v43, φ.v44, φ.v45, φ.v46⟩,
      ⟨φ.v47, φ.c_11, φ.v48, φ.v49, φ.c_12, φ.v50, φ.v51, φ.v52, φ.v53⟩,
      ⟨φ.v54, φ.c_13, φ.v55, φ.v56, φ.c_14, φ.v57, φ.v58, φ.v59, φ.v60⟩,
      ⟨φ.v61, φ.c_15, φ.v62, φ.v63, φ.c_16, φ.v64, φ.v65, φ.v66, φ.v67⟩,
      φ.v68, φ.v69, φ.v70, φ.v71, φ.c_17, φ.v72, φ.v73⟩,
    ⟨⟨φ.v74, φ.c_18, φ.v75, φ.v76, φ.c_19, φ.v77, φ.v78, φ.v79, φ.v80⟩,
      ⟨φ.v81, φ.c_20, φ.v82, φ.v83, φ.c_21, φ.v84, φ.v85, φ.v86, φ.v87⟩,
      ⟨φ.v88, φ.c_22, φ.v89, φ.v90, φ.c_23, φ.v91, φ.v92, φ.v93, φ.v94⟩,
      ⟨φ.v95, φ.c_24, φ.v96, φ.v97, φ.c_25, φ.v98, φ.v99, φ.v100, φ.v101⟩,
      φ.v102, φ.v103, φ.v104, φ.v105, φ.c_26, φ.v106, φ.v107⟩,
    ⟨⟨φ.v108, φ.c_27, φ.v109, φ.v110, φ.c_28, φ.v111, φ.v112, φ.v113, φ.v114⟩,
      ⟨φ.v115, φ.c_29, φ.v116, φ.v117, φ.c_30, φ.v118, φ.v119, φ.v120, φ.v121⟩,
      ⟨φ.v122, φ.c_31, φ.v123, φ.v124, φ.c_32, φ.v125, φ.v126, φ.v127, φ.v128⟩,
      ⟨φ.v129, φ.c_33, φ.v130, φ.v131, φ.c_34, φ.v132, φ.v133, φ.v134, φ.v135⟩,
      φ.v136, φ.v137, φ.v138, φ.v139, φ.c_35, φ.v140, φ.v141⟩,
    ⟨⟨φ.v142, φ.c_36, φ.v143, φ.v144, φ.c_37, φ.v145, φ.v146, φ.v147, φ.v148⟩,
      ⟨φ.v149, φ.c_38, φ.v150, φ.v151, φ.c_39, φ.v152, φ.v153, φ.v154, φ.v155⟩,
      ⟨φ.v156, φ.c_40, φ.v157, φ.v158, φ.c_41, φ.v159, φ.v160, φ.v161, φ.v162⟩,
      ⟨φ.v163, φ.c_42, φ.v164, φ.v165, φ.c_43, φ.v166, φ.v167, φ.v168, φ.v169⟩,
      φ.v170, φ.v171, φ.v172, φ.v173, φ.c_44, φ.v174, φ.v175⟩⟩

/-- The buffers of the call of the shuffle. -/
def shufRefs (φ : fn_shuffle.Bufs) : ShufRefs sig :=
  ⟨φ.call0.v0, φ.call0.v1, φ.call0.v2, φ.call0.v3,
    ⟨φ.call0.v4, φ.call0.c, φ.call0.v5, φ.call0.v6, φ.call0.c_0, φ.call0.v7, φ.call0.v8, φ.call0.v9, φ.call0.v10⟩,
    tf2 φ.call0.call0, φ.call0.v12, φ.call0.v13, φ.call0.v14, φ.v1, φ.v2, φ.v3, φ.v4, φ.v5, φ.v6, φ.v7, φ.v8,
    ⟨φ.v9, φ.c, φ.v10, φ.v11, φ.c_0, φ.v12, φ.v13, φ.v14, φ.v15⟩, tf176 φ.call1, φ.v17, φ.v18_0, φ.v18_1⟩

/-- The buffers of a call of the remainder. -/
def rem20 (φ : fn_remainder.Bufs) : RemRefs sig S512x20 :=
  ⟨φ.v0, φ.c, φ.v1, φ.c_0, φ.call0.v0, φ.v3, φ.v4, φ.c_1, φ.v5, φ.v6, φ.c_2, φ.v7, φ.v8, φ.c_3, φ.v9, φ.v10, φ.v11,
    φ.v12, φ.v13, φ.v14, φ.v15⟩

/-- The buffers of a call of the floor division. -/
def div20 (φ : fn_floor_divide.Bufs) : DivRefs sig S512x20 :=
  ⟨φ.v0, φ.v1, φ.v2, φ.v3, φ.v4, φ.v5, φ.v6, φ.v7, φ.v8, φ.c, φ.v9, φ.v10, φ.v11, φ.c_0, φ.v12, φ.v13, φ.call0.v0⟩

/-- The buffers of a call of the remainder. -/
def rem76 (φ : fn_remainder_2.Bufs) : RemRefs sig S512x76 :=
  ⟨φ.v0, φ.c, φ.v1, φ.c_0, φ.call0.v0, φ.v3, φ.v4, φ.c_1, φ.v5, φ.v6, φ.c_2, φ.v7, φ.v8, φ.c_3, φ.v9, φ.v10, φ.v11,
    φ.v12, φ.v13, φ.v14, φ.v15⟩

/-- The buffers of a call of the floor division. -/
def div76 (φ : fn_floor_divide_3.Bufs) : DivRefs sig S512x76 :=
  ⟨φ.v0, φ.v1, φ.v2, φ.v3, φ.v4, φ.v5, φ.v6, φ.v7, φ.v8, φ.c, φ.v9, φ.v10, φ.v11, φ.c_0, φ.v12, φ.v13, φ.call0.v0⟩

/-- The buffers of a call of the clipping. -/
def clip20 (φ : fn_clip.Bufs) : ClipRefs sig S64x20 := ⟨φ.v0, φ.v1, φ.v2, φ.v3, φ.v4, φ.v5⟩

/-- The buffers of a call of the clipping. -/
def clip76 (φ : fn_clip_5.Bufs) : ClipRefs sig S64x76 := ⟨φ.v0, φ.v1, φ.v2, φ.v3, φ.v4, φ.v5⟩

/-- The padding's operations. -/
def padSteps (arg0 : TRef sig ⟨S512x384x14x14, .f32⟩) (arg1 : TRef sig ⟨S_, .i32⟩) (φ : fn_pad.Bufs) :
    List (Step τ sig (Elt F)) :=
  [Step.tunary arg1 φ.v0 (sitofp .f32),
   Step.tbinary arg0 φ.v0 φ.v1 (fun x v => pad S512x384x16x16 ![0, 0, 1, 1] ![0, 0, 1, 1] ![0, 0, 0, 0] x v pads_S512x384x14x14_S512x384x16x16_000_000_110_110 h_S_)]

/-- The stable sort's operations. -/
def argsortSteps (arg0 : TRef sig ⟨S512x196, .i32⟩) (φ : fn_argsort.Bufs) : List (Step τ sig (Elt F)) :=
  [Step.tnullary φ.v0 (iotaInDim S512x196 32 1),
   Step.tbinary arg0 φ.v0 φ.v1_0 (fun x y => (Host.sort2 S512x196 1 comparator_i32_i32_d1 x y).1),
   Step.tbinary arg0 φ.v0 φ.v1_1 (fun x y => (Host.sort2 S512x196 1 comparator_i32_i32_d1 x y).2)]

theorem pad_body (x) (y) (φ : fn_pad.Bufs) :
    fn_pad.body (F := F) x y φ = seq (ops (padSteps x y φ)) := rfl

theorem argsort_body (x) (φ : fn_argsort.Bufs) :
    fn_argsort.body (F := F) x φ = seq (ops (argsortSteps x φ)) := rfl

theorem tf2_body (a b c d) (φ : fn_threefry2x32.Bufs) :
    fn_threefry2x32.body (F := F) a b c d φ = seq (ops (tfSteps bcast_S_S2 a b c d (tf2 φ))) := rfl

theorem tf176_body (a b c d) (φ : fn_threefry2x32_0.Bufs) :
    fn_threefry2x32_0.body (F := F) a b c d φ = seq (ops (tfSteps bcast_S_S176 a b c d (tf176 φ))) := rfl

theorem shuf_body (x) (y) (φ : fn_shuffle.Bufs) :
    fn_shuffle.body (F := F) x y φ = seq (ops (shufSteps x y (shufRefs φ))) := by
  simp only [fn_shuffle.body, fn_threefry_split.body, tf2_body, tf176_body, shufSteps, splitSteps, ops, List.map_append,
    seq_append]
  rfl

theorem rem20_body (x) (y) (φ : fn_remainder.Bufs) :
    fn_remainder.body (F := F) x y φ = seq (ops (remSteps bcast_S_S512x20 x y (rem20 φ))) := rfl

theorem div20_body (x) (y) (φ : fn_floor_divide.Bufs) :
    fn_floor_divide.body (F := F) x y φ = seq (ops (divSteps bcast_S_S512x20 x y (div20 φ))) := rfl

theorem rem76_body (x) (y) (φ : fn_remainder_2.Bufs) :
    fn_remainder_2.body (F := F) x y φ = seq (ops (remSteps bcast_S_S512x76 x y (rem76 φ))) := rfl

theorem div76_body (x) (y) (φ : fn_floor_divide_3.Bufs) :
    fn_floor_divide_3.body (F := F) x y φ = seq (ops (divSteps bcast_S_S512x76 x y (div76 φ))) := rfl

theorem clip20_body (x) (l) (u) (φ : fn_clip.Bufs) :
    fn_clip.body (F := F) x l u φ = seq (ops (clipSteps bcast_S_S64x20 x l u (clip20 φ))) := rfl

theorem clip76_body (x) (l) (u) (φ : fn_clip_5.Bufs) :
    fn_clip_5.body (F := F) x l u φ = seq (ops (clipSteps bcast_S_S64x76 x l u (clip76 φ))) := rfl

end Cert.ReferenceIdeal.Line

end

end
-- ==== Proof.RefLine.lean ====
/-
  The reference as a line of steps: its buffers as typed references, its operations in groups (padding, the nine taps,
  the logits and their sigmoid, the twenty largest, the mask and its stable sort, the shuffle, the coordinates), its
  body as the line of all groups, and its run: every execution ends with the line's contents, whose equations hold.
-/
module

public import proofs.«01_k».proof.Proof.RefCalls
public import Idealize.ShloMosaic.Lib.Pipeline.Frame
public import Idealize.ShloMosaic.Lib.Quiescent

@[expose] public section

noncomputable section

namespace Cert.ReferenceIdeal.Line

open Cert.ReferenceIdeal Cert.ReferenceIdeal.Gen Cert.Steps Idealize.ShloMosaic Idealize.ShloMosaic.TcCoe Idealize.SL.Sem Idealize.ShloMosaic.StableHlo

variable {F : FTy → Type} [FloatOps F]

/-! ### The buffers -/

abbrev v0 : TRef sig ⟨S512x384x14x14, .f32⟩ := .of main_v0
abbrev c : TRef sig ⟨S_, .i32⟩ := .of main_c
abbrev v2 : TRef sig ⟨S512x384x14x14, .f32⟩ := .of main_v2
abbrev v3 : TRef sig ⟨S384x1x1x1, .f32⟩ := .of main_v3
abbrev v4 : TRef sig ⟨S384, .f32⟩ := .of main_v4
abbrev v5 : TRef sig ⟨S1x384x1x1, .f32⟩ := .of main_v5
abbrev v6 : TRef sig ⟨S512x384x14x14, .f32⟩ := .of main_v6
abbrev v7 : TRef sig ⟨S512x384x14x14, .f32⟩ := .of main_v7
abbrev v8 : TRef sig ⟨S512x384x14x14, .f32⟩ := .of main_v8
abbrev v9 : TRef sig ⟨S384x1x1x1, .f32⟩ := .of main_v9
abbrev v10 : TRef sig ⟨S384, .f32⟩ := .of main_v10
abbrev v11 : TRef sig ⟨S1x384x1x1, .f32⟩ := .of main_v11
abbrev v12 : TRef sig ⟨S512x384x14x14, .f32⟩ := .of main_v12
abbrev v13 : TRef sig ⟨S512x384x14x14, .f32⟩ := .of main_v13
abbrev v14 : TRef sig ⟨S512x384x14x14, .f32⟩ := .of main_v14
abbrev v15 : TRef sig ⟨S512x384x14x14, .f32⟩ := .of main_v15
abbrev v16 : TRef sig ⟨S384x1x1x1, .f32⟩ := .of main_v16
abbrev v17 : TRef sig ⟨S384, .f32⟩ := .of main_v17
abbrev v18 : TRef sig ⟨S1x384x1x1, .f32⟩ := .of main_v18
abbrev v19 : TRef sig ⟨S512x384x14x14, .f32⟩ := .of main_v19
abbrev v20 : TRef sig ⟨S512x384x14x14, .f32⟩ := .of main_v20
abbrev v21 : TRef sig ⟨S512x384x14x14, .f32⟩ := .of main_v21
abbrev v22 : TRef sig ⟨S512x384x14x14, .f32⟩ := .of main_v22
abbrev v23 : TRef sig ⟨S384x1x1x1, .f32⟩ := .of main_v23
abbrev v24 : TRef sig ⟨S384, .f32⟩ := .of main_v24
abbrev v25 : TRef sig ⟨S1x384x1x1, .f32⟩ := .of main_v25
abbrev v26 : TRef sig ⟨S512x384x14x14, .f32⟩ := .of main_v26
abbrev v27 : TRef sig ⟨S512x384x14x14, .f32⟩ := .of main_v27
abbrev v28 : TRef sig ⟨S512x384x14x14, .f32⟩ := .of main_v28
abbrev v29 : TRef sig ⟨S512x384x14x14, .f32⟩ := .of main_v29
abbrev v30 : TRef sig ⟨S384x1x1x1, .f32⟩ := .of main_v30
abbrev v31 : TRef sig ⟨S384, .f32⟩ := .of main_v31
abbrev v32 : TRef sig ⟨S1x384x1x1, .f32⟩ := .of main_v32
abbrev v33 : TRef sig ⟨S512x384x14x14, .f32⟩ := .of main_v33
abbrev v34 : TRef sig ⟨S512x384x14x14, .f32⟩ := .of main_v34
abbrev v35 : TRef sig ⟨S512x384x14x14, .f32⟩ := .of main_v35
abbrev v36 : TRef sig ⟨S512x384x14x14, .f32⟩ := .of main_v36
abbrev v37 : TRef sig ⟨S384x1x1x1, .f32⟩ := .of main_v37
abbrev v38 : TRef sig ⟨S384, .f32⟩ := .of main_v38
abbrev v39 : TRef sig ⟨S1x384x1x1, .f32⟩ := .of main_v39
abbrev v40 : TRef sig ⟨S512x384x14x14, .f32⟩ := .of main_v40
abbrev v41 : TRef sig ⟨S512x384x14x14, .f32⟩ := .of main_v41
abbrev v42 : TRef sig ⟨S512x384x14x14, .f32⟩ := .of main_v42
abbrev v43 : TRef sig ⟨S512x384x14x14, .f32⟩ := .of main_v43
abbrev v44 : TRef sig ⟨S384x1x1x1, .f32⟩ := .of main_v44
abbrev v45 : TRef sig ⟨S384, .f32⟩ := .of main_v45
abbrev v46 : TRef sig ⟨S1x384x1x1, .f32⟩ := .of main_v46
abbrev v47 : TRef sig ⟨S512x384x14x14, .f32⟩ := .of main_v47
abbrev v48 : TRef sig ⟨S512x384x14x14, .f32⟩ := .of main_v48
abbrev v49 : TRef sig ⟨S512x384x14x14, .f32⟩ := .of main_v49
abbrev v50 : TRef sig ⟨S512x384x14x14, .f32⟩ := .of main_v50
abbrev v51 : TRef sig ⟨S384x1x1x1, .f32⟩ := .of main_v51
abbrev v52 : TRef sig ⟨S384, .f32⟩ := .of main_v52
abbrev v53 : TRef sig ⟨S1x384x1x1, .f32⟩ := .of main_v53
abbrev v54 : TRef sig ⟨S512x384x14x14, .f32⟩ := .of main_v54
abbrev v55 : TRef sig ⟨S512x384x14x14, .f32⟩ := .of main_v55
abbrev v56 : TRef sig ⟨S512x384x14x14, .f32⟩ := .of main_v56
abbrev v57 : TRef sig ⟨S512x384x14x14, .f32⟩ := .of main_v57
abbrev v58 : TRef sig ⟨S384x1x1x1, .f32⟩ := .of main_v58
abbrev v59 : TRef sig ⟨S384, .f32⟩ := .of main_v59
abbrev v60 : TRef sig ⟨S1x384x1x1, .f32⟩ := .of main_v60
abbrev v61 : TRef sig ⟨S512x384x14x14, .f32⟩ := .of main_v61
abbrev v62 : TRef sig ⟨S512x384x14x14, .f32⟩ := .of main_v62
abbrev v63 : TRef sig ⟨S512x384x14x14, .f32⟩ := .of main_v63
abbrev v64 : TRef sig ⟨S1x384x1x1, .f32⟩ := .of main_v64
abbrev v65 : TRef sig ⟨S512x384x14x14, .f32⟩ := .of main_v65
abbrev v66 : TRef sig ⟨S512x384x14x14, .f32⟩ := .of main_v66
abbrev v67 : TRef sig ⟨S1x384, .f32⟩ := .of main_v67
abbrev v68 : TRef sig ⟨S512x14x14x1, .f32⟩ := .of main_v68
abbrev v69 : TRef sig ⟨S512x1x14x14, .f32⟩ := .of main_v69
abbrev v70 : TRef sig ⟨S1x1x1x1, .f32⟩ := .of main_v70
abbrev v71 : TRef sig ⟨S512x1x14x14, .f32⟩ := .of main_v71
abbrev v72 : TRef sig ⟨S512x1x14x14, .f32⟩ := .of main_v72
abbrev v73 : TRef sig ⟨S512x1x14x14, .f32⟩ := .of main_v73
abbrev v74 : TRef sig ⟨S512x1x14x14, .f32⟩ := .of main_v74
abbrev cst : TRef sig ⟨S_, .f32⟩ := .of main_cst
abbrev v75 : TRef sig ⟨S512x1x14x14, .f32⟩ := .of main_v75
abbrev v76 : TRef sig ⟨S512x1x14x14, .f32⟩ := .of main_v76
abbrev cst_0 : TRef sig ⟨S_, .f32⟩ := .of main_cst_0
abbrev v77 : TRef sig ⟨S512x1x14x14, .f32⟩ := .of main_v77
abbrev v78 : TRef sig ⟨S512x1x14x14, .f32⟩ := .of main_v78
abbrev v79 : TRef sig ⟨S512x196, .f32⟩ := .of main_v79
abbrev values : TRef sig ⟨S512x20, .f32⟩ := .of main_values
abbrev indices : TRef sig ⟨S512x20, .i32⟩ := .of main_indices
abbrev v80 : TRef sig ⟨S512, .i32⟩ := .of main_v80
abbrev v81 : TRef sig ⟨S512x1, .i32⟩ := .of main_v81
abbrev c_1 : TRef sig ⟨S_, .i1⟩ := .of main_c_1
abbrev v82 : TRef sig ⟨S512x196, .i1⟩ := .of main_v82
abbrev c_2 : TRef sig ⟨S_, .i32⟩ := .of main_c_2
abbrev v83 : TRef sig ⟨S512x1, .i32⟩ := .of main_v83
abbrev v84 : TRef sig ⟨S512x1, .i1⟩ := .of main_v84
abbrev c_3 : TRef sig ⟨S_, .i32⟩ := .of main_c_3
abbrev v85 : TRef sig ⟨S512x1, .i32⟩ := .of main_v85
abbrev v86 : TRef sig ⟨S512x1, .i32⟩ := .of main_v86
abbrev v87 : TRef sig ⟨S512x1, .i32⟩ := .of main_v87
abbrev c_4 : TRef sig ⟨S_, .i32⟩ := .of main_c_4
abbrev v88 : TRef sig ⟨S512x20, .i32⟩ := .of main_v88
abbrev v89 : TRef sig ⟨S512x20, .i1⟩ := .of main_v89
abbrev c_5 : TRef sig ⟨S_, .i32⟩ := .of main_c_5
abbrev v90 : TRef sig ⟨S512x20, .i32⟩ := .of main_v90
abbrev v91 : TRef sig ⟨S512x20, .i32⟩ := .of main_v91
abbrev v92 : TRef sig ⟨S512x20, .i32⟩ := .of main_v92
abbrev v93 : TRef sig ⟨S512x20, .i32⟩ := .of main_v93
abbrev v94 : TRef sig ⟨S512x20x1, .i32⟩ := .of main_v94
abbrev v95 : TRef sig ⟨S512x20x1, .i32⟩ := .of main_v95
abbrev v96 : TRef sig ⟨S512x20x2, .i32⟩ := .of main_v96
abbrev c_6 : TRef sig ⟨S_, .i1⟩ := .of main_c_6
abbrev v97 : TRef sig ⟨S512x20, .i1⟩ := .of main_v97
abbrev v98 : TRef sig ⟨S512x196, .i1⟩ := .of main_v98
abbrev v99 : TRef sig ⟨S512x196, .i32⟩ := .of main_v99
abbrev v101 : TRef sig ⟨S512x176, .i32⟩ := .of main_v101
abbrev c_7 : TRef sig ⟨S_, .i32⟩ := .of main_c_7
abbrev c_8 : TRef sig ⟨S_, .i32⟩ := .of main_c_8
abbrev v102 : TRef sig ⟨S_, .i32⟩ := .of main_v102
abbrev v103 : TRef sig ⟨S_, .i32⟩ := .of main_v103
abbrev v104 : TRef sig ⟨S1, .i32⟩ := .of main_v104
abbrev c_9 : TRef sig ⟨S_, .i32⟩ := .of main_c_9
abbrev v105 : TRef sig ⟨S_, .i32⟩ := .of main_v105
abbrev v106 : TRef sig ⟨S_, .i32⟩ := .of main_v106
abbrev v107 : TRef sig ⟨S1, .i32⟩ := .of main_v107
abbrev v108 : TRef sig ⟨S2, .i32⟩ := .of main_v108
abbrev v109 : TRef sig ⟨S176, .i32⟩ := .of main_v109
abbrev v111 : TRef sig ⟨S76, .i32⟩ := .of main_v111
abbrev c_10 : TRef sig ⟨S_, .i32⟩ := .of main_c_10
abbrev v112 : TRef sig ⟨S76, .i32⟩ := .of main_v112
abbrev v113 : TRef sig ⟨S76, .i1⟩ := .of main_v113
abbrev c_11 : TRef sig ⟨S_, .i32⟩ := .of main_c_11
abbrev v114 : TRef sig ⟨S76, .i32⟩ := .of main_v114
abbrev v115 : TRef sig ⟨S76, .i32⟩ := .of main_v115
abbrev v116 : TRef sig ⟨S76, .i32⟩ := .of main_v116
abbrev v117 : TRef sig ⟨S76x1, .i32⟩ := .of main_v117
abbrev v118 : TRef sig ⟨S512x76, .i32⟩ := .of main_v118
abbrev c_12 : TRef sig ⟨S_, .i32⟩ := .of main_c_12
abbrev c_13 : TRef sig ⟨S_, .i32⟩ := .of main_c_13
abbrev v121 : TRef sig ⟨S64x20, .i32⟩ := .of main_v121
abbrev v122 : TRef sig ⟨S64x20, .i32⟩ := .of main_v122
abbrev c_14 : TRef sig ⟨S_, .i32⟩ := .of main_c_14
abbrev c_15 : TRef sig ⟨S_, .i32⟩ := .of main_c_15
abbrev v125 : TRef sig ⟨S64x76, .i32⟩ := .of main_v125
abbrev v126 : TRef sig ⟨S64x76, .i32⟩ := .of main_v126
abbrev c_16 : TRef sig ⟨S_, .i32⟩ := .of main_c_16
abbrev c_17 : TRef sig ⟨S_, .i32⟩ := .of main_c_17
abbrev c_18 : TRef sig ⟨S_, .i32⟩ := .of main_c_18
abbrev c_19 : TRef sig ⟨S_, .i32⟩ := .of main_c_19
abbrev c_20 : TRef sig ⟨S_, .i32⟩ := .of main_c_20
abbrev c_21 : TRef sig ⟨S_, .i32⟩ := .of main_c_21
abbrev c_22 : TRef sig ⟨S_, .i32⟩ := .of main_c_22
abbrev c_23 : TRef sig ⟨S_, .i32⟩ := .of main_c_23
abbrev v131 : TRef sig ⟨S64x96, .i32⟩ := .of main_v131
abbrev v132 : TRef sig ⟨S64x96, .i32⟩ := .of main_v132
abbrev v133 : TRef sig ⟨S16x4x96, .i32⟩ := .of main_v133
abbrev v134 : TRef sig ⟨S16x4x96, .i32⟩ := .of main_v134
abbrev v1 : TRef sig ⟨S512x384x16x16, .f32⟩ := .of main_v1
abbrev v100 : TRef sig ⟨S512x196, .i32⟩ := .of main_v100
abbrev v110 : TRef sig ⟨S176, .i32⟩ := .of main_v110
abbrev v119 : TRef sig ⟨S512x20, .i32⟩ := .of main_v119
abbrev v120 : TRef sig ⟨S512x20, .i32⟩ := .of main_v120
abbrev v123 : TRef sig ⟨S512x76, .i32⟩ := .of main_v123
abbrev v124 : TRef sig ⟨S512x76, .i32⟩ := .of main_v124
abbrev v127 : TRef sig ⟨S64x20, .i32⟩ := .of main_v127
abbrev v128 : TRef sig ⟨S64x20, .i32⟩ := .of main_v128
abbrev v129 : TRef sig ⟨S64x76, .i32⟩ := .of main_v129
abbrev v130 : TRef sig ⟨S64x76, .i32⟩ := .of main_v130
abbrev arg0 : TRef sig ⟨S8x64x384x14x14, .f32⟩ := .of main_arg0
abbrev arg1 : TRef sig ⟨S384x1x3x3, .f32⟩ := .of main_arg1
abbrev arg2 : TRef sig ⟨S384, .f32⟩ := .of main_arg2
abbrev arg3 : TRef sig ⟨S1x384x1x1, .f32⟩ := .of main_arg3
abbrev arg4 : TRef sig ⟨S1, .f32⟩ := .of main_arg4

/-! ### The groups -/

/-- One tap's cuts: the shifted picture and its weight. -/
def cutSteps (d : Fin 4 → Nat) (h : S512x384x16x16.Slices d S512x384x14x14) (k : S384x1x3x3.Slices d S384x1x1x1)
    (x : TRef sig ⟨S512x384x14x14, .f32⟩) (w : TRef sig ⟨S384x1x1x1, .f32⟩) : List (Step τ sig (Elt F)) :=
  [Step.tunary v1 x (extractStridedSlice S512x384x14x14 d · h),
   Step.tunary arg1 w (extractStridedSlice S384x1x1x1 d · k)]

/-- One tap's product: the weight spread over the picture. -/
def scaleSteps (x : TRef sig ⟨S512x384x14x14, .f32⟩) (w : TRef sig ⟨S384x1x1x1, .f32⟩) (a : TRef sig ⟨S384, .f32⟩)
    (b : TRef sig ⟨S1x384x1x1, .f32⟩) (e p : TRef sig ⟨S512x384x14x14, .f32⟩) : List (Step τ sig (Elt F)) :=
  [Step.treshape w a (rfl : (.f32 : EltTy) = .f32) shapeCasts_S384x1x1x1_S384,
   Step.tunary a b (broadcastInDim S1x384x1x1 ![1] bcast_S384_S1x384x1x1_1),
   Step.tunary b e (broadcastInDim S512x384x14x14 ![0, 1, 2, 3] bcast_S1x384x1x1_S512x384x14x14_0_1_2_3),
   Step.tbinary x e p mulf]

/-- The rows in one array, and the padding. -/
def startSteps : List (Step τ sig (Elt F)) :=
    [Step.treshape arg0 v0 (rfl : (.f32 : EltTy) = .f32) shapeCasts_S8x64x384x14x14_S512x384x14x14,
     Step.tnullary c (constantI S_ 32 0#32)] ++
    (padSteps v0 c main_call0)

/-- The bias, the weighted sum over the channels, the logits' bias and the sigmoid. -/
def logitSteps : List (Step τ sig (Elt F)) :=
    [Step.tunary arg2 v64 (broadcastInDim S1x384x1x1 ![1] bcast_S384_S1x384x1x1_1),
     Step.tunary v64 v65 (broadcastInDim S512x384x14x14 ![0, 1, 2, 3] bcast_S1x384x1x1_S512x384x14x14_0_1_2_3),
     Step.tbinary v63 v65 v66 addf,
     Step.treshape arg3 v67 (rfl : (.f32 : EltTy) = .f32) shapeCasts_S1x384x1x1_S1x384,
     Step.tbinary v66 v67 v68 (fun l r => Host.dotGeneral dot_S512x384x14x14_S1x384_S512x14x14x1_1_1_023_0_n_n none l r),
     Step.tunary v68 v69 (transpose S512x1x14x14 [0, 3, 1, 2] · transposes_S512x14x14x1_S512x1x14x14_0_3_1_2),
     Step.tunary arg4 v70 (broadcastInDim S1x1x1x1 ![1] bcast_S1_S1x1x1x1_1),
     Step.tunary v70 v71 (broadcastInDim S512x1x14x14 ![0, 1, 2, 3] bcast_S1x1x1x1_S512x1x14x14_0_1_2_3),
     Step.tbinary v69 v71 v72 addf,
     Step.tunary v72 v73 Host.negf,
     Step.tunary v73 v74 Host.exp,
     Step.tnullary cst (constant S_ .f32 0x3F800000#32),
     Step.tunary cst v75 (broadcastInDim S512x1x14x14 ![] bcast_S_S512x1x14x14),
     Step.tbinary v75 v74 v76 addf,
     Step.tnullary cst_0 (constant S_ .f32 0x3F800000#32),
     Step.tunary cst_0 v77 (broadcastInDim S512x1x14x14 ![] bcast_S_S512x1x14x14),
     Step.tbinary v77 v76 v78 Host.divf,
     Step.treshape v78 v79 (rfl : (.f32 : EltTy) = .f32) shapeCasts_S512x1x14x14_S512x196]

/-- The twenty largest of every row and their places. -/
def topSteps : List (Step τ sig (Elt F)) :=
    [Step.tunary v79 values (fun x => (Host.topK S512x20 1 (FloatOps.cmpfTotal .gt) x sliceFits_S512x196_S512x20).1),
     Step.tunary v79 indices (fun x => (Host.topK S512x20 1 (FloatOps.cmpfTotal .gt) x sliceFits_S512x196_S512x20).2)]

/-- The mask of the chosen places. -/
def maskSteps : List (Step τ sig (Elt F)) :=
    [Step.tnullary v80 (iotaInDim S512 32 0),
     Step.tunary v80 v81 (broadcastInDim S512x1 ![0] bcast_S512_S512x1_0),
     Step.tnullary c_1 (constantI S_ 1 0#1),
     Step.tunary c_1 v82 (broadcastInDim S512x196 ![] bcast_S_S512x196),
     Step.tnullary c_2 (constantI S_ 32 0#32),
     Step.tunary c_2 v83 (broadcastInDim S512x1 ![] bcast_S_S512x1),
     Step.tbinary v81 v83 v84 (cmpi .slt),
     Step.tnullary c_3 (constantI S_ 32 512#32),
     Step.tunary c_3 v85 (broadcastInDim S512x1 ![] bcast_S_S512x1),
     Step.tbinary v81 v85 v86 addi,
     Step.tternary v84 v86 v81 v87 select,
     Step.tnullary c_4 (constantI S_ 32 0#32),
     Step.tunary c_4 v88 (broadcastInDim S512x20 ![] bcast_S_S512x20),
     Step.tbinary indices v88 v89 (cmpi .slt),
     Step.tnullary c_5 (constantI S_ 32 196#32),
     Step.tunary c_5 v90 (broadcastInDim S512x20 ![] bcast_S_S512x20),
     Step.tbinary indices v90 v91 addi,
     Step.tternary v89 v91 indices v92 select,
     Step.tunary v87 v93 (broadcastInDim S512x20 ![0, 1] bcast_S512x1_S512x20_0_1),
     Step.tunary v93 v94 (broadcastInDim S512x20x1 ![0, 1] bcast_S512x20_S512x20x1_0_1),
     Step.tunary v92 v95 (broadcastInDim S512x20x1 ![0, 1] bcast_S512x20_S512x20x1_0_1),
     Step.tbinary v94 v95 v96 (fun a b => concatenate S512x20x2 2 [⟨S512x20x1, a⟩, ⟨S512x20x1, b⟩] concatenates_S512x20x1_S512x20x1_S512x20x2_d2),
     Step.tnullary c_6 (constantI S_ 1 1#1),
     Step.tunary c_6 v97 (broadcastInDim S512x20 ![] bcast_S_S512x20),
     Step.ternary main_v82 main_v96 main_v97 main_v98 ((fun x i u => Host.scatter scatter_S512x196_S512x20x2_S512x20_n_01_01_2 (fun _ b => b) x i u)
        : (⟨S512x196, .i1⟩ : BufTy).Contents (Elt F) → (⟨S512x20x2, .i32⟩ : BufTy).Contents (Elt F) → (⟨S512x20, .i1⟩ : BufTy).Contents (Elt F) → (⟨S512x196, .i1⟩ : BufTy).Contents (Elt F)),
     Step.tunary v98 v99 (extui 32 · natLt_1_32)]

/-- The places not chosen, in order: the mask's stable sort, cut. -/
def sortSteps : List (Step τ sig (Elt F)) :=
    argsortSteps v99 main_call1 ++
    ([Step.tunary v100 v101 (extractStridedSlice S512x176 ![0, 0] · slices_S512x196_S512x176_0_0)])

/-- The key's two halves, the first part. -/
def keySteps : List (Step τ sig (Elt F)) :=
    [Step.tnullary c_7 (constantI S_ 32 1#32),
     Step.tnullary c_8 (constantI S_ 32 32#32),
     Step.tbinary c_7 c_8 v102 Host.shrui,
     Step.tunary v102 v103 id,
     Step.tunary v103 v104 (broadcastInDim S1 ![] bcast_S_S1),
     Step.tnullary c_9 (constantI S_ 32 4294967295#32),
     Step.tbinary c_7 c_9 v105 andi]

/-- The key's two halves put together, and the places to shuffle. -/
def keySteps' : List (Step τ sig (Elt F)) :=
    [Step.tunary v105 v106 id,
     Step.tunary v106 v107 (broadcastInDim S1 ![] bcast_S_S1),
     Step.tbinary v104 v107 v108 (fun a b => concatenate S2 0 [⟨S1, a⟩, ⟨S1, b⟩] concatenates_S1_S1_S2_d0),
     Step.tnullary v109 (iotaInDim S176 32 0)]

/-- The shuffle. -/
def shuffleSteps : List (Step τ sig (Elt F)) :=
    shufSteps v108 v109 (shufRefs main_call2)

/-- The places drawn from those not chosen. -/
def pickSteps : List (Step τ sig (Elt F)) :=
    [Step.tunary v110 v111 (extractStridedSlice S76 ![0] · slices_S176_S76_0),
     Step.tnullary c_10 (constantI S_ 32 0#32),
     Step.tunary c_10 v112 (broadcastInDim S76 ![] bcast_S_S76),
     Step.tbinary v111 v112 v113 (cmpi .slt),
     Step.tnullary c_11 (constantI S_ 32 176#32),
     Step.tunary c_11 v114 (broadcastInDim S76 ![] bcast_S_S76),
     Step.tbinary v111 v114 v115 addi,
     Step.tternary v113 v115 v111 v116 select,
     Step.tunary v116 v117 (broadcastInDim S76x1 ![0] bcast_S76_S76x1_0),
     Step.tbinary v101 v117 v118 (fun x i => Host.gather gather_S512x176_S76x1_S512x76_0_1_n_n_1_1_5121 x i)]

/-- The two coordinates of every place, clipped, and the results. -/
def coordSteps : List (Step τ sig (Elt F)) :=
    [Step.tnullary c_12 (constantI S_ 32 14#32)] ++
    (remSteps bcast_S_S512x20 indices c_12 (rem20 main_call3) ++
    ([Step.tnullary c_13 (constantI S_ 32 14#32)] ++
    (divSteps bcast_S_S512x20 indices c_13 (div20 main_call4) ++
    ([Step.tunary v119 v121 (extractStridedSlice S64x20 ![0, 0] · slices_S512x20_S64x20_0_0),
     Step.tunary v120 v122 (extractStridedSlice S64x20 ![0, 0] · slices_S512x20_S64x20_0_0),
     Step.tnullary c_14 (constantI S_ 32 14#32)] ++
    (remSteps bcast_S_S512x76 v118 c_14 (rem76 main_call5) ++
    ([Step.tnullary c_15 (constantI S_ 32 14#32)] ++
    (divSteps bcast_S_S512x76 v118 c_15 (div76 main_call6) ++
    ([Step.tunary v123 v125 (extractStridedSlice S64x76 ![0, 0] · slices_S512x76_S64x76_0_0),
     Step.tunary v124 v126 (extractStridedSlice S64x76 ![0, 0] · slices_S512x76_S64x76_0_0),
     Step.tnullary c_16 (constantI S_ 32 1#32),
     Step.tnullary c_17 (constantI S_ 32 13#32)] ++
    (clipSteps bcast_S_S64x20 v121 c_16 c_17 (clip20 main_call7) ++
    ([Step.tnullary c_18 (constantI S_ 32 1#32),
     Step.tnullary c_19 (constantI S_ 32 13#32)] ++
    (clipSteps bcast_S_S64x20 v122 c_18 c_19 (clip20 main_call8) ++
    ([Step.tnullary c_20 (constantI S_ 32 1#32),
     Step.tnullary c_21 (constantI S_ 32 13#32)] ++
    (clipSteps bcast_S_S64x76 v125 c_20 c_21 (clip76 main_call9) ++
    ([Step.tnullary c_22 (constantI S_ 32 1#32),
     Step.tnullary c_23 (constantI S_ 32 13#32)] ++
    (clipSteps bcast_S_S64x76 v126 c_22 c_23 (clip76 main_call10) ++
    ([Step.tbinary v127 v129 v131 (fun a b => concatenate S64x96 1 [⟨S64x20, a⟩, ⟨S64x76, b⟩] concatenates_S64x20_S64x76_S64x96_d1),
     Step.tbinary v128 v130 v132 (fun a b => concatenate S64x96 1 [⟨S64x20, a⟩, ⟨S64x76, b⟩] concatenates_S64x20_S64x76_S64x96_d1),
     Step.treshape v131 v133 (rfl : (.i32 : EltTy) = .i32) shapeCasts_S64x96_S16x4x96,
     Step.treshape v132 v134 (rfl : (.i32 : EltTy) = .i32) shapeCasts_S64x96_S16x4x96]))))))))))))))))

/-! ### The line -/

/-- The operations of @main's part 0. -/
def part0Steps : List (Step τ sig (Elt F)) :=
    startSteps ++
    (cutSteps ![0, 0, 0, 0] slices_S512x384x16x16_S512x384x14x14_0_0_0_0 slices_S384x1x3x3_S384x1x1x1_0_0_0_0 v2 v3 ++
    (scaleSteps v2 v3 v4 v5 v6 v7 ++
    (cutSteps ![0, 0, 0, 1] slices_S512x384x16x16_S512x384x14x14_0_0_0_1 slices_S384x1x3x3_S384x1x1x1_0_0_0_1 v8 v9 ++
    (scaleSteps v8 v9 v10 v11 v12 v13 ++
    ([Step.tbinary v7 v13 v14 addf] ++
    (cutSteps ![0, 0, 0, 2] slices_S512x384x16x16_S512x384x14x14_0_0_0_2 slices_S384x1x3x3_S384x1x1x1_0_0_0_2 v15 v16 ++
    (scaleSteps v15 v16 v17 v18 v19 v20 ++
    ([Step.tbinary v14 v20 v21 addf] ++
    (cutSteps ![0, 0, 1, 0] slices_S512x384x16x16_S512x384x14x14_0_0_1_0 slices_S384x1x3x3_S384x1x1x1_0_0_1_0 v22 v23 ++
    (scaleSteps v22 v23 v24 v25 v26 v27 ++
    ([Step.tbinary v21 v27 v28 addf] ++
    (cutSteps ![0, 0, 1, 1] slices_S512x384x16x16_S512x384x14x14_0_0_1_1 slices_S384x1x3x3_S384x1x1x1_0_0_1_1 v29 v30 ++
    (scaleSteps v29 v30 v31 v32 v33 v34 ++
    ([Step.tbinary v28 v34 v35 addf] ++
    (cutSteps ![0, 0, 1, 2] slices_S512x384x16x16_S512x384x14x14_0_0_1_2 slices_S384x1x3x3_S384x1x1x1_0_0_1_2 v36 v37 ++
    (scaleSteps v36 v37 v38 v39 v40 v41 ++
    ([Step.tbinary v35 v41 v42 addf] ++
    (cutSteps ![0, 0, 2, 0] slices_S512x384x16x16_S512x384x14x14_0_0_2_0 slices_S384x1x3x3_S384x1x1x1_0_0_2_0 v43 v44 ++
    (scaleSteps v43 v44 v45 v46 v47 v48 ++
    ([Step.tbinary v42 v48 v49 addf] ++
    (cutSteps ![0, 0, 2, 1] slices_S512x384x16x16_S512x384x14x14_0_0_2_1 slices_S384x1x3x3_S384x1x1x1_0_0_2_1 v50 v51 ++
    (scaleSteps v50 v51 v52 v53 v54 v55 ++
    ([Step.tbinary v49 v55 v56 addf] ++
    (cutSteps ![0, 0, 2, 2] slices_S512x384x16x16_S512x384x14x14_0_0_2_2 slices_S384x1x3x3_S384x1x1x1_0_0_2_2 v57 v58))))))))))))))))))))))))

/-- The operations of @main's part 1. -/
def part1Steps : List (Step τ sig (Elt F)) :=
    scaleSteps v57 v58 v59 v60 v61 v62 ++
    ([Step.tbinary v56 v62 v63 addf] ++
    (logitSteps ++
    (topSteps ++
    (maskSteps ++
    (sortSteps ++
    (keySteps))))))

/-- The operations of @main's part 2. -/
def part2Steps : List (Step τ sig (Elt F)) :=
    keySteps' ++
    (shuffleSteps ++
    (pickSteps ++
    (coordSteps)))

/-- All operations of the reference. -/
def steps : List (Step τ sig (Elt F)) := part0Steps ++ (part1Steps ++ part2Steps)

set_option maxRecDepth 8192
set_option maxHeartbeats 4000000

theorem part0_eq (d : Dev nD) : main_part0 (F := F) d = seq (ops part0Steps) := rfl

theorem part1_eq (d : Dev nD) : main_part1 (F := F) d = seq (ops part1Steps) := by
  simp only [main_part1, part1Steps, logitSteps, topSteps, maskSteps, sortSteps, keySteps, argsort_body, ops,
    List.map_append, seq_append]
  rfl

theorem part2_eq (d : Dev nD) : main_part2 (F := F) d = seq (ops part2Steps) := by
  simp only [main_part2, part2Steps, keySteps', shuffleSteps, pickSteps, coordSteps, shuf_body, rem20_body, div20_body,
    rem76_body, div76_body, clip20_body, clip76_body, ops, List.map_append, seq_append]
  rfl

theorem main_eq (d : Dev nD) : main (F := F) d = seq (ops steps) := by
  simp only [steps, ops, List.map_append, seq_append]
  rw [← part0_eq d, ← part1_eq d, ← part2_eq d]
  rfl

theorem ordered : Ordered 5 (steps (F := Ideal)) = true := by
  decide +kernel

theorem scopedRefs_eq : (Finset.univ.filter fun b : Ref sig .tc => b.isScoped) = ∅ := by decide
theorem scopedSems_eq : (Finset.univ.filter fun sm : SemLoc sig => sm.isScoped .tc) = ∅ := by decide

/-- What the reference leaves on a device, from contents `V`. -/
def final (V : Valuation τ sig (Elt Ideal)) : Valuation τ sig (Elt Ideal) := after (ops steps) V

/-- Every step's equation holds of what the reference leaves. -/
theorem final_holds (V : Valuation τ sig (Elt Ideal)) : Holds (final V) steps :=
  eqns_of_ordered steps V ordered

/-- The arguments are as they were. -/
theorem final_kept (V : Valuation τ sig (Elt Ideal)) {r : Ref sig .tc} (h : r.idx.val < 5) :
    final V (Proc.devRef .tc r) = V (Proc.devRef .tc r) :=
  kept_of_ordered steps V ordered h

/-- The reference runs and leaves on every device what its line does. -/
theorem run_line (m : (ℓ : Loc nD τ sig) → Buf (Elt Ideal) ℓ) (ρ : Dev nD → PrngReg) :
    θ_run (defs (F := Ideal)) (onTc (τ := τ) (main (F := Ideal))) ⟨m, fun _ => 0, ρ⟩
      (fun r => ∀ c : Dev nD, ∀ b : Ref sig .tc,
        r.2.mem ((c.tc : Thread nD τ).loc b) = final (launchContents m c) (Proc.devRef .tc b)) :=
  run_seq scopedRefs_eq scopedSems_eq (defs (F := Ideal)) main (fun _ => ops steps) main_eq (fun _ => ops_sub steps) m ρ
    fun _ => List.forall_iff_forall_mem.mp (ops_fresh steps)

/-- The reference's arguments are left as they were, its counters at zero. -/
theorem frame (m : (ℓ : Loc nD τ sig) → Buf (Elt Ideal) ℓ) (ρ : Dev nD → PrngReg) :
    θ_run (defs (F := Ideal)) (onTc (τ := τ) (main (F := Ideal))) ⟨m, fun _ => 0, ρ⟩
      (fun r => (∀ c : Dev nD,
        r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4))
        ∧ r.2.sem = fun _ => 0) :=
  (θ_run (defs (F := Ideal)) _ _).mono (fun r h =>
    ⟨fun c => ⟨(h c _).trans (final_kept _ (by decide)), (h c _).trans (final_kept _ (by decide)),
      (h c _).trans (final_kept _ (by decide)), (h c _).trans (final_kept _ (by decide)),
      (h c _).trans (final_kept _ (by decide))⟩, sem_eq_zero_of_no_sems (by decide) r.2⟩) (run_line m ρ)

end Cert.ReferenceIdeal.Line

end

end
-- ==== Proof.KerLine.lean ====
/-
  The kernel's host operations as a line of steps: its buffers as typed references, its operations in groups (the
  padded picture, the weights, the shuffle, the table of coordinates), and the contents the region is launched from,
  in which every step's equation holds.
-/
module

public import proofs.«01_k».proof.Proof.Gen.KernelIdeal.Frame
public import proofs.«01_k».proof.Proof.Shuffle
public import proofs.«01_k».proof.Proof.IntFns

@[expose] public section

noncomputable section

namespace Cert.KernelIdeal.Line

open Cert.KernelIdeal Cert.KernelIdeal.Gen Cert.Steps Idealize.ShloMosaic Idealize.ShloMosaic.TcCoe Idealize.SL.Sem Idealize.ShloMosaic.StableHlo

variable {F : FTy → Type} [FloatOps F]

/-- The buffers of one call of the cipher over two lanes. -/
def tf2 (φ : fn_threefry2x32.Bufs) : TfRefs sig S2 :=
  ⟨φ.v0, φ.c, φ.v1, φ.v2, φ.v3, φ.v4, φ.v5,
    ⟨⟨φ.v6, φ.c_0, φ.v7, φ.v8, φ.c_1, φ.v9, φ.v10, φ.v11, φ.v12⟩,
      ⟨φ.v13, φ.c_2, φ.v14, φ.v15, φ.c_3, φ.v16, φ.v17, φ.v18, φ.v19⟩,
      ⟨φ.v20, φ.c_4, φ.v21, φ.v22, φ.c_5, φ.v23, φ.v24, φ.v25, φ.v26⟩,
      ⟨φ.v27, φ.c_6, φ.v28, φ.v29, φ.c_7, φ.v30, φ.v31, φ.v32, φ.v33⟩,
      φ.v34, φ.v35, φ.v36, φ.v37, φ.c_8, φ.v38, φ.v39⟩,
    ⟨⟨φ.v40, φ.c_9, φ.v41, φ.v42, φ.c_10, φ.v43, φ.v44, φ.v45, φ.v46⟩,
      ⟨φ.v47, φ.c_11, φ.v48, φ.v49, φ.c_12, φ.v50, φ.v51, φ.v52, φ.v53⟩,
      ⟨φ.v54, φ.c_13, φ.v55, φ.v56, φ.c_14, φ.v57, φ.v58, φ.v59, φ.v60⟩,
      ⟨φ.v61, φ.c_15, φ.v62, φ.v63, φ.c_16, φ.v64, φ.v65, φ.v66, φ.v67⟩,
      φ.v68, φ.v69, φ.v70, φ.v71, φ.c_17, φ.v72, φ.v73⟩,
    ⟨⟨φ.v74, φ.c_18, φ.v75, φ.v76, φ.c_19, φ.v77, φ.v78, φ.v79, φ.v80⟩,
      ⟨φ.v81, φ.c_20, φ.v82, φ.v83, φ.c_21, φ.v84, φ.v85, φ.v86, φ.v87⟩,
      ⟨φ.v88, φ.c_22, φ.v89, φ.v90, φ.c_23, φ.v91, φ.v92, φ.v93, φ.v94⟩,
      ⟨φ.v95, φ.c_24, φ.v96, φ.v97, φ.c_25, φ.v98, φ.v99, φ.v100, φ.v101⟩,
      φ.v102, φ.v103, φ.v104, φ.v105, φ.c_26, φ.v106, φ.v107⟩,
    ⟨⟨φ.v108, φ.c_27, φ.v109, φ.v110, φ.c_28, φ.v111, φ.v112, φ.v113, φ.v114⟩,
      ⟨φ.v115, φ.c_29, φ.v116, φ.v117, φ.c_30, φ.v118, φ.v119, φ.v120, φ.v121⟩,
      ⟨φ.v122, φ.c_31, φ.v123, φ.v124, φ.c_32, φ.v125, φ.v126, φ.v127, φ.v128⟩,
      ⟨φ.v129, φ.c_33, φ.v130, φ.v131, φ.c_34, φ.v132, φ.v133, φ.v134, φ.v135⟩,
      φ.v136, φ.v137, φ.v138, φ.v139, φ.c_35, φ.v140, φ.v141⟩,
    ⟨⟨φ.v142, φ.c_36, φ.v143, φ.v144, φ.c_37, φ.v145, φ.v146, φ.v147, φ.v148⟩,
      ⟨φ.v149, φ.c_38, φ.v150, φ.v151, φ.c_39, φ.v152, φ.v153, φ.v154, φ.v155⟩,
      ⟨φ.v156, φ.c_40, φ.v157, φ.v158, φ.c_41, φ.v159, φ.v160, φ.v161, φ.v162⟩,
      ⟨φ.v163, φ.c_42, φ.v164, φ.v165, φ.c_43, φ.v166, φ.v167, φ.v168, φ.v169⟩,
      φ.v170, φ.v171, φ.v172, φ.v173, φ.c_44, φ.v174, φ.v175⟩⟩

/-- The buffers of one call of the cipher over 176 lanes. -/
def tf176 (φ : fn_threefry2x32_0.Bufs) : TfRefs sig S176 :=
  ⟨φ.v0, φ.c, φ.v1, φ.v2, φ.v3, φ.v4, φ.v5,
    ⟨⟨φ.v6, φ.c_0, φ.v7, φ.v8, φ.c_1, φ.v9, φ.v10, φ.v11, φ.v12⟩,
      ⟨φ.v13, φ.c_2, φ.v14, φ.v15, φ.c_3, φ.v16, φ.v17, φ.v18, φ.v19⟩,
      ⟨φ.v20, φ.c_4, φ.v21, φ.v22, φ.c_5, φ.v23, φ.v24, φ.v25, φ.v26⟩,
      ⟨φ.v27, φ.c_6, φ.v28, φ.v29, φ.c_7, φ.v30, φ.v31, φ.v32, φ.v33⟩,
      φ.v34, φ.v35, φ.v36, φ.v37, φ.c_8, φ.v38, φ.v39⟩,
    ⟨⟨φ.v40, φ.c_9, φ.v41, φ.v42, φ.c_10, φ.v43, φ.v44, φ.v45, φ.v46⟩,
      ⟨φ.v47, φ.c_11, φ.v48, φ.v49, φ.c_12, φ.v50, φ.v51, φ.v52, φ.v53⟩,
      ⟨φ.v54, φ.c_13, φ.v55, φ.v56, φ.c_14, φ.v57, φ.v58, φ.v59, φ.v60⟩,
      ⟨φ.v61, φ.c_15, φ.v62, φ.v63, φ.c_16, φ.v64, φ.v65, φ.v66, φ.v67⟩,
      φ.v68, φ.v69, φ.v70, φ.v71, φ.c_17, φ.v72, φ.v73⟩,
    ⟨⟨φ.v74, φ.c_18, φ.v75, φ.v76, φ.c_19, φ.v77, φ.v78, φ.v79, φ.v80⟩,
      ⟨φ.v81, φ.c_20, φ.v82, φ.v83, φ.c_21, φ.v84, φ.v85, φ.v86, φ.v87⟩,
      ⟨φ.v88, φ.c_22, φ.v89, φ.v90, φ.c_23, φ.v91, φ.v92, φ.v93, φ.v94⟩,
      ⟨φ.v95, φ.c_24, φ.v96, φ.v97, φ.c_25, φ.v98, φ.v99, φ.v100, φ.v101⟩,
      φ.v102, φ.v103, φ.v104, φ.v105, φ.c_26, φ.v106, φ.v107⟩,
    ⟨⟨φ.v108, φ.c_27, φ.v109, φ.v110, φ.c_28, φ.v111, φ.v112, φ.v113, φ.v114⟩,
      ⟨φ.v115, φ.c_29, φ.v116, φ.v117, φ.c_30, φ.v118, φ.v119, φ.v120, φ.v121⟩,
      ⟨φ.v122, φ.c_31, φ.v123, φ.v124, φ.c_32, φ.v125, φ.v126, φ.v127, φ.v128⟩,
      ⟨φ.v129, φ.c_33, φ.v130, φ.v131, φ.c_34, φ.v132, φ.v133, φ.v134, φ.v135⟩,
      φ.v136, φ.v137, φ.v138, φ.v139, φ.c_35, φ.v140, φ.v141⟩,
    ⟨⟨φ.v142, φ.c_36, φ.v143, φ.v144, φ.c_37, φ.v145, φ.v146, φ.v147, φ.v148⟩,
      ⟨φ.v149, φ.c_38, φ.v150, φ.v151, φ.c_39, φ.v152, φ.v153, φ.v154, φ.v155⟩,
      ⟨φ.v156, φ.c_40, φ.v157, φ.v158, φ.c_41, φ.v159, φ.v160, φ.v161, φ.v162⟩,
      ⟨φ.v163, φ.c_42, φ.v164, φ.v165, φ.c_43, φ.v166, φ.v167, φ.v168, φ.v169⟩,
      φ.v170, φ.v171, φ.v172, φ.v173, φ.c_44, φ.v174, φ.v175⟩⟩

/-- The buffers of the call of the shuffle. -/
def shufRefs (φ : fn_shuffle.Bufs) : ShufRefs sig :=
  ⟨φ.call0.v0, φ.call0.v1, φ.call0.v2, φ.call0.v3,
    ⟨φ.call0.v4, φ.call0.c, φ.call0.v5, φ.call0.v6, φ.call0.c_0, φ.call0.v7, φ.call0.v8, φ.call0.v9, φ.call0.v10⟩,
    tf2 φ.call0.call0, φ.call0.v12, φ.call0.v13, φ.call0.v14, φ.v1, φ.v2, φ.v3, φ.v4, φ.v5, φ.v6, φ.v7, φ.v8,
    ⟨φ.v9, φ.c, φ.v10, φ.v11, φ.c_0, φ.v12, φ.v13, φ.v14, φ.v15⟩, tf176 φ.call1, φ.v17, φ.v18_0, φ.v18_1⟩

/-- The buffers of a call of the remainder. -/
def remRefs (φ : fn_remainder.Bufs) : RemRefs sig S196 :=
  ⟨φ.v0, φ.c, φ.v1, φ.c_0, φ.call0.v0, φ.v3, φ.v4, φ.c_1, φ.v5, φ.v6, φ.c_2, φ.v7, φ.v8, φ.c_3, φ.v9, φ.v10, φ.v11,
    φ.v12, φ.v13, φ.v14, φ.v15⟩

/-- The buffers of a call of the floor division. -/
def divRefs (φ : fn_floor_divide.Bufs) : DivRefs sig S196 :=
  ⟨φ.v0, φ.v1, φ.v2, φ.v3, φ.v4, φ.v5, φ.v6, φ.v7, φ.v8, φ.c, φ.v9, φ.v10, φ.v11, φ.c_0, φ.v12, φ.v13, φ.call0.v0⟩

/-- The buffers of a call of the clipping. -/
def clipRefs (φ : fn_clip.Bufs) : ClipRefs sig S196 := ⟨φ.v0, φ.v1, φ.v2, φ.v3, φ.v4, φ.v5⟩

/-- The padding's operations. -/
def padSteps (arg0 : TRef sig ⟨S64x384x196, .bf16⟩) (arg1 : TRef sig ⟨S_, .i32⟩) (φ : fn_pad.Bufs) :
    List (Step τ sig (Elt F)) :=
  [Step.tunary arg1 φ.v0 (sitofp .bf16),
   Step.tbinary arg0 φ.v0 φ.v1 (fun x v => pad S64x384x226 ![0, 0, 15] ![0, 0, 15] ![0, 0, 0] x v pads_S64x384x196_S64x384x226_000_000_15150 h_S_)]

/-! ### The buffers -/

abbrev v0 : TRef sig ⟨S1x64x384x14x14, .f32⟩ := .of main_v0
abbrev v1 : TRef sig ⟨S64x384x14x14, .f32⟩ := .of main_v1
abbrev v2 : TRef sig ⟨S64x384x196, .f32⟩ := .of main_v2
abbrev v3 : TRef sig ⟨S64x384x196, .bf16⟩ := .of main_v3
abbrev c : TRef sig ⟨S_, .i32⟩ := .of main_c
abbrev v5 : TRef sig ⟨S384x3x3, .f32⟩ := .of main_v5
abbrev v6 : TRef sig ⟨S3x3x384, .f32⟩ := .of main_v6
abbrev v7 : TRef sig ⟨S9x384, .f32⟩ := .of main_v7
abbrev v8 : TRef sig ⟨S9x384x1, .f32⟩ := .of main_v8
abbrev v9 : TRef sig ⟨S384x1, .f32⟩ := .of main_v9
abbrev cst : TRef sig ⟨S_, .f32⟩ := .of main_cst
abbrev v10 : TRef sig ⟨S8x384, .f32⟩ := .of main_v10
abbrev v11 : TRef sig ⟨S384, .f32⟩ := .of main_v11
abbrev c_0 : TRef sig ⟨S_, .i32⟩ := .of main_c_0
abbrev v12 : TRef sig ⟨S1, .i32⟩ := .of main_v12
abbrev v13 : TRef sig ⟨S8x384, .f32⟩ := .of main_v13
abbrev v14 : TRef sig ⟨S1x1, .f32⟩ := .of main_v14
abbrev v15 : TRef sig ⟨S8x128, .f32⟩ := .of main_v15
abbrev c_1 : TRef sig ⟨S_, .i32⟩ := .of main_c_1
abbrev c_2 : TRef sig ⟨S_, .i32⟩ := .of main_c_2
abbrev v16 : TRef sig ⟨S_, .i32⟩ := .of main_v16
abbrev v17 : TRef sig ⟨S_, .i32⟩ := .of main_v17
abbrev v18 : TRef sig ⟨S1, .i32⟩ := .of main_v18
abbrev c_3 : TRef sig ⟨S_, .i32⟩ := .of main_c_3
abbrev v19 : TRef sig ⟨S_, .i32⟩ := .of main_v19
abbrev v20 : TRef sig ⟨S_, .i32⟩ := .of main_v20
abbrev v21 : TRef sig ⟨S1, .i32⟩ := .of main_v21
abbrev v22 : TRef sig ⟨S2, .i32⟩ := .of main_v22
abbrev v23 : TRef sig ⟨S176, .i32⟩ := .of main_v23
abbrev v25 : TRef sig ⟨S76, .i32⟩ := .of main_v25
abbrev v26 : TRef sig ⟨S76, .f32⟩ := .of main_v26
abbrev v27 : TRef sig ⟨S76x1, .f32⟩ := .of main_v27
abbrev v28 : TRef sig ⟨S196, .i32⟩ := .of main_v28
abbrev cst_4 : TRef sig ⟨S_, .f32⟩ := .of main_cst_4
abbrev v29 : TRef sig ⟨S196x128, .f32⟩ := .of main_v29
abbrev c_5 : TRef sig ⟨S_, .i32⟩ := .of main_c_5
abbrev c_6 : TRef sig ⟨S_, .i32⟩ := .of main_c_6
abbrev c_7 : TRef sig ⟨S_, .i32⟩ := .of main_c_7
abbrev v32 : TRef sig ⟨S196, .f32⟩ := .of main_v32
abbrev c_8 : TRef sig ⟨S_, .i32⟩ := .of main_c_8
abbrev v33 : TRef sig ⟨S1, .i32⟩ := .of main_v33
abbrev v34 : TRef sig ⟨S196x128, .f32⟩ := .of main_v34
abbrev c_9 : TRef sig ⟨S_, .i32⟩ := .of main_c_9
abbrev c_10 : TRef sig ⟨S_, .i32⟩ := .of main_c_10
abbrev c_11 : TRef sig ⟨S_, .i32⟩ := .of main_c_11
abbrev v37 : TRef sig ⟨S196, .f32⟩ := .of main_v37
abbrev c_12 : TRef sig ⟨S_, .i32⟩ := .of main_c_12
abbrev v38 : TRef sig ⟨S1, .i32⟩ := .of main_v38
abbrev v39 : TRef sig ⟨S196x128, .f32⟩ := .of main_v39
abbrev v4 : TRef sig ⟨S64x384x226, .bf16⟩ := .of main_v4
abbrev v24 : TRef sig ⟨S176, .i32⟩ := .of main_v24
abbrev v30 : TRef sig ⟨S196, .i32⟩ := .of main_v30
abbrev v31 : TRef sig ⟨S196, .i32⟩ := .of main_v31
abbrev v35 : TRef sig ⟨S196, .i32⟩ := .of main_v35
abbrev v36 : TRef sig ⟨S196, .i32⟩ := .of main_v36
abbrev arg0 : TRef sig ⟨S8x64x384x14x14, .f32⟩ := .of main_arg0
abbrev arg1 : TRef sig ⟨S384x1x3x3, .f32⟩ := .of main_arg1
abbrev arg2 : TRef sig ⟨S384, .f32⟩ := .of main_arg2
abbrev arg3 : TRef sig ⟨S1x384x1x1, .f32⟩ := .of main_arg3
abbrev arg4 : TRef sig ⟨S1, .f32⟩ := .of main_arg4

/-! ### The groups -/

/-- The first feature's rows, flat, padded by fifteen zeros on both sides. -/
def pictureSteps : List (Step τ sig (Elt F)) :=
    [Step.tunary arg0 v0 (extractStridedSlice S1x64x384x14x14 ![0, 0, 0, 0, 0] · slices_S8x64x384x14x14_S1x64x384x14x14_0_0_0_0_0),
     Step.treshape v0 v1 (rfl : (.f32 : EltTy) = .f32) shapeCasts_S1x64x384x14x14_S64x384x14x14,
     Step.treshape v1 v2 (rfl : (.f32 : EltTy) = .f32) shapeCasts_S64x384x14x14_S64x384x196,
     Step.tunary v2 v3 (truncf .bf16 · bitsLt_bf16_f32),
     Step.tnullary c (constantI S_ 32 0#32)] ++
    (padSteps v3 c main_call0)

/-- The nine taps, the biases and the row of channel weights. -/
def weightSteps : List (Step τ sig (Elt F)) :=
    [Step.treshape arg1 v5 (rfl : (.f32 : EltTy) = .f32) shapeCasts_S384x1x3x3_S384x3x3,
     Step.tunary v5 v6 (transpose S3x3x384 [1, 2, 0] · transposes_S384x3x3_S3x3x384_1_2_0),
     Step.treshape v6 v7 (rfl : (.f32 : EltTy) = .f32) shapeCasts_S3x3x384_S9x384,
     Step.tunary v7 v8 (broadcastInDim S9x384x1 ![0, 1] bcast_S9x384_S9x384x1_0_1),
     Step.tunary arg2 v9 (broadcastInDim S384x1 ![0] bcast_S384_S384x1_0),
     Step.tnullary cst (constant S_ .f32 0x00000000#32),
     Step.tunary cst v10 (broadcastInDim S8x384 ![] bcast_S_S8x384),
     Step.treshape arg3 v11 (rfl : (.f32 : EltTy) = .f32) shapeCasts_S1x384x1x1_S384,
     Step.tnullary c_0 (constantI S_ 32 0#32),
     Step.tunary c_0 v12 (broadcastInDim S1 ![] bcast_S_S1),
     Step.ternary main_v10 main_v12 main_v11 main_v13 ((fun x i u => Host.scatter scatter_S8x384_S1_S384_0_0_0_0 (fun _ b => b) x i u)
        : (⟨S8x384, .f32⟩ : BufTy).Contents (Elt F) → (⟨S1, .i32⟩ : BufTy).Contents (Elt F) → (⟨S384, .f32⟩ : BufTy).Contents (Elt F) → (⟨S8x384, .f32⟩ : BufTy).Contents (Elt F)),
     Step.tunary arg4 v14 (broadcastInDim S1x1 ![0] bcast_S1_S1x1_0),
     Step.tunary v14 v15 (broadcastInDim S8x128 ![0, 1] bcast_S1x1_S8x128_0_1)]

/-- The key and the places to shuffle. -/
def keySteps : List (Step τ sig (Elt F)) :=
    [Step.tnullary c_1 (constantI S_ 32 1#32),
     Step.tnullary c_2 (constantI S_ 32 32#32),
     Step.tbinary c_1 c_2 v16 Host.shrui,
     Step.tunary v16 v17 id,
     Step.tunary v17 v18 (broadcastInDim S1 ![] bcast_S_S1),
     Step.tnullary c_3 (constantI S_ 32 4294967295#32),
     Step.tbinary c_1 c_3 v19 andi,
     Step.tunary v19 v20 id,
     Step.tunary v20 v21 (broadcastInDim S1 ![] bcast_S_S1),
     Step.tbinary v18 v21 v22 (fun a b => concatenate S2 0 [⟨S1, a⟩, ⟨S1, b⟩] concatenates_S1_S1_S2_d0),
     Step.tnullary v23 (iotaInDim S176 32 0)]

/-- The shuffle. -/
def shuffleSteps : List (Step τ sig (Elt F)) :=
    shufSteps v22 v23 (shufRefs main_call1)

/-- The places drawn, as floats. -/
def drawSteps : List (Step τ sig (Elt F)) :=
    [Step.tunary v24 v25 (extractStridedSlice S76 ![0] · slices_S176_S76_0),
     Step.tunary v25 v26 (sitofp .f32),
     Step.tunary v26 v27 (broadcastInDim S76x1 ![0] bcast_S76_S76x1_0)]

/-- The table of coordinates. -/
def coordSteps : List (Step τ sig (Elt F)) :=
    [Step.tnullary v28 (iotaInDim S196 32 0),
     Step.tnullary cst_4 (constant S_ .f32 0x00000000#32),
     Step.tunary cst_4 v29 (broadcastInDim S196x128 ![] bcast_S_S196x128),
     Step.tnullary c_5 (constantI S_ 32 14#32)] ++
    (remSteps bcast_S_S196 v28 c_5 (remRefs main_call2) ++
    ([Step.tnullary c_6 (constantI S_ 32 1#32),
     Step.tnullary c_7 (constantI S_ 32 13#32)] ++
    (clipSteps bcast_S_S196 v30 c_6 c_7 (clipRefs main_call3) ++
    ([Step.tunary v31 v32 (sitofp .f32),
     Step.tnullary c_8 (constantI S_ 32 0#32),
     Step.tunary c_8 v33 (broadcastInDim S1 ![] bcast_S_S1),
     Step.ternary main_v29 main_v33 main_v32 main_v34 ((fun x i u => Host.scatter scatter_S196x128_S1_S196_0_1_1_0 (fun _ b => b) x i u)
        : (⟨S196x128, .f32⟩ : BufTy).Contents (Elt F) → (⟨S1, .i32⟩ : BufTy).Contents (Elt F) → (⟨S196, .f32⟩ : BufTy).Contents (Elt F) → (⟨S196x128, .f32⟩ : BufTy).Contents (Elt F)),
     Step.tnullary c_9 (constantI S_ 32 14#32)] ++
    (divSteps bcast_S_S196 v28 c_9 (divRefs main_call4) ++
    ([Step.tnullary c_10 (constantI S_ 32 1#32),
     Step.tnullary c_11 (constantI S_ 32 13#32)] ++
    (clipSteps bcast_S_S196 v35 c_10 c_11 (clipRefs main_call5) ++
    ([Step.tunary v36 v37 (sitofp .f32),
     Step.tnullary c_12 (constantI S_ 32 1#32),
     Step.tunary c_12 v38 (broadcastInDim S1 ![] bcast_S_S1),
     Step.ternary main_v34 main_v38 main_v37 main_v39 ((fun x i u => Host.scatter scatter_S196x128_S1_S196_0_1_1_0 (fun _ b => b) x i u)
        : (⟨S196x128, .f32⟩ : BufTy).Contents (Elt F) → (⟨S1, .i32⟩ : BufTy).Contents (Elt F) → (⟨S196, .f32⟩ : BufTy).Contents (Elt F) → (⟨S196x128, .f32⟩ : BufTy).Contents (Elt F))]))))))))

/-- All host operations ahead of the region. -/
def steps : List (Step τ sig (Elt F)) :=
  pictureSteps ++ (weightSteps ++ (keySteps ++ (shuffleSteps ++ (drawSteps ++ coordSteps))))

set_option maxRecDepth 8192
set_option maxHeartbeats 4000000

theorem hostOps_eq : List.flatten [hostOps0, hostOps0_1, hostOps0_2, hostOps0_3, hostOps0_4, hostOps0_5, hostOps0_6, hostOps0_7,
    hostOps0_8, hostOps0_9, hostOps0_10, hostOps0_11, hostOps0_12] = ops (steps (F := F)) := rfl

theorem ordered : Ordered 5 (steps (F := Ideal)) = true := by
  decide +kernel

/-- What the region is launched from on a device. -/
def start (m : (ℓ : Loc nD τ sig) → Buf (Elt Ideal) ℓ) (c : Dev nD) : Valuation τ sig (Elt Ideal) :=
  after (ops steps) (fun b => m (c, b))

theorem V_eq (m : (ℓ : Loc nD τ sig) → Buf (Elt Ideal) ℓ) (c : Dev nD) (b : Ref sig .tc) :
    V m c b = start m c (Proc.devRef .tc b) := by
  unfold start
  rw [← hostOps_eq]

/-- Every step's equation holds of it. -/
theorem start_holds (m : (ℓ : Loc nD τ sig) → Buf (Elt Ideal) ℓ) (c : Dev nD) : Holds (start m c) steps :=
  eqns_of_ordered steps _ ordered

/-- The arguments are as launched. -/
theorem start_kept (m : (ℓ : Loc nD τ sig) → Buf (Elt Ideal) ℓ) (c : Dev nD) {r : Ref sig .tc} (h : r.idx.val < 5) :
    start m c (Proc.devRef .tc r) = m (c, Proc.devRef .tc r) :=
  kept_of_ordered steps _ ordered h

end Cert.KernelIdeal.Line

end

end
-- ==== Proof.Rank.lean ====
module

public import Idealize.ShloMosaic.Lib.SortPrefix
public import Mathlib.Order.OrderDual
public import Mathlib.Data.Fintype.Card
public import Mathlib.Algebra.BigOperators.Fin

/-! # Ranks

A list of keys, the order "smaller key first, equal keys by position", and the rank of a position: the number of
positions ahead of it. A stable sort lists the positions by rank. -/

@[expose] public section

noncomputable section

namespace Cert.Rank

open Idealize.ShloMosaic

variable {n : ℕ} {κ : Type} [LinearOrder κ]

/-- Position `b` comes ahead of position `a`: its key is smaller, or the keys agree and `b` is the earlier position. -/
def Ahead (key : Fin n → κ) (b a : Fin n) : Prop := key b < key a ∨ (key b = key a ∧ b < a)

instance (key : Fin n → κ) (b a : Fin n) : Decidable (Ahead key b a) := by unfold Ahead; infer_instance

/-- How many positions come ahead of `a`. -/
def rank (key : Fin n → κ) (a : Fin n) : ℕ := (Finset.univ.filter fun b => Ahead key b a).card

theorem ahead_irrefl (key : Fin n → κ) (a : Fin n) : ¬ Ahead key a a := by simp [Ahead]

theorem ahead_total (key : Fin n → κ) {a b : Fin n} (h : a ≠ b) : Ahead key a b ∨ Ahead key b a := by
  unfold Ahead
  rcases lt_trichotomy (key a) (key b) with hk | hk | hk
  · exact .inl (.inl hk)
  · rcases lt_or_gt_of_ne h with hp | hp
    · exact .inl (.inr ⟨hk, hp⟩)
    · exact .inr (.inr ⟨hk.symm, hp⟩)
  · exact .inr (.inl hk)

theorem ahead_trans (key : Fin n → κ) {a b c : Fin n} (h : Ahead key a b) (h' : Ahead key b c) : Ahead key a c := by
  unfold Ahead at *
  rcases h with h | ⟨h, p⟩ <;> rcases h' with h' | ⟨h', p'⟩
  · exact .inl (h.trans h')
  · exact .inl (h' ▸ h)
  · exact .inl (h ▸ h')
  · exact .inr ⟨h.trans h', p.trans p'⟩

theorem rank_lt_rank (key : Fin n → κ) {a b : Fin n} (h : Ahead key a b) : rank key a < rank key b := by
  apply Finset.card_lt_card
  rw [Finset.ssubset_iff_of_subset]
  · exact ⟨a, by simp [h], by simp [ahead_irrefl]⟩
  · intro x hx
    simp only [Finset.mem_filter, Finset.mem_univ, true_and] at hx ⊢
    exact ahead_trans key hx h

/-- No two positions have the same rank. -/
theorem rank_injective (key : Fin n → κ) : Function.Injective (rank key) := by
  intro a b h
  by_contra hne
  rcases ahead_total key hne with h' | h'
  · exact absurd (rank_lt_rank key h') (by omega)
  · exact absurd (rank_lt_rank key h') (by omega)

/-- On a list of increasing positions a stable sort asks its comparison only whether a later position goes before
    an earlier one: two comparisons that agree there sort alike. -/
theorem stableSort_congr_increasing (R R' : Fin n → Fin n → Bool) (h : ∀ a b, a < b → R b a = R' b a) (l : List (Fin n))
    (hl : l.Pairwise (· < ·)) : stableSort R l = stableSort R' l := by
  induction l with
  | nil => rfl
  | cons a l ih =>
    rw [List.pairwise_cons] at hl
    unfold stableSort
    rw [ih hl.2]
    exact insertBefore_congr R R' a _ fun b hb => h a b (hl.1 b ((perm_stableSort R' l).mem_iff.mp hb))

/-- A stable sort by the keys puts at place `k` the position of rank `k`. -/
theorem rank_sortedFrom (key : Fin n → κ) (B : Fin n → Fin n → Bool) (hB : ∀ a b, B a b = decide (key a < key b))
    (k : Fin n) : rank key (sortedFrom B k) = k := by
  set A : Fin n → Fin n → Bool := fun b a => decide (Ahead key b a) with hA
  have hs : sortPositions n B = sortPositions n A := by
    refine stableSort_congr_increasing B A (fun a b hab => ?_) _ (List.pairwise_lt_finRange n)
    rw [hB, hA, Bool.eq_iff_iff]
    simp only [decide_eq_true_eq]
    constructor
    · exact .inl
    · rintro (h | ⟨_, h⟩)
      · exact h
      · exact absurd h (by omega)
  have hσ : sortedFrom B = sortedFrom A := by
    funext k
    unfold sortedFrom
    rw [List.get_of_eq hs]
    rfl
  have hfalse : ∀ a b : Fin n, A b a = false → A a b = true ∨ a = b := by
    intro a b h
    by_cases e : a = b
    · exact .inr e
    · rcases ahead_total key e with h' | h'
      · exact .inl (decide_eq_true h')
      · rw [hA] at h; simp [h'] at h
  have hord : ∀ i j : Fin n, i < j → Ahead key (sortedFrom A i) (sortedFrom A j) := by
    intro i j hij
    have h := sortedFrom_noInversion A A (fun a b h => by
        simp only [hA, decide_eq_true_eq, decide_eq_false_iff_not] at h ⊢
        exact fun h' => ahead_irrefl key a (ahead_trans key h h')) (fun _ _ h => h)
      (fun a b c h h' => by
        simp only [hA, decide_eq_false_iff_not] at h h' ⊢
        intro hac
        by_cases e : a = b
        · exact h' (e ▸ hac)
        · rcases ahead_total key e with hab | hba
          · exact h hab
          · exact h' (ahead_trans key hba hac)) i j hij
    rcases hfalse _ _ h with h' | h'
    · simpa [hA] using h'
    · exact absurd (sortedFrom_injective A h') (by omega)
  rw [hσ]
  unfold rank
  have hset : (Finset.univ.filter fun b => Ahead key b (sortedFrom A k))
      = (Finset.univ.filter fun i : Fin n => i < k).image (sortedFrom A) := by
    ext b
    simp only [Finset.mem_filter, Finset.mem_univ, true_and, Finset.mem_image]
    constructor
    · intro hb
      obtain ⟨i, rfl⟩ := sortedFrom_surjective A b
      refine ⟨i, ?_, rfl⟩
      by_contra hik
      rcases eq_or_lt_of_le (not_lt.mp hik) with e | hki
      · rw [e] at hb; exact ahead_irrefl key _ hb
      · exact ahead_irrefl key _ (ahead_trans key hb (hord k i hki))
    · rintro ⟨i, hik, rfl⟩
      exact hord i k hik
  rw [hset, Finset.card_image_of_injective _ (sortedFrom_injective A)]
  exact (congrArg Finset.card (Finset.filter_gt_eq_Iio (a := k))).trans (Fin.card_Iio k)

/-- Every number below `n` is the rank of a position. -/
theorem exists_rank (key : Fin n → κ) (k : Fin n) : ∃ a, rank key a = k :=
  ⟨_, rank_sortedFrom key (fun a b => decide (key a < key b)) (fun _ _ => rfl) k⟩

theorem rank_lt (key : Fin n → κ) (a : Fin n) : rank key a < n := by
  have h : rank key a < (Finset.univ : Finset (Fin n)).card := by
    refine Finset.card_lt_card ?_
    rw [Finset.ssubset_univ_iff]
    intro h
    have := Finset.mem_univ a
    rw [← h] at this
    simp [ahead_irrefl] at this
  simpa using h

/-- Exactly `k` positions have a rank below `k`. -/
theorem card_rank_lt (key : Fin n → κ) (k : ℕ) (hk : k ≤ n) :
    (Finset.univ.filter fun a => rank key a < k).card = k := by
  have h : (Finset.univ.filter fun a => rank key a < k).image (rank key) = Finset.range k := by
    ext i
    simp only [Finset.mem_image, Finset.mem_filter, Finset.mem_univ, true_and, Finset.mem_range]
    constructor
    · rintro ⟨a, ha, rfl⟩; exact ha
    · intro hi
      obtain ⟨a, ha⟩ := exists_rank key ⟨i, hi.trans_le hk⟩
      exact ⟨a, by simpa [ha] using hi, ha⟩
  rw [← Finset.card_image_of_injective _ (rank_injective key), h, Finset.card_range]

/-! ## The positions left over

With the `k` positions of least rank taken away, the others keep their order; the place of one of them is the number of
others before it. -/

/-- How many of the positions before `a` have rank `k` or more. -/
def place (key : Fin n → κ) (k : ℕ) (a : Fin n) : ℕ := (Finset.univ.filter fun b => k ≤ rank key b ∧ b < a).card

/-- Two positions left over have different places. -/
theorem place_injective (key : Fin n → κ) (k : ℕ) {a b : Fin n} (ha : k ≤ rank key a) (hb : k ≤ rank key b)
    (h : place key k a = place key k b) : a = b := by
  have step : ∀ {a b : Fin n}, k ≤ rank key a → a < b → place key k a < place key k b := by
    intro a b ha hab
    apply Finset.card_lt_card
    rw [Finset.ssubset_iff_of_subset]
    · exact ⟨a, by simp [ha, hab], by simp⟩
    · intro x hx
      simp only [Finset.mem_filter, Finset.mem_univ, true_and] at hx ⊢
      exact ⟨hx.1, hx.2.trans hab⟩
  rcases lt_trichotomy a b with hl | he | hl
  · exact absurd (step ha hl) (by omega)
  · exact he
  · exact absurd (step hb hl) (by omega)

/-- Sort the positions by a key `mark` that is `0` on those left over and `1` on those taken. A position whose rank in
    that order is below the number of those left over is left over, and its place is that rank. -/
theorem rank_mark (key : Fin n → κ) (k : ℕ) (hk : k ≤ n) (mark : Fin n → ℤ)
    (hm : ∀ a, mark a = if rank key a < k then 1 else 0) (a : Fin n) (ha : rank mark a < n - k) :
    k ≤ rank key a ∧ place key k a = rank mark a := by
  have hrest : (Finset.univ.filter fun b => k ≤ rank key b).card = n - k := by
    have h1 := card_rank_lt key k hk
    have h2 := Finset.card_filter_add_card_filter_not (s := (Finset.univ : Finset (Fin n))) (fun b => rank key b < k)
    simp only [not_lt, Finset.card_univ, Fintype.card_fin] at h2
    omega
  have hleft : k ≤ rank key a := by
    by_contra hlt
    rw [not_le] at hlt
    have : (Finset.univ.filter fun b => k ≤ rank key b).card ≤ rank mark a := by
      apply Finset.card_le_card
      intro b hb
      simp only [Finset.mem_filter, Finset.mem_univ, true_and] at hb ⊢
      left
      rw [hm, hm, if_neg (by omega), if_pos hlt]
      exact zero_lt_one
    omega
  refine ⟨hleft, ?_⟩
  have hmem : ∀ b, (k ≤ rank key b ∧ b < a) ↔ Ahead mark b a := by
    intro b
    unfold Ahead
    rw [hm a, hm b, if_neg (by omega : ¬ rank key a < k)]
    split <;> simp <;> omega
  unfold place
  rw [Finset.filter_congr fun b _ => hmem b]
  rfl

end Cert.Rank

end
-- ==== Proof.Model.lean ====
module

public import Idealize.ShloMosaic.Lib.Pointwise
public import proofs.«01_k».proof.Proof.Rank
public import proofs.«01_k».proof.Proof.IntFns
public import proofs.«01_k».proof.Proof.Shuffle

/-! # The mathematics of the problem

The score of a place of a picture: a depthwise three by three convolution of the zero-padded picture, a bias, the sum over
the channels weighted by one row, a bias, the sigmoid. The place that each of the ninety-six outputs of a row names, and
its two coordinates. -/

@[expose] public section

noncomputable section

namespace Cert.Model

open Idealize.ShloMosaic Cert.Rank

abbrev ArgX : Shape := ⟨5, ![8, 64, 384, 14, 14]⟩
abbrev ArgW : Shape := ⟨4, ![384, 1, 3, 3]⟩
abbrev ArgB : Shape := ⟨1, ![384]⟩
abbrev ArgP : Shape := ⟨4, ![1, 384, 1, 1]⟩
abbrev ArgC : Shape := ⟨1, ![1]⟩

/-- The zero-padded picture of row `n` and channel `c` at `(y, x)`, both counted from the padding's corner. -/
def pix (X : FVec Ideal ArgX .f32) (n : Fin 64) (c : Fin 384) (y x : ℕ) : EReal :=
  if h : (1 ≤ y ∧ y - 1 < 14) ∧ (1 ≤ x ∧ x - 1 < 14) then X (ix5 0 n c ⟨y - 1, h.1.2⟩ ⟨x - 1, h.2.2⟩) else 0

/-- One tap of the convolution at `(y, x)`. -/
def tap (X : FVec Ideal ArgX .f32) (W : FVec Ideal ArgW .f32) (n : Fin 64) (c : Fin 384) (y x : ℕ) (dy dx : Fin 3) : EReal :=
  pix X n c (y + dy) (x + dx) * W (ix4 c 0 dy dx)

/-- The convolution at `(y, x)`, with its bias. -/
def conv (X : FVec Ideal ArgX .f32) (W : FVec Ideal ArgW .f32) (B : FVec Ideal ArgB .f32) (n : Fin 64) (c : Fin 384)
    (y x : ℕ) : EReal :=
  tap X W n c y x 0 0 + tap X W n c y x 0 1 + tap X W n c y x 0 2 + tap X W n c y x 1 0 + tap X W n c y x 1 1
    + tap X W n c y x 1 2 + tap X W n c y x 2 0 + tap X W n c y x 2 1 + tap X W n c y x 2 2 + B (ix1 c)

/-- The logit at `(y, x)`. -/
def logit (X : FVec Ideal ArgX .f32) (W : FVec Ideal ArgW .f32) (B : FVec Ideal ArgB .f32) (P : FVec Ideal ArgP .f32)
    (C : FVec Ideal ArgC .f32) (n : Fin 64) (y x : ℕ) : EReal :=
  (∑ c : Fin 384, conv X W B n c y x * P (ix4 0 c 0 0)) + C (ix1 0)

/-- The score of place `a` of row `n`: the sigmoid of its logit. -/
def score (X : FVec Ideal ArgX .f32) (W : FVec Ideal ArgW .f32) (B : FVec Ideal ArgB .f32) (P : FVec Ideal ArgP .f32)
    (C : FVec Ideal ArgC .f32) (n : Fin 64) (a : Fin 196) : EReal :=
  Ideal.div 1 (1 + Ideal.exp (-logit X W B P C n (a / 14) (a % 14)))

/-! ## What each output of a row names -/

/-- The scores as keys: the larger score first. -/
def key (s : Fin 196 → EReal) (a : Fin 196) : ERealᵒᵈ := OrderDual.toDual (s a)

/-- Output `j` of a row with scores `s` names place `a`: for `j < 20` the place of rank `j`; past it, among the places of rank
    20 or more in their own order, the one that the shuffle's entry `j - 20` names. -/
def Hit (s : Fin 196 → EReal) (j : Fin 96) (a : Fin 196) : Prop :=
  if j.val < 20 then rank (key s) a = j
  else 20 ≤ rank (key s) a ∧ place (key s) 20 a = (Steps.shuffled (ix1 ⟨j - 20, by omega⟩)).toNat

/-- An output names at most one place. -/
theorem Hit.unique {s : Fin 196 → EReal} {j : Fin 96} {a b : Fin 196} (ha : Hit s j a) (hb : Hit s j b) : a = b := by
  unfold Hit at ha hb
  split at ha
  · rename_i h
    rw [if_pos h] at hb
    exact rank_injective _ (ha.trans hb.symm)
  · rename_i h
    rw [if_neg h] at hb
    exact place_injective _ _ ha.1 hb.1 (ha.2.trans hb.2.symm)

/-- The column of a place, kept off the picture's edge. -/
def column (a : Fin 196) : BitVec 32 := Steps.clipE (Steps.remE (BitVec.ofNat 32 a) 14#32) 1#32 13#32

/-- The line of a place, kept off the picture's edge. -/
def line (a : Fin 196) : BitVec 32 := Steps.clipE (Steps.fdivE (BitVec.ofNat 32 a) 14#32) 1#32 13#32

end Cert.Model

end
-- ==== Proof.KerStart.lean ====
module

public import proofs.«01_k».proof.Proof.KerLine
public import proofs.«01_k».proof.Proof.Model
public import Idealize.ShloMosaic.Lib.Routing.OpsPair
public import Idealize.ShloMosaic.Lib.Routing.OpsSet

/-! # What the kernel's region reads

The arrays that the host operations hand to the region, at an index. -/

@[expose] public section

set_option maxRecDepth 16384

noncomputable section

namespace Cert.KernelIdeal.Line

open Cert.KernelIdeal Cert.KernelIdeal.Gen Cert.Steps Cert.Model Idealize.ShloMosaic Idealize.ShloMosaic.TcCoe Idealize.ShloMosaic.StableHlo

variable {W : Valuation τ sig (Elt Ideal)}

theorem sitofp_zero : FloatOps.sitofp (F := Ideal) FTy.bf16 0#32 = (0 : EReal) := by
  show ((((0#32 : BitVec 32).toInt : ℤ) : ℝ) : EReal) = 0
  simp

/-- The flat padded picture at position `u` of channel `c` of row `n`. -/
def flat (X : FVec Ideal ArgX .f32) (n : Fin 64) (c : Fin 384) (u : ℕ) : EReal :=
  if h : 15 ≤ u ∧ u - 15 < 196 then X (ix5 0 n c ⟨(u - 15) / 14, by omega⟩ ⟨(u - 15) % 14, by omega⟩) else 0

set_option maxHeartbeats 4000000 in
theorem picture_eq (h : Holds W pictureSteps) (n : Fin 64) (c : Fin 384) (u : Fin 226) :
    rd W v4 (ix3 n c u) = flat (rd W arg0) n c u := by
  simp only [pictureSteps, padSteps, holds_append, holds_cons, holds_nil] at h
  obtain ⟨⟨h0, h1, h2, h3, hc, -⟩, h4, h5, -⟩ := h
  replace h0 : rd W v0 = _ := h0
  replace h1 : rd W v1 = _ := h1
  replace h2 : rd W v2 = _ := h2
  replace h3 : rd W v3 = _ := h3
  replace hc : rd W Line.c = _ := hc
  replace h4 : rd W main_call0.v0 = _ := h4
  replace h5 : rd W v4 = _ := h5
  rw [h5, h4, hc, h3, h2, h1, h0]
  pointwise
  rw [sitofp_zero]
  rfl

/-- The position of a tap among the nine. -/
def tapAt (dy dx : Fin 3) : Fin 9 := ⟨3 * dy + dx, by omega⟩

theorem taps_eq (h : Holds W weightSteps) (dy dx : Fin 3) (c : Fin 384) :
    rd W v8 (ix3 (tapAt dy dx) c 0) = rd W arg1 (ix4 c 0 dy dx) := by
  simp only [weightSteps, holds_cons, holds_nil] at h
  obtain ⟨h0, h1, h2, h3, h4, h5, h6, h7, h8, h9, h10, h11, h12, -⟩ := h
  replace h0 : rd W v5 = _ := h0
  replace h1 : rd W v6 = _ := h1
  replace h2 : rd W v7 = _ := h2
  replace h3 : rd W v8 = _ := h3
  unfold tapAt
  rw [h3, h2, h1, h0]
  pointwise
  have e0 : (⟨(3 * (dy : ℕ) + dx) / 3, by omega⟩ : Fin 3) = dy := Fin.ext (by show (3 * (dy : ℕ) + dx) / 3 = dy; omega)
  have e1 : (⟨(3 * (dy : ℕ) + dx) % 3, by omega⟩ : Fin 3) = dx := Fin.ext (by show (3 * (dy : ℕ) + dx) % 3 = dx; omega)
  exact congrArg₂ (fun a b => rd W arg1 (ix4 c 0 a b)) e0 e1

theorem bias_eq (h : Holds W weightSteps) (c : Fin 384) : rd W v9 (ix2 c 0) = rd W arg2 (ix1 c) := by
  simp only [weightSteps, holds_cons, holds_nil] at h
  obtain ⟨h0, h1, h2, h3, h4, h5, h6, h7, h8, h9, h10, h11, h12, -⟩ := h
  replace h4 : rd W v9 = _ := h4
  rw [h4]
  pointwise

/-- Writing a row at the row that the index names: its entry `c` lands at `(0, c)` when the index is zero. -/
theorem row_lands (x0 : FVec Ideal S8x384 .f32) (idx : IVec S1 32) (hidx : ∀ i, (idx i).toInt = 0) (u : FVec Ideal S384 .f32)
    (c : Fin 384) : Host.scatter scatter_S8x384_S1_S384_0_0_0_0 (fun _ b => b) x0 idx u (ix2 0 c) = u (ix1 c) := by
  have hs0 : ∀ k, scatter_S8x384_S1_S384_0_0_0_0.start k idx (0 : Fin 2) = 0 := fun k => hidx _
  have hs1 : ∀ k, scatter_S8x384_S1_S384_0_0_0_0.start k idx (1 : Fin 2) = 0 := fun k => rfl
  have hw0 : ∀ k, scatter_S8x384_S1_S384_0_0_0_0.window k (0 : Fin 2) = 0 := fun k => rfl
  have hw1 : ∀ k : S384.Idx, scatter_S8x384_S1_S384_0_0_0_0.window k (1 : Fin 2) = (k 0).val := fun k => rfl
  refine Routing.scatter_set_hit _ _ _ _ _ _ (fun k hk => ?_) (ix1 c) ?_
  · have h1 := (Routing.resultIdx?_eq_some _ _ _ _).1 hk (1 : Fin 2)
    rw [hs1, hw1] at h1
    have h2 : (k 0).val = (c : ℕ) := by
      have : (((k 0).val : ℕ) : Int) = ((c : ℕ) : Int) := (zero_add _).symm.trans h1
      exact_mod_cast this
    congr 1
    funext b
    match b with
    | ⟨0, _⟩ => exact Fin.ext h2
  · refine (Routing.resultIdx?_eq_some _ _ _ _).2 fun a => ?_
    match a with
    | ⟨0, _⟩ =>
      refine (congrArg₂ (fun (x : Int) (y : ℕ) => x + y) (hs0 _) (hw0 _)).trans ?_
      rfl
    | ⟨1, _⟩ =>
      refine (congrArg₂ (fun (x : Int) (y : ℕ) => x + y) (hs1 _) (hw1 _)).trans ?_
      exact zero_add _

/-- Writing a column at the column `q` that the index names: the table's entry `(a, k)` afterwards. -/
theorem col_lands (x0 : FVec Ideal S196x128 .f32) (idx : IVec S1 32) (q : Fin 128) (hidx : ∀ i, (idx i).toInt = (q : ℕ))
    (u : FVec Ideal S196 .f32) (a : Fin 196) (k : Fin 128) :
    Host.scatter scatter_S196x128_S1_S196_0_1_1_0 (fun _ b => b) x0 idx u (ix2 a k) = if k = q then u (ix1 a) else x0 (ix2 a k) := by
  have hs0 : ∀ k, scatter_S196x128_S1_S196_0_1_1_0.start k idx (0 : Fin 2) = 0 := fun k => rfl
  have hs1 : ∀ k, scatter_S196x128_S1_S196_0_1_1_0.start k idx (1 : Fin 2) = (q : ℕ) := fun k => hidx _
  have hw0 : ∀ k : S196.Idx, scatter_S196x128_S1_S196_0_1_1_0.window k (0 : Fin 2) = (k 0).val := fun k => rfl
  have hw1 : ∀ k, scatter_S196x128_S1_S196_0_1_1_0.window k (1 : Fin 2) = 0 := fun k => rfl
  by_cases hkq : k = q
  · subst hkq
    rw [if_pos rfl]
    refine Routing.scatter_set_hit _ _ _ _ _ _ (fun j hj => ?_) (ix1 a) ?_
    · have h1 := (Routing.resultIdx?_eq_some _ _ _ _).1 hj (0 : Fin 2)
      rw [hs0, hw0] at h1
      have h2 : (j 0).val = (a : ℕ) := by
        have : (((j 0).val : ℕ) : Int) = ((a : ℕ) : Int) := (zero_add _).symm.trans h1
        exact_mod_cast this
      congr 1
      funext b
      match b with
      | ⟨0, _⟩ => exact Fin.ext h2
    · refine (Routing.resultIdx?_eq_some _ _ _ _).2 fun b => ?_
      match b with
      | ⟨0, _⟩ =>
        refine (congrArg₂ (fun (x : Int) (y : ℕ) => x + y) (hs0 _) (hw0 _)).trans ?_
        exact zero_add _
      | ⟨1, _⟩ =>
        refine (congrArg₂ (fun (x : Int) (y : ℕ) => x + y) (hs1 _) (hw1 _)).trans ?_
        exact add_zero _
  · rw [if_neg hkq]
    refine Routing.scatter_set_miss _ _ _ _ _ fun j hj => hkq ?_
    have h1 := (Routing.resultIdx?_eq_some _ _ _ _).1 hj (1 : Fin 2)
    rw [hs1, hw1] at h1
    have h2 : ((q : ℕ) : Int) = ((k : ℕ) : Int) := (add_zero _).symm.trans h1
    exact Fin.ext (by exact_mod_cast h2.symm)

theorem row_eq (h : Holds W weightSteps) (c : Fin 384) : rd W v13 (ix2 0 c) = rd W arg3 (ix4 0 c 0 0) := by
  simp only [weightSteps, holds_cons, holds_nil] at h
  obtain ⟨h0, h1, h2, h3, h4, h5, h6, h7, h8, h9, h10, h11, h12, -⟩ := h
  replace h7 : rd W v11 = _ := h7
  replace h8 : rd W c_0 = _ := h8
  replace h9 : rd W v12 = _ := h9
  replace h10 : rd W v13 = Host.scatter scatter_S8x384_S1_S384_0_0_0_0 (fun _ b => b) (rd W v10) (rd W v12) (rd W v11) := h10
  have hidx : ∀ i, rd W v12 i = 0#32 := fun i => by
    rw [h9, h8]
    rfl
  rw [h10, row_lands _ _ (fun i => by rw [hidx]; rfl), h7]
  pointwise

theorem shift_eq (h : Holds W weightSteps) (i : Fin 8) (k : Fin 128) : rd W v15 (ix2 i k) = rd W arg4 (ix1 0) := by
  simp only [weightSteps, holds_cons, holds_nil] at h
  obtain ⟨h0, h1, h2, h3, h4, h5, h6, h7, h8, h9, h10, h11, h12, -⟩ := h
  replace h11 : rd W v14 = _ := h11
  replace h12 : rd W v15 = _ := h12
  rw [h12, h11]
  pointwise

theorem draw_eq (hk : Holds W keySteps) (hs : Holds W shuffleSteps) (hd : Holds W drawSteps) (p : Fin 76) (q : Fin 176)
    (hq : (q : ℕ) = p) : rd W v27 (ix2 p 0) = ((((shuffled (ix1 q)).toInt : ℤ) : ℝ) : EReal) := by
  simp only [keySteps, drawSteps, holds_cons, holds_nil] at hk hd
  obtain ⟨h0, h1, h2, h3, h4, h5, h6, h7, h8, h9, h10, -⟩ := hk
  obtain ⟨d0, d1, d2, -⟩ := hd
  have hq : q = ⟨p, lt_trans p.isLt (by decide)⟩ := Fin.ext hq
  rw [hq]
  replace h0 : rd W c_1 = _ := h0
  replace h1 : rd W c_2 = _ := h1
  replace h2 : rd W v16 = _ := h2
  replace h3 : rd W v17 = _ := h3
  replace h4 : rd W v18 = _ := h4
  replace h5 : rd W c_3 = _ := h5
  replace h6 : rd W v19 = _ := h6
  replace h7 : rd W v20 = _ := h7
  replace h8 : rd W v21 = _ := h8
  replace h9 : rd W v22 = _ := h9
  replace h10 : rd W v23 = _ := h10
  replace d0 : rd W v25 = _ := d0
  replace d1 : rd W v26 = _ := d1
  replace d2 : rd W v27 = _ := d2
  have e : rd W v24 = shuffleW (rd W v22) (rd W v23) := shuf_eq hs
  have e' : rd W v22 = seedKey := by
    rw [h9, h8, h7, h6, h5, h4, h3, h2, h1, h0]
    unfold seedKey
    rfl
  have e'' : rd W v24 = shuffled := by
    rw [e, h10, e']
    rfl
  rw [d2, d1, d0, e'']
  pointwise
  rfl

/-- The table of coordinates: column 0 holds the places' columns, column 1 their lines. -/
theorem table_eq (h : Holds W coordSteps) (a : Fin 196) :
    rd W v39 (ix2 a 0) = ((((column a).toInt : ℤ) : ℝ) : EReal) ∧ rd W v39 (ix2 a 1) = ((((line a).toInt : ℤ) : ℝ) : EReal) := by
  simp only [coordSteps, holds_append, holds_cons, holds_nil] at h
  obtain ⟨⟨h0, -, -, h1, -⟩, e0, ⟨h2, h3, -⟩, e1, ⟨h4, h5, h6, h7, h8, -⟩, e2, ⟨h9, h10, -⟩, e3, h11, h12, h13, h14, -⟩ := h
  replace h0 : rd W v28 = _ := h0
  replace h1 : rd W c_5 = _ := h1
  replace h2 : rd W c_6 = _ := h2
  replace h3 : rd W c_7 = _ := h3
  replace h4 : rd W v32 = _ := h4
  replace h5 : rd W c_8 = _ := h5
  replace h6 : rd W v33 = _ := h6
  replace h7 : rd W v34 = Host.scatter scatter_S196x128_S1_S196_0_1_1_0 (fun _ b => b) (rd W v29) (rd W v33) (rd W v32) := h7
  replace h8 : rd W c_9 = _ := h8
  replace h9 : rd W c_10 = _ := h9
  replace h10 : rd W c_11 = _ := h10
  replace h11 : rd W v37 = _ := h11
  replace h12 : rd W c_12 = _ := h12
  replace h13 : rd W v38 = _ := h13
  replace h14 : rd W v39 = Host.scatter scatter_S196x128_S1_S196_0_1_1_0 (fun _ b => b) (rd W v34) (rd W v38) (rd W v37) := h14
  have f0 : ∀ i, rd W v30 i = remE (rd W v28 i) 14#32 := fun i => by
    have := rem_eq e0 i; rw [h1] at this; exact this
  have f1 : ∀ i, rd W v31 i = clipE (rd W v30 i) 1#32 13#32 := fun i => by
    have := clip_eq e1 i; rw [h2, h3] at this; exact this
  have f2 : ∀ i, rd W v35 i = fdivE (rd W v28 i) 14#32 := fun i => by
    have := div_eq e2 i; rw [h8] at this; exact this
  have f3 : ∀ i, rd W v36 i = clipE (rd W v35 i) 1#32 13#32 := fun i => by
    have := clip_eq e3 i; rw [h9, h10] at this; exact this
  have hi : rd W v28 (ix1 a) = BitVec.ofNat 32 a := by
    rw [h0]
    rfl
  have k0 : ∀ i, (rd W v33 i).toInt = ((0 : Fin 128) : ℕ) := fun i => by
    rw [h6, h5]
    rfl
  have k1 : ∀ i, (rd W v38 i).toInt = ((1 : Fin 128) : ℕ) := fun i => by
    rw [h13, h12]
    rfl
  have hc : rd W v32 (ix1 a) = ((((column a).toInt : ℤ) : ℝ) : EReal) := by
    rw [h4]
    show ((((rd W v31 (ix1 a)).toInt : ℤ) : ℝ) : EReal) = _
    rw [f1, f0, hi]
    rfl
  have hl : rd W v37 (ix1 a) = ((((line a).toInt : ℤ) : ℝ) : EReal) := by
    rw [h11]
    show ((((rd W v36 (ix1 a)).toInt : ℤ) : ℝ) : EReal) = _
    rw [f3, f2, hi]
    rfl
  constructor
  · rw [h14, col_lands _ _ 1 k1, if_neg (by decide), h7, col_lands _ _ 0 k0, if_pos rfl, hc]
  · rw [h14, col_lands _ _ 1 k1, if_pos rfl, hl]

end Cert.KernelIdeal.Line

end
-- ==== Proof.KerScore.lean ====
module

public import proofs.«01_k».proof.Proof.KerStart
public import proofs.«01_k».proof.Proof.Gen.KernelIdeal.Value

/-! # The convolution that the kernel's body computes

The body reads the flat padded picture at an offset per tap. Where the tap would leave the line it is masked, and where
it leaves the picture above or below it reads the padding. -/

@[expose] public section

set_option maxRecDepth 16384

noncomputable section

namespace Cert.KernelIdeal.Body

open Cert.KernelIdeal Cert.KernelIdeal.Gen Cert.KernelIdeal.Line Cert.Model Cert.Rank Idealize.ShloMosaic Idealize.ShloMosaic.TcCoe

/-- The first column's places are told apart. -/
theorem low_eq (a : Fin 196) : k0_pay6 (ix3 0 0 a) = if (a : ℕ) % 14 = 0 then 1#1 else 0#1 := by
  revert a
  decide +kernel

/-- The last column's places are told apart. -/
theorem high_eq (a : Fin 196) : k0_pay7 (ix3 0 0 a) = if (a : ℕ) % 14 = 13 then 1#1 else 0#1 := by
  revert a
  decide +kernel

variable (X : FVec Ideal ArgX .f32) (Wt : FVec Ideal ArgW .f32) (B : FVec Ideal ArgB .f32) (P : FVec Ideal ArgP .f32)
  (C : FVec Ideal ArgC .f32)

/-- Off the ends of a line, the flat picture at a tap's offset is the padded picture at the tap's place. -/
theorem flat_pix (n : Fin 64) (c : Fin 384) (a : Fin 196) (dy dx : Fin 3) (h : 1 ≤ (a : ℕ) % 14 + dx ∧ (a : ℕ) % 14 + dx - 1 < 14)
    (u : ℕ) (hu : u = 14 * dy + dx + a) : flat X n c u = pix X n c ((a : ℕ) / 14 + dy) ((a : ℕ) % 14 + dx) := by
  subst hu
  unfold flat pix
  by_cases hy : 1 ≤ (a : ℕ) / 14 + dy ∧ (a : ℕ) / 14 + dy - 1 < 14
  · have hf : 15 ≤ 14 * (dy : ℕ) + dx + a ∧ 14 * (dy : ℕ) + dx + a - 15 < 196 := by omega
    rw [dif_pos hf, dif_pos ⟨hy, h⟩]
    have e0 : (⟨(14 * (dy : ℕ) + dx + a - 15) / 14, by omega⟩ : Fin 14) = ⟨(a : ℕ) / 14 + dy - 1, hy.2⟩ :=
      Fin.ext (by show (14 * (dy : ℕ) + dx + a - 15) / 14 = (a : ℕ) / 14 + dy - 1; omega)
    have e1 : (⟨(14 * (dy : ℕ) + dx + a - 15) % 14, by omega⟩ : Fin 14) = ⟨(a : ℕ) % 14 + dx - 1, h.2⟩ :=
      Fin.ext (by show (14 * (dy : ℕ) + dx + a - 15) % 14 = (a : ℕ) % 14 + dx - 1; omega)
    exact congrArg₂ (fun p q => X (ix5 0 n c p q)) e0 e1
  · rw [dif_neg (by omega), dif_neg fun k => hy k.1]

/-- The middle tap of a line. -/
theorem mid_tap (n : Fin 64) (c : Fin 384) (a : Fin 196) (dy : Fin 3) (u : ℕ) (hu : u = 14 * dy + 1 + a) :
    flat X n c u * Wt (ix4 c 0 dy 1) = tap X Wt n c ((a : ℕ) / 14) ((a : ℕ) % 14) dy 1 := by
  unfold tap
  rw [flat_pix X n c a dy 1 (by simp; omega) u (by simpa using hu)]

/-- The left tap of a line, masked in the first column. -/
theorem low_tap (n : Fin 64) (c : Fin 384) (a : Fin 196) (dy : Fin 3) (u : ℕ) (hu : u = 14 * dy + a) :
    Scalar.select (if (a : ℕ) % 14 = 0 then 1#1 else 0#1) (0 : EReal) (flat X n c u * Wt (ix4 c 0 dy 0))
      = tap X Wt n c ((a : ℕ) / 14) ((a : ℕ) % 14) dy 0 := by
  unfold tap
  by_cases h : (a : ℕ) % 14 = 0
  · rw [if_pos h]
    have : pix X n c ((a : ℕ) / 14 + dy) ((a : ℕ) % 14 + (0 : Fin 3)) = 0 := by
      unfold pix
      rw [dif_neg]
      intro k
      have := k.2.1
      simp at this
      omega
    rw [this, zero_mul]
    rfl
  · rw [if_neg h, flat_pix X n c a dy 0 (by simp; omega) u (by simpa using hu)]
    rfl

/-- The right tap of a line, masked in the last column. -/
theorem high_tap (n : Fin 64) (c : Fin 384) (a : Fin 196) (dy : Fin 3) (u : ℕ) (hu : u = 14 * dy + 2 + a) :
    Scalar.select (if (a : ℕ) % 14 = 13 then 1#1 else 0#1) (0 : EReal) (flat X n c u * Wt (ix4 c 0 dy 2))
      = tap X Wt n c ((a : ℕ) / 14) ((a : ℕ) % 14) dy 2 := by
  unfold tap
  by_cases h : (a : ℕ) % 14 = 13
  · rw [if_pos h]
    have : pix X n c ((a : ℕ) / 14 + dy) ((a : ℕ) % 14 + (2 : Fin 3)) = 0 := by
      unfold pix
      rw [dif_neg]
      intro k
      have := k.2.2
      simp at this
      omega
    rw [this, zero_mul]
    rfl
  · rw [if_neg h, flat_pix X n c a dy 2 (by simp; omega) u (by simpa using hu)]
    rfl

variable {x0 : Vec Ideal S4x384x226 .bf16} {x1 : Vec Ideal S9x384x1 .f32} {x2 : Vec Ideal S384x1 .f32} {x3 : Vec Ideal S8x384 .f32}
  {x4 : Vec Ideal S8x128 .f32} {x5 : Vec Ideal S76x1 .f32} {x6 : Vec Ideal S196x128 .f32} {N : Fin 4 → Fin 64}
  (h0 : ∀ r c u, x0 (ix3 r c u) = flat X (N r) c u)
  (h1 : ∀ (dy dx : Fin 3) c, x1 (ix3 (tapAt dy dx) c 0) = Wt (ix4 c 0 dy dx))
  (h2 : ∀ c, x2 (ix2 c 0) = B (ix1 c))

include h0 h1 in
/-- The first line of taps. -/
theorem first_eq (r : Fin 4) (c : Fin 384) (a : Fin 196) :
    k0_pay8 (View.ld x0 r0_0) (View.ld x1 r0_1) (View.ld x1 r0_2) (View.ld x1 r0_3) (ix3 r c a)
      = tap X Wt (N r) c (a / 14) (a % 14) 0 0 + tap X Wt (N r) c (a / 14) (a % 14) 0 1 + tap X Wt (N r) c (a / 14) (a % 14) 0 2 := by
  have k00 : x1 (ix3 0 c 0) = Wt (ix4 c 0 0 0) := h1 0 0 c
  have k01 : x1 (ix3 1 c 0) = Wt (ix4 c 0 0 1) := h1 0 1 c
  have k02 : x1 (ix3 2 c 0) = Wt (ix4 c 0 0 2) := h1 0 2 c
  have g0 := low_eq a
  have g1 := high_eq a
  unfold k0_pay8 k0_pay4
  generalize k0_pay6 = M6 at *
  generalize k0_pay7 = M7 at *
  pointwise
  rw [g0, g1, h0, h0, h0, k00, k01, k02, low_tap X Wt (N r) c a 0, mid_tap X Wt (N r) c a 0,
    high_tap X Wt (N r) c a 0]
  all_goals simp

include h0 h1 in
/-- The taps up to the left one of the last line. -/
theorem most_eq (r : Fin 4) (c : Fin 384) (a : Fin 196) :
    k0_pay26 x0 x1 x2 x3 x4 x5 x6 (ix3 r c a)
      = tap X Wt (N r) c (a / 14) (a % 14) 0 0 + tap X Wt (N r) c (a / 14) (a % 14) 0 1 + tap X Wt (N r) c (a / 14) (a % 14) 0 2
        + tap X Wt (N r) c (a / 14) (a % 14) 1 0 + tap X Wt (N r) c (a / 14) (a % 14) 1 1 + tap X Wt (N r) c (a / 14) (a % 14) 1 2
        + tap X Wt (N r) c (a / 14) (a % 14) 2 0 := by
  have k10 : x1 (ix3 3 c 0) = Wt (ix4 c 0 1 0) := h1 1 0 c
  have k11 : x1 (ix3 4 c 0) = Wt (ix4 c 0 1 1) := h1 1 1 c
  have k12 : x1 (ix3 5 c 0) = Wt (ix4 c 0 1 2) := h1 1 2 c
  have k20 : x1 (ix3 6 c 0) = Wt (ix4 c 0 2 0) := h1 2 0 c
  have g0 := low_eq a
  have g1 := high_eq a
  have gf := first_eq X Wt h0 h1 r c a
  unfold k0_pay26 k0_pay25 k0_pay24 k0_pay10 k0_pay9 k0_pay4
  generalize k0_pay8 (View.ld x0 r0_0) (View.ld x1 r0_1) (View.ld x1 r0_2) (View.ld x1 r0_3) = T at *
  generalize k0_pay6 = M6 at *
  generalize k0_pay7 = M7 at *
  pointwise
  rw [gf, g0, g1, h0, h0, h0, h0, k10, k11, k12, k20, low_tap X Wt (N r) c a 1, mid_tap X Wt (N r) c a 1,
    high_tap X Wt (N r) c a 1, low_tap X Wt (N r) c a 2]
  all_goals simp

include h0 h1 h2 in
/-- The convolution with its bias. -/
theorem conv_eq (r : Fin 4) (c : Fin 384) (a : Fin 196) :
    k0_pay12 (k0_pay24 x0 x1 x2 x3 x4 x5 x6) (k0_pay25 x0 x1 x2 x3 x4 x5 x6) (k0_pay26 x0 x1 x2 x3 x4 x5 x6)
      (k0_pay27 x0 x1 x2 x3 x4 x5 x6) (View.ld x1 r0_9) (View.ld x2 r0_10) (ix3 r c a)
      = conv X Wt B (N r) c (a / 14) (a % 14) := by
  have k21 : x1 (ix3 7 c 0) = Wt (ix4 c 0 2 1) := h1 2 1 c
  have k22 : x1 (ix3 8 c 0) = Wt (ix4 c 0 2 2) := h1 2 2 c
  have g1 := high_eq a
  have gm := most_eq (x2 := x2) (x3 := x3) (x4 := x4) (x5 := x5) (x6 := x6) X Wt h0 h1 r c a
  generalize k0_pay26 x0 x1 x2 x3 x4 x5 x6 = T at *
  unfold k0_pay27 k0_pay25 k0_pay24 k0_pay12 k0_pay11 k0_pay4
  generalize k0_pay7 = M7 at *
  pointwise
  rw [gm, g1, h0, h0, h2, k21, k22, mid_tap X Wt (N r) c a 2, high_tap X Wt (N r) c a 2]
  · rfl
  all_goals simp

/-- The four rows' products with the row of channel weights. -/
theorem dots_eq {v2 : FVec Ideal S4x384x226 .f32} {v9 : IVec S1x1x196 1} {v77 v83 : FVec Ideal S4x384x196 .f32}
    {v86 : Vec Ideal S1x384x1 .f32} {v96 : Vec Ideal S384x1 .f32} (a : Fin 196) :
    k0_pay13 v2 v9 v77 v83 v86 v96 (View.ld x3 r0_11) (ix2 0 a) = ∑ c, x3 (ix2 0 c) * k0_pay12 v2 v9 v77 v83 v86 v96 (ix3 0 c a)
    ∧ k0_pay14 v2 v9 v77 v83 v86 v96 (View.ld x3 r0_11) (ix2 0 a) = ∑ c, x3 (ix2 0 c) * k0_pay12 v2 v9 v77 v83 v86 v96 (ix3 1 c a)
    ∧ k0_pay15 v2 v9 v77 v83 v86 v96 (View.ld x3 r0_11) (ix2 0 a) = ∑ c, x3 (ix2 0 c) * k0_pay12 v2 v9 v77 v83 v86 v96 (ix3 2 c a)
    ∧ k0_pay16 v2 v9 v77 v83 v86 v96 (View.ld x3 r0_11) (ix2 0 a) = ∑ c, x3 (ix2 0 c) * k0_pay12 v2 v9 v77 v83 v86 v96 (ix3 3 c a) := by
  unfold k0_pay13 k0_pay14 k0_pay15 k0_pay16
  generalize k0_pay12 v2 v9 v77 v83 v86 v96 = T
  refine ⟨?_, ?_, ?_, ?_⟩ <;> pointwise

variable (h3 : ∀ c, x3 (ix2 0 c) = P (ix4 0 c 0 0))

/-- The logit without its bias. -/
def dot (n : Fin 64) (a : Fin 196) : EReal := ∑ c : Fin 384, conv X Wt B n c (a / 14) (a % 14) * P (ix4 0 c 0 0)

/-- The four rows, one on another, hold the logits without their bias. -/
theorem join_eq {o0 o1 o2 o3 : FVec Ideal S1x196 .f32} (L : Fin 4 → Fin 196 → EReal) (l0 : ∀ a, o0 (ix2 0 a) = L 0 a)
    (l1 : ∀ a, o1 (ix2 0 a) = L 1 a) (l2 : ∀ a, o2 (ix2 0 a) = L 2 a) (l3 : ∀ a, o3 (ix2 0 a) = L 3 a) (r : Fin 4) (a : Fin 196) :
    concatenate S4x196 0 [⟨S1x196, o0⟩, ⟨S1x196, o1⟩, ⟨S1x196, o2⟩, ⟨S1x196, o3⟩]
      concatenates_S1x196_S1x196_S1x196_S1x196_S4x196_d0 (ix2 r a) = L r a := by
  pointwise
  fin_cases r
  · exact l0 a
  · exact l1 a
  · exact l2 a
  · exact l3 a

include h0 h1 h2 h3 in
theorem rows_eq (r : Fin 4) (a : Fin 196) :
    concatenate S4x196 0 [⟨S1x196, k0_pay28 x0 x1 x2 x3 x4 x5 x6⟩, ⟨S1x196, k0_pay29 x0 x1 x2 x3 x4 x5 x6⟩,
      ⟨S1x196, k0_pay30 x0 x1 x2 x3 x4 x5 x6⟩, ⟨S1x196, k0_pay31 x0 x1 x2 x3 x4 x5 x6⟩]
      concatenates_S1x196_S1x196_S1x196_S1x196_S4x196_d0 (ix2 r a) = dot X Wt B P (N r) a := by
  have hc : ∀ (r : Fin 4) (a : Fin 196), ∑ c, x3 (ix2 0 c) * k0_pay12 (k0_pay24 x0 x1 x2 x3 x4 x5 x6) (k0_pay25 x0 x1 x2 x3 x4 x5 x6)
      (k0_pay26 x0 x1 x2 x3 x4 x5 x6) (k0_pay27 x0 x1 x2 x3 x4 x5 x6) (View.ld x1 r0_9) (View.ld x2 r0_10) (ix3 r c a)
      = dot X Wt B P (N r) a := fun r a =>
    Finset.sum_congr rfl fun c _ => by rw [conv_eq X Wt B h0 h1 h2 r c a, h3, mul_comm]
  exact join_eq (fun r a => dot X Wt B P (N r) a) (fun a => (dots_eq a).1.trans (hc 0 a)) (fun a => (dots_eq a).2.1.trans (hc 1 a))
    (fun a => (dots_eq a).2.2.1.trans (hc 2 a)) (fun a => (dots_eq a).2.2.2.trans (hc 3 a)) r a

end Cert.KernelIdeal.Body

end
-- ==== Proof.KerRank.lean ====
module

public import proofs.«01_k».proof.Proof.KerScore

/-! # The places that the kernel's body picks

The rank of every place is a sum of comparisons; the places of rank twenty or more are counted the same way; an output's
row of zeros and a single one picks its place's entry of the table of coordinates. -/

@[expose] public section

set_option maxRecDepth 16384

noncomputable section

namespace Cert.KernelIdeal.Body

open Cert.KernelIdeal Cert.KernelIdeal.Gen Cert.KernelIdeal.Line Cert.Model Cert.Rank Idealize.ShloMosaic Idealize.ShloMosaic.TcCoe

/-- A count, as an extended real. -/
def num (k : ℕ) : EReal := ((k : ℝ) : EReal)

theorem num_inj {k l : ℕ} : num k = num l ↔ k = l := by
  unfold num
  rw [EReal.coe_eq_coe_iff, Nat.cast_inj]

theorem num_le {k l : ℕ} : num k ≤ num l ↔ k ≤ l := by
  unfold num
  rw [EReal.coe_le_coe_iff, Nat.cast_le]

/-- A bit widened and made a float. -/
theorem bit_eq (p : Prop) [Decidable p] {b : BitVec 1} (h : b = if p then 1#1 else 0#1) :
    FloatOps.sitofp (F := Ideal) FTy.f32 (BitVec.setWidth 32 b) = if p then (1 : EReal) else 0 := by
  subst h
  show ((((BitVec.setWidth 32 (if p then 1#1 else 0#1)).toInt : ℤ) : ℝ) : EReal) = _
  split <;> simp

/-- A small whole number made a float. -/
theorem sitofp_small {k : ℕ} (h : k < 2147483648) : FloatOps.sitofp (F := Ideal) FTy.f32 (BitVec.ofNat 32 k) = num k := by
  show ((((BitVec.ofNat 32 k).toInt : ℤ) : ℝ) : EReal) = _
  have : (BitVec.ofNat 32 k).toInt = (k : ℤ) := by
    rw [BitVec.toInt_eq_toNat_of_lt (by rw [BitVec.toNat_ofNat]; omega), BitVec.toNat_ofNat]
    have : k % 2 ^ 32 = k := by omega
    rw [this]
  rw [this]
  unfold num
  norm_num

/-- A sum of ones over the positions that have a property counts them. -/
theorem sum_count {n : ℕ} (p : Fin n → Prop) [DecidablePred p] :
    ∑ x, (if p x then (1 : EReal) else 0) = num (Finset.univ.filter p).card := by
  rw [← Finset.sum_filter, Finset.sum_const, nsmul_one]
  rfl

/-- A row of zeros and a single one picks an entry. -/
theorem pick_one {n : ℕ} (p : Fin n → Prop) [DecidablePred p] (t : Fin n → EReal) (a : Fin n) (ha : p a) (hu : ∀ b, p b → b = a) :
    ∑ x, (if p x then (1 : EReal) else 0) * t x = t a := by
  rw [Finset.sum_eq_single a]
  · rw [if_pos ha, one_mul]
  · intro b _ hb
    rw [if_neg fun h => hb (hu b h), zero_mul]
  · exact fun h => (h (Finset.mem_univ _)).elim

theorem ofBits_twenty : Ideal.ofBits .f32 0x41A00000#32 = num 20 := by
  simp [Ideal.ofBits, Ideal.ieee, num]
  rw [← EReal.coe_mul]
  norm_num

variable {x0 : Vec Ideal S4x384x226 .bf16} {x1 : Vec Ideal S9x384x1 .f32} {x2 : Vec Ideal S384x1 .f32} {x3 : Vec Ideal S8x384 .f32}
  {x4 : Vec Ideal S8x128 .f32} {x5 : Vec Ideal S76x1 .f32} {x6 : Vec Ideal S196x128 .f32}

theorem ofBool_ite (p : Prop) [Decidable p] : BitVec.ofBool (decide p) = if p then 1#1 else 0#1 := by
  by_cases h : p
  · rw [if_pos h, decide_eq_true h]; rfl
  · rw [if_neg h, decide_eq_false h]; rfl

theorem andi_ite (p q : Prop) [Decidable p] [Decidable q] :
    IntOp.andi (if p then 1#1 else 0#1) (if q then 1#1 else 0#1) = if p ∧ q then 1#1 else 0#1 := by
  by_cases hp : p <;> by_cases hq : q <;> simp only [hp, hq, if_true, if_false, and_self, and_true, and_false] <;> rfl

theorem ori_ite (p q : Prop) [Decidable p] [Decidable q] :
    IntOp.ori (if p then 1#1 else 0#1) (if q then 1#1 else 0#1) = if p ∨ q then 1#1 else 0#1 := by
  by_cases hp : p <;> by_cases hq : q <;> simp only [hp, hq, if_true, if_false, or_self, or_true, or_false] <;> rfl

/-- The comparison of two places' positions. -/
theorem before_bit (x a : Fin 196) : IntOp.cmpi CmpIPredicate.slt (BitVec.ofNat 32 x) (BitVec.ofNat 32 a) = if x < a then 1#1 else 0#1 := by
  have ht : ∀ y : Fin 196, (BitVec.ofNat 32 y).toInt = ((y : ℕ) : ℤ) := fun y => by
    rw [BitVec.toInt_eq_toNat_of_lt (by rw [BitVec.toNat_ofNat]; omega), BitVec.toNat_ofNat]
    have : (y : ℕ) % 2 ^ 32 = y := by omega
    rw [this]
  show BitVec.ofBool (decide ((BitVec.ofNat 32 x).toInt < (BitVec.ofNat 32 a).toInt)) = _
  rw [ht, ht, ofBool_ite]
  simp only [Int.ofNat_lt, Fin.lt_def]

/-- The rank of every place of every row. -/
theorem rank_eq {o0 o1 o2 o3 : FVec Ideal S1x196 .f32} (s : Fin 4 → Fin 196 → EReal) {L : Fin 4 → Fin 196 → EReal}
    (hL : ∀ r a, concatenate S4x196 0 [⟨S1x196, o0⟩, ⟨S1x196, o1⟩, ⟨S1x196, o2⟩, ⟨S1x196, o3⟩]
      concatenates_S1x196_S1x196_S1x196_S1x196_S4x196_d0 (ix2 r a) = L r a)
    (hs : ∀ r a, Ideal.div 1 (1 + Ideal.exp (-(L r a + x4 (ix2 0 0)))) = s r a) (r : Fin 4) (a : Fin 196) :
    k0_pay18 (k0_pay23 x0 x1 x2 x3 x4 x5 x6) o0 o1 o2 o3 (View.ld x4 r0_12) (ix2 r a) = num (rank (key (s r)) a) := by
  unfold k0_pay18 k0_pay17 k0_pay23
  dsimp only
  generalize concatenate S4x196 0 [⟨S1x196, o0⟩, ⟨S1x196, o1⟩, ⟨S1x196, o2⟩, ⟨S1x196, o3⟩]
      concatenates_S1x196_S1x196_S1x196_S1x196_S4x196_d0 = Z at *
  pointwise
  simp only [hL, zero_sub, hs]
  unfold rank
  rw [← sum_count]
  refine Finset.sum_congr rfl fun x _ => bit_eq _ ?_
  rw [before_bit, ofBool_ite, ofBool_ite, andi_ite, ori_ite]
  rfl

section
variable {v3 : IVec S1x1x196 32} {o0 o1 o2 o3 : FVec Ideal S1x196 .f32} {v127 : Vec Ideal S8x128 .f32} {rk : Fin 4 → Fin 196 → ℕ}
  (hr : ∀ r a, k0_pay18 v3 o0 o1 o2 o3 v127 (ix2 r a) = num (rk r a))

include hr in
/-- The places past the twenty largest are marked. -/
theorem left_eq (r : Fin 4) (a : Fin 196) : k0_pay19 v3 o0 o1 o2 o3 v127 (ix2 r a) = if 20 ≤ rk r a then 1#1 else 0#1 := by
  unfold k0_pay19
  generalize k0_pay18 v3 o0 o1 o2 o3 v127 = R at *
  pointwise
  rw [hr, ofBits_twenty, ofBool_ite]
  simp only [num_le]

include hr in
/-- The count of marked places ahead of each. -/
theorem count_eq (hv : v3 = k0_pay23 x0 x1 x2 x3 x4 x5 x6) (r : Fin 4) (a : Fin 196) :
    k0_pay20 v3 o0 o1 o2 o3 v127 (ix2 r a) = num (Finset.univ.filter fun b => 20 ≤ rk r b ∧ b < a).card := by
  have hl := left_eq hr
  unfold k0_pay20 k0_pay17
  generalize k0_pay19 v3 o0 o1 o2 o3 v127 = R at *
  subst hv
  unfold k0_pay23
  pointwise
  rw [← sum_count]
  refine Finset.sum_congr rfl fun x _ => bit_eq _ ?_
  rw [before_bit, hl, andi_ite]
  simp only [and_comm]

include hr in
/-- The rows that pick the twenty largest. -/
theorem first_hot (r : Fin 4) (j : Fin 20) (a : Fin 196) :
    k0_pay21 v3 o0 o1 o2 o3 v127 (ix3 r j a) = if rk r a = j then (1 : EReal) else 0 := by
  unfold k0_pay21
  generalize k0_pay18 v3 o0 o1 o2 o3 v127 = R at *
  pointwise
  refine bit_eq _ ?_
  rw [hr, sitofp_small (by omega), ofBool_ite]
  simp only [num_inj]

end

/-- A word made a float and back is the word. -/
theorem fptosi_sitofp (b : BitVec 32) : FloatOps.fptosi (F := Ideal) (φ := FTy.f32) 32 (((b.toInt : ℤ) : ℝ) : EReal) = b := by
  show BitVec.ofInt 32 (Ideal.toIntClamped (-(2 ^ (32 - 1) : ℕ)) ((2 ^ (32 - 1) : ℕ) - 1) (((b.toInt : ℤ) : ℝ) : EReal)) = b
  have hl : -(2 ^ 31 : ℤ) ≤ b.toInt := by have := BitVec.le_toInt b; simpa using this
  have hh : b.toInt < 2 ^ 31 := by have := BitVec.toInt_lt (x := b); simpa using this
  rw [Ideal.toIntClamped_coe]
  have : (if (0 : ℝ) ≤ (b.toInt : ℝ) then ⌊(b.toInt : ℝ)⌋ else ⌈(b.toInt : ℝ)⌉) = b.toInt := by
    rw [Int.floor_intCast, Int.ceil_intCast, ite_self]
  rw [this, min_eq_right (by norm_num; omega), max_eq_right (by norm_num; omega), BitVec.ofInt_toInt]

section
variable (s : Fin 196 → EReal) {v158 : IVec S4x196 1} {v165 : FVec Ideal S4x196 .f32} {v173 : FVec Ideal S4x20x196 .f32} {v175 : FVec Ideal S76x1 .f32}
  (r : Fin 4)
  (h158 : ∀ a, v158 (ix2 r a) = if 20 ≤ rank (key s) a then 1#1 else 0#1)
  (h165 : ∀ a, v165 (ix2 r a) = num (place (key s) 20 a))
  (h173 : ∀ j a, v173 (ix3 r j a) = if rank (key s) a = (j : ℕ) then (1 : EReal) else 0)
  (h175 : ∀ (p : Fin 76) (q : Fin 176), (q : ℕ) = p → v175 (ix2 p 0) = num (Steps.shuffled (ix1 q)).toNat)

instance (s : Fin 196 → EReal) (j : Fin 96) (a : Fin 196) : Decidable (Hit s j a) := by unfold Hit; infer_instance

include h158 h165 h173 h175 in
/-- Entry `x` of output `j`'s row of zeros and a one: it is one where the output names the place. -/
theorem hot_eq (j : Fin 96) (x : Fin 196) :
    (if h : (j : ℕ) < 20 then v173 (ix3 r ⟨j, h⟩ x) else
      FloatOps.sitofp (F := Ideal) FTy.f32 (BitVec.setWidth 32
        (IntOp.andi (BitVec.ofBool (decide (v165 (ix2 r x) = v175 (ix2 ⟨j - 20, by omega⟩ 0)))) (v158 (ix2 r x)))))
      = if Hit s j x then (1 : EReal) else 0 := by
  by_cases h : (j : ℕ) < 20
  · rw [dif_pos h, h173]
    simp only [Hit, h, if_true]
  · rw [dif_neg h]
    refine bit_eq _ ?_
    rw [h165, h175 _ ⟨j - 20, by omega⟩ rfl, h158, ofBool_ite, andi_ite]
    simp only [Hit, h, if_false, num_inj, and_comm]

include h158 h165 h173 h175 in
/-- The two results of the body at output `j` of row `r`, which names place `a`. -/
theorem out_eq {v188 : Vec Ideal S196x128 .f32}
    (h6 : ∀ a, v188 (ix2 a 0) = ((((column a).toInt : ℤ) : ℝ) : EReal) ∧ v188 (ix2 a 1) = ((((line a).toInt : ℤ) : ℝ) : EReal))
    (j : Fin 96) (a : Fin 196) (ha : Hit s j a) :
    k0_pay2 v158 v165 v173 v175 v188 (ix3 0 r j) = column a
      ∧ k0_pay3 v158 v165 v173 v175 v188 (ix3 0 r j) = line a := by
  have hot := hot_eq s r h158 h165 h173 h175 j
  constructor
  · unfold k0_pay2 k0_pay1
    pointwise
    rw [← fptosi_sitofp (column a), ← (h6 a).1,
      ← pick_one (Hit s j) (fun x => v188 (ix2 x 0)) a ha (fun b hb => Hit.unique hb ha)]
    exact congrArg _ (Finset.sum_congr rfl fun x _ => congrArg (· * v188 (ix2 x 0)) (hot x))
  · unfold k0_pay3 k0_pay1
    pointwise
    rw [← fptosi_sitofp (line a), ← (h6 a).2,
      ← pick_one (Hit s j) (fun x => v188 (ix2 x 1)) a ha (fun b hb => Hit.unique hb ha)]
    exact congrArg _ (Finset.sum_congr rfl fun x _ => congrArg (· * v188 (ix2 x 1)) (hot x))

end

end Cert.KernelIdeal.Body

end
-- ==== Proof.KerValue.lean ====
module

public import proofs.«01_k».proof.Proof.KerRank
public import Idealize.ShloMosaic.Lib.Pipeline.ValueKit

/-! # The arrays that the kernel leaves

What one run of the body leaves in its two results, the blocks it reads, and the two arrays after the last run: entry
`(t, r, j)` of each is a coordinate of the place that output `j` of row `4 t + r` names. -/

@[expose] public section

set_option maxRecDepth 16384

noncomputable section

namespace Cert.KernelIdeal.Body

open Cert.KernelIdeal Cert.KernelIdeal.Gen Cert.KernelIdeal.Line Cert.Model Cert.Rank Cert.Steps Idealize.ShloMosaic Idealize.ShloMosaic.TcCoe

attribute [local irreducible] shuffled column line score

section
variable (X : FVec Ideal ArgX .f32) (Wt : FVec Ideal ArgW .f32) (B : FVec Ideal ArgB .f32) (P : FVec Ideal ArgP .f32)
  (C : FVec Ideal ArgC .f32)
  {x0 : Vec Ideal S4x384x226 .bf16} {x1 : Vec Ideal S9x384x1 .f32} {x2 : Vec Ideal S384x1 .f32} {x3 : Vec Ideal S8x384 .f32}
  {x4 : Vec Ideal S8x128 .f32} {x5 : Vec Ideal S76x1 .f32} {x6 : Vec Ideal S196x128 .f32} {N : Fin 4 → Fin 64}
  (h0 : ∀ r c u, x0 (ix3 r c u) = flat X (N r) c u)
  (h1 : ∀ (dy dx : Fin 3) c, x1 (ix3 (tapAt dy dx) c 0) = Wt (ix4 c 0 dy dx))
  (h2 : ∀ c, x2 (ix2 c 0) = B (ix1 c))
  (h3 : ∀ c, x3 (ix2 0 c) = P (ix4 0 c 0 0))
  (h4 : x4 (ix2 0 0) = C (ix1 0))
  (h5 : ∀ (p : Fin 76) (q : Fin 176), (q : ℕ) = p → x5 (ix2 p 0) = ((((shuffled (ix1 q)).toInt : ℤ) : ℝ) : EReal))
  (h6 : ∀ a, x6 (ix2 a 0) = ((((column a).toInt : ℤ) : ℝ) : EReal) ∧ x6 (ix2 a 1) = ((((line a).toInt : ℤ) : ℝ) : EReal))

include h0 h1 h2 h3 h4 in
/-- The body's ranks are the ranks of the rows' scores. -/
theorem ranks_eq (r : Fin 4) (a : Fin 196) :
    k0_pay18 (k0_pay23 x0 x1 x2 x3 x4 x5 x6) (k0_pay28 x0 x1 x2 x3 x4 x5 x6) (k0_pay29 x0 x1 x2 x3 x4 x5 x6)
      (k0_pay30 x0 x1 x2 x3 x4 x5 x6) (k0_pay31 x0 x1 x2 x3 x4 x5 x6) (View.ld x4 r0_12) (ix2 r a)
      = num (rank (key (score X Wt B P C (N r))) a) :=
  rank_eq (fun r => score X Wt B P C (N r)) (rows_eq X Wt B P h0 h1 h2 h3) (fun r a => by rw [h4]; unfold score; rfl) r a

theorem shuffled_num (i : W176.Idx) : ((((shuffled i).toInt : ℤ) : ℝ) : EReal) = num (shuffled i).toNat := by
  have h := shuffled_lt i
  generalize shuffled i = z at h ⊢
  rw [BitVec.toInt_eq_toNat_of_lt (by omega)]
  unfold num
  norm_num

include h0 h1 h2 h3 h4 h5 h6 in
/-- What the body leaves at output `j` of row `r`, which names place `a`: the place's column and line. -/
theorem body_eq (r : Fin 4) (j : Fin 96) (a : Fin 196) (ha : Hit (score X Wt B P C (N r)) j a) :
    out0_7 x0 x1 x2 x3 x4 x5 x6 (ix3 0 r j) = column a ∧ out0_8 x0 x1 x2 x3 x4 x5 x6 (ix3 0 r j) = line a := by
  have hr := ranks_eq (x5 := x5) (x6 := x6) X Wt B P C h0 h1 h2 h3 h4
  have ho := out_eq (v188 := x6) (v158 := k0_pay32 x0 x1 x2 x3 x4 x5 x6) (v165 := k0_pay33 x0 x1 x2 x3 x4 x5 x6)
    (v173 := k0_pay34 x0 x1 x2 x3 x4 x5 x6) (v175 := k0_pay35 x0 x1 x2 x3 x4 x5 x6) (score X Wt B P C (N r)) r
    (fun a => left_eq hr r a) (fun a => count_eq hr rfl r a) (fun j a => first_hot hr r j a)
    (fun p q hq => by
      rw [← shuffled_num, ← h5 p q hq]
      unfold k0_pay35 k0_pay22
      pointwise) h6 j a ha
  unfold out0_7 out0_8
  constructor
  · frame_out
    exact ho.1
  · frame_out
    exact ho.2

end

variable (m : (ℓ : Loc nD τ sig) → Buf (Elt Ideal) ℓ)

theorem idx_eq : ∀ t : Fin grid0.N, win0_0.index t = ![t.val, 0, 0] ∧ win0_1.index t = ![0, 0, 0] ∧ win0_2.index t = ![0, 0]
    ∧ win0_3.index t = ![0, 0] ∧ win0_4.index t = ![0, 0] ∧ win0_5.index t = ![0, 0] ∧ win0_6.index t = ![0, 0]
    ∧ win0_7.index t = ![t.val, 0, 0] ∧ win0_8.index t = ![t.val, 0, 0] := by
  decide +kernel

theorem grid_lt (t : Fin cfg0.N) : t.val < 16 := t.isLt

/-- A block of four rows of the padded picture. -/
theorem block0 (c : Dev nD) (t : Fin cfg0.N) (r : Fin 4) (q : Fin 384) (u : Fin 226) :
    (iblk m c 0 t : Vec Ideal S4x384x226 .bf16) (ix3 r q u)
      = V m c main_v4 (ix3 (⟨4 * t.val + r, by have := grid_lt t; omega⟩ : Fin 64) q u) := by
  have := grid_lt t
  blk_ext [iblk, (idx_eq t).1]

theorem block1 (c : Dev nD) (t : Fin cfg0.N) (k : Fin 9) (q : Fin 384) :
    (iblk m c 1 t : Vec Ideal S9x384x1 .f32) (ix3 k q 0) = V m c main_v8 (ix3 k q 0) := by
  blk_ext [iblk, (idx_eq t).2.1]

theorem block2 (c : Dev nD) (t : Fin cfg0.N) (q : Fin 384) :
    (iblk m c 2 t : Vec Ideal S384x1 .f32) (ix2 q 0) = V m c main_v9 (ix2 q 0) := by
  blk_ext [iblk, (idx_eq t).2.2.1]

theorem block3 (c : Dev nD) (t : Fin cfg0.N) (q : Fin 384) :
    (iblk m c 3 t : Vec Ideal S8x384 .f32) (ix2 0 q) = V m c main_v13 (ix2 0 q) := by
  blk_ext [iblk, (idx_eq t).2.2.2.1]

theorem block4 (c : Dev nD) (t : Fin cfg0.N) :
    (iblk m c 4 t : Vec Ideal S8x128 .f32) (ix2 0 0) = V m c main_v15 (ix2 0 0) := by
  blk_ext [iblk, (idx_eq t).2.2.2.2.1]

theorem block5 (c : Dev nD) (t : Fin cfg0.N) (p : Fin 76) :
    (iblk m c 5 t : Vec Ideal S76x1 .f32) (ix2 p 0) = V m c main_v27 (ix2 p 0) := by
  blk_ext [iblk, (idx_eq t).2.2.2.2.2.1]

theorem block6 (c : Dev nD) (t : Fin cfg0.N) (a : Fin 196) (k : Fin 128) :
    (iblk m c 6 t : Vec Ideal S196x128 .f32) (ix2 a k) = V m c main_v39 (ix2 a k) := by
  blk_ext [iblk, (idx_eq t).2.2.2.2.2.2.1]

/-- The row that the body handles at a grid point. -/
def rowAt (t : Fin 16) (r : Fin 4) : Fin 64 := ⟨4 * t.val + r, by omega⟩

/-- The scores of a row under the arguments as launched on a device. -/
def scores (c : Dev nD) (n : Fin 64) : Fin 196 → EReal :=
  score (rd (start m c) arg0) (rd (start m c) arg1) (rd (start m c) arg2) (rd (start m c) arg3) (rd (start m c) arg4) n

set_option maxHeartbeats 4000000 in
/-- What point `t` leaves in the two results' blocks. -/
theorem point_eq (c : Dev nD) (t : Fin cfg0.N) (r : Fin 4) (j : Fin 96) (a : Fin 196) (ha : Hit (scores m c (rowAt t r)) j a) :
    out0_7 (iblk m c 0 t) (iblk m c 1 t) (iblk m c 2 t) (iblk m c 3 t) (iblk m c 4 t) (iblk m c 5 t) (iblk m c 6 t) (ix3 0 r j) = column a
    ∧ out0_8 (iblk m c 0 t) (iblk m c 1 t) (iblk m c 2 t) (iblk m c 3 t) (iblk m c 4 t) (iblk m c 5 t) (iblk m c 6 t) (ix3 0 r j) = line a := by
  have hh := start_holds m c
  simp only [steps, holds_append] at hh
  obtain ⟨hp, hw, hk, hs, hd, hc⟩ := hh
  exact body_eq (rd (start m c) arg0) (rd (start m c) arg1) (rd (start m c) arg2) (rd (start m c) arg3) (rd (start m c) arg4)
    (N := rowAt t)
    (fun r q u => ((block0 m c t r q u).trans (congrFun (V_eq m c main_v4) _)).trans (picture_eq hp (rowAt t r) q u))
    (fun dy dx q => ((block1 m c t _ q).trans (congrFun (V_eq m c main_v8) _)).trans (taps_eq hw dy dx q))
    (fun q => ((block2 m c t q).trans (congrFun (V_eq m c main_v9) _)).trans (Line.bias_eq hw q))
    (fun q => ((block3 m c t q).trans (congrFun (V_eq m c main_v13) _)).trans (row_eq hw q))
    (((block4 m c t).trans (congrFun (V_eq m c main_v15) _)).trans (shift_eq hw 0 0))
    (fun p q hq => ((block5 m c t p).trans (congrFun (V_eq m c main_v27) _)).trans (draw_eq hk hs hd p q hq))
    (fun a => ⟨((block6 m c t a 0).trans (congrFun (V_eq m c main_v39) _)).trans (table_eq hc a).1,
      ((block6 m c t a 1).trans (congrFun (V_eq m c main_v39) _)).trans (table_eq hc a).2⟩)
    r j a ha

end Cert.KernelIdeal.Body

end
-- ==== Proof.KerArray.lean ====
module

public import proofs.«01_k».proof.Proof.KerValue

/-! # What the kernel's two results hold after the run -/

@[expose] public section

noncomputable section

namespace Cert.KernelIdeal.Body

open Cert.KernelIdeal Cert.KernelIdeal.Gen Cert.KernelIdeal.Line Cert.Model Cert.Rank Cert.Steps Idealize.ShloMosaic Idealize.ShloMosaic.TcCoe

attribute [local irreducible] shuffled column line score scores

variable (m : (ℓ : Loc nD τ sig) → Buf (Elt Ideal) ℓ)

/-- The first result after the run: given places that the outputs name, their columns. -/
theorem array7 (c : Dev nD) (pl : Fin 64 → Fin 96 → Fin 196) (hpl : ∀ n j, Hit (scores m c n) j (pl n j)) :
    (dats m 0 c).arrAt 7 cfg0.N = fun i : S16x4x96.Idx => column (pl (rowAt (i 0) (i 1)) (i 2)) := by
  refine (dats m 0 c).arrAt_eq_of_covers 7 _ (by decide +kernel) fun t hf y => ?_
  have hi := (idx_eq t).2.2.2.2.2.2.2.1
  blk_simp
  rw [after0_7]
  have hy : y = ix3 0 (y 1) (y 2) := by
    funext i
    fin_cases i
    · exact Subsingleton.elim (α := Fin 1) _ _
    · rfl
    · rfl
  have hn : rowAt ((win0_7.blk t).view.emb y 0) ((win0_7.blk t).view.emb y 1) = rowAt t (y 1) := by
    refine Fin.ext ?_
    show 4 * ((win0_7.blk t).view.emb y 0).val + ((win0_7.blk t).view.emb y 1).val = 4 * t.val + (y 1).val
    have h0 : (y 0).val = 0 := Nat.lt_one_iff.mp (y 0).isLt
    blk_simp
    simp [hi, h0]
  have hj : (win0_7.blk t).view.emb y 2 = y 2 := by
    refine Fin.ext ?_
    blk_simp
    simp [hi]
  refine Eq.trans ?_ ((point_eq m c t (y 1) (y 2) _ (hpl _ _)).1.trans ?_)
  · exact congrArg _ hy
  · exact congrArg column (congrArg₂ pl hn hj).symm

/-- The second result after the run: given places that the outputs name, their lines. -/
theorem array8 (c : Dev nD) (pl : Fin 64 → Fin 96 → Fin 196) (hpl : ∀ n j, Hit (scores m c n) j (pl n j)) :
    (dats m 0 c).arrAt 8 cfg0.N = fun i : S16x4x96.Idx => line (pl (rowAt (i 0) (i 1)) (i 2)) := by
  refine (dats m 0 c).arrAt_eq_of_covers 8 _ (by decide +kernel) fun t hf y => ?_
  have hi := (idx_eq t).2.2.2.2.2.2.2.2
  blk_simp
  rw [after0_8]
  have hy : y = ix3 0 (y 1) (y 2) := by
    funext i
    fin_cases i
    · exact Subsingleton.elim (α := Fin 1) _ _
    · rfl
    · rfl
  have hn : rowAt ((win0_8.blk t).view.emb y 0) ((win0_8.blk t).view.emb y 1) = rowAt t (y 1) := by
    refine Fin.ext ?_
    show 4 * ((win0_8.blk t).view.emb y 0).val + ((win0_8.blk t).view.emb y 1).val = 4 * t.val + (y 1).val
    have h0 : (y 0).val = 0 := Nat.lt_one_iff.mp (y 0).isLt
    blk_simp
    simp [hi, h0]
  have hj : (win0_8.blk t).view.emb y 2 = y 2 := by
    refine Fin.ext ?_
    blk_simp
    simp [hi]
  refine Eq.trans ?_ ((point_eq m c t (y 1) (y 2) _ (hpl _ _)).2.trans ?_)
  · exact congrArg _ hy
  · exact congrArg line (congrArg₂ pl hn hj).symm

end Cert.KernelIdeal.Body

end
-- ==== Proof.RefTop.lean ====
module

public import proofs.«01_k».proof.Proof.RefLine
public import proofs.«01_k».proof.Proof.Model
public import Idealize.ShloMosaic.Lib.Routing.OpsPair
public import Idealize.ShloMosaic.Lib.Routing.OpsSet

/-! # The reference's choice: the twenty largest, the mask, the places left over -/

@[expose] public section

set_option maxRecDepth 16384

noncomputable section

namespace Cert.ReferenceIdeal.Line

open Cert.ReferenceIdeal Cert.ReferenceIdeal.Gen Cert.Steps Cert.Model Cert.Rank Idealize.ShloMosaic Idealize.ShloMosaic.TcCoe Idealize.ShloMosaic.StableHlo

variable {W : Valuation τ sig (Elt Ideal)}

theorem along_ix2 {p q : ℕ} (n : Fin p) (k k' : Fin q) :
    Shape.Idx.along (s := ⟨2, ![p, q]⟩) (ix2 n k) (1 : Fin 2) k' = ix2 n k' := by
  funext b
  match b with
  | ⟨0, _⟩ => rfl
  | ⟨1, _⟩ => rfl

/-- A stable sort of every row by a key of the first array puts at place `k` the second array's entry of rank `k`. -/
theorem sort2_rank {α β κ : Type} [LinearOrder κ] (x : S512x196.Idx → α) (y : S512x196.Idx → β)
    (cmp : α × β → α × β → BitVec 1) (key : α → κ) (hcmp : ∀ l r, (cmp l r == 1#1) = decide (key l.1 < key r.1))
    (n : Fin 512) (k : Fin 196) :
    ∃ a : Fin 196, rank (fun a : Fin 196 => key (x (ix2 n a))) a = k ∧ (Host.sort2 S512x196 1 cmp x y).2 (ix2 n k) = y (ix2 n a) := by
  refine ⟨_, rank_sortedFrom (fun a : Fin 196 => key (x (ix2 n a)))
    (fun a b => cmp (x (ix2 n a), y (ix2 n a)) (x (ix2 n b), y (ix2 n b)) == 1#1) (fun a b => hcmp _ _) k, ?_⟩
  · have h : (Host.sort2 S512x196 1 cmp x y).2 (ix2 n k) = y (Shape.Idx.along (s := S512x196) (ix2 n k) (1 : Fin 2)
      (sortedFrom (n := 196) (fun a b =>
        cmp (x (Shape.Idx.along (s := S512x196) (ix2 n k) (1 : Fin 2) a), y (Shape.Idx.along (s := S512x196) (ix2 n k) (1 : Fin 2) a))
          (x (Shape.Idx.along (s := S512x196) (ix2 n k) (1 : Fin 2) b), y (Shape.Idx.along (s := S512x196) (ix2 n k) (1 : Fin 2) b)) == 1#1) k)) := rfl
    rw [h]
    simp only [along_ix2]

/-- The place of the `k`-th largest score. -/
theorem top_eq (h : Holds W topSteps) (n : Fin 512) (k : Fin 20) :
    ∃ a : Fin 196, rank (key fun a => rd W v79 (ix2 n a)) a = k ∧ rd W indices (ix2 n k) = BitVec.ofNat 32 a := by
  simp only [topSteps, holds_cons] at h
  obtain ⟨-, h, -⟩ := h
  replace h : rd W indices = _ := h
  have hcmp : ∀ l r : Ideal .f32 × BitVec 32, (FloatOps.cmpfTotal (F := Ideal) .gt l.1 r.1 == 1#1)
      = decide (OrderDual.toDual (α := EReal) l.1 < OrderDual.toDual (α := EReal) r.1) := by
    intro l r
    show (BitVec.ofBool (decide ((r.1 : EReal) < l.1)) == 1#1) = decide ((r.1 : EReal) < l.1)
    cases decide ((r.1 : EReal) < l.1) <;> rfl
  obtain ⟨a, ha, hs⟩ := sort2_rank (rd W v79) (fun i => iotaInDim S512x196 32 (1 : Fin 2) i)
    (fun l r => FloatOps.cmpfTotal (F := Ideal) .gt l.1 r.1) (fun s => OrderDual.toDual (α := EReal) s) hcmp n ⟨k, by omega⟩
  refine ⟨a, ha, ?_⟩
  rw [h]
  show extractStridedSlice S512x20 (fun _ => 0) (Host.sort2 S512x196 1 (fun l r => FloatOps.cmpfTotal (F := Ideal) .gt l.1 r.1)
    (rd W v79) (fun i => iotaInDim S512x196 32 (1 : Fin 2) i)).2 sliceFits_S512x196_S512x20 (ix2 n k) = _
  generalize (Host.sort2 S512x196 1 (fun l r => FloatOps.cmpfTotal (F := Ideal) .gt l.1 r.1)
    (rd W v79) (fun i => iotaInDim S512x196 32 (1 : Fin 2) i)).2 = z at hs
  pointwise
  rw [hs]
  rfl

/-- Words that hold small numbers are not negative, and keep their number read signed. -/
theorem toInt_ofNat {k : ℕ} (h : k < 2147483648) : (BitVec.ofNat 32 k).toInt = k := by
  have hn : (BitVec.ofNat 32 k).toNat = k := by rw [BitVec.toNat_ofNat]; omega
  rw [BitVec.toInt_eq_toNat_of_lt (by omega), hn]

/-- The mask: a place is marked when its rank is below twenty. -/
theorem mask_eq (ht : Holds W topSteps) (h : Holds W maskSteps) (n : Fin 512) (a : Fin 196) :
    rd W v99 (ix2 n a) = if rank (key fun a => rd W v79 (ix2 n a)) a < 20 then 1#32 else 0#32 := by
  simp only [maskSteps, holds_cons, holds_nil] at h
  obtain ⟨h0, h1, h2, h3, h4, h5, h6, h7, h8, h9, h10, h11, h12, h13, h14, h15, h16, h17, h18, h19, h20, h21, h22, h23,
    h24, h25, -⟩ := h
  replace h0 : rd W v80 = _ := h0
  replace h1 : rd W v81 = _ := h1
  replace h2 : rd W c_1 = _ := h2
  replace h3 : rd W v82 = _ := h3
  replace h4 : rd W c_2 = _ := h4
  replace h5 : rd W v83 = _ := h5
  replace h6 : rd W v84 = _ := h6
  replace h7 : rd W c_3 = _ := h7
  replace h8 : rd W v85 = _ := h8
  replace h9 : rd W v86 = _ := h9
  replace h10 : rd W v87 = _ := h10
  replace h11 : rd W c_4 = _ := h11
  replace h12 : rd W v88 = _ := h12
  replace h13 : rd W v89 = _ := h13
  replace h14 : rd W c_5 = _ := h14
  replace h15 : rd W v90 = _ := h15
  replace h16 : rd W v91 = _ := h16
  replace h17 : rd W v92 = _ := h17
  replace h18 : rd W v93 = _ := h18
  replace h19 : rd W v94 = _ := h19
  replace h20 : rd W v95 = _ := h20
  replace h21 : rd W v96 = _ := h21
  replace h22 : rd W c_6 = _ := h22
  replace h23 : rd W v97 = _ := h23
  replace h24 : rd W v98 = Host.scatter scatter_S512x196_S512x20x2_S512x20_n_01_01_2 (fun _ b => b) (rd W v82) (rd W v96) (rd W v97) := h24
  replace h25 : rd W v99 = _ := h25
  have hrow : ∀ (p : Fin 512) (q : Fin 20), (rd W v96 (ix3 p q 0)).toInt = p := by
    intro p q
    rw [h21, h19, h18, h10, h6, h9, h8, h7, h5, h4, h1, h0]
    pointwise
    rw [Routing.wrap_of_lt]
    · exact toInt_ofNat (by omega)
    · rw [BitVec.toNat_ofNat]; omega
  have hcol : ∀ (p : Fin 512) (q : Fin 20), ∃ a : Fin 196, rank (key fun a => rd W v79 (ix2 p a)) a = q ∧
      (rd W v96 (ix3 p q 1)).toInt = a := by
    intro p q
    obtain ⟨a, ha, hi⟩ := top_eq ht p q
    refine ⟨a, ha, ?_⟩
    rw [h21, h20, h17, h16, h13, h15, h14, h12, h11]
    pointwise
    rw [hi, Routing.wrap_of_lt]
    · exact toInt_ofNat (by omega)
    · rw [BitVec.toNat_ofNat]; omega
  have hlands : ∀ (p : Fin 512) (q : Fin 20), scatter_S512x196_S512x20x2_S512x20_n_01_01_2.resultIdx? (ix2 p q) (rd W v96) = some (ix2 n a)
      ↔ p = n ∧ rank (key fun a => rd W v79 (ix2 p a)) a = q := by
    intro p q
    refine (Routing.scatter_lands2 (R := 512) (C := 196) (A := 512) (B := 20) scatter_S512x196_S512x20x2_S512x20_n_01_01_2
      rfl rfl rfl (rd W v96) p q n a).trans ?_
    obtain ⟨b, hb, hv⟩ := hcol p q
    have e0 := hrow p q
    constructor
    · rintro ⟨h0, h1⟩
      have h0' : (rd W v96 (ix3 p q 0)).toInt = n := h0
      have h1' : (rd W v96 (ix3 p q 1)).toInt = a := h1
      refine ⟨Fin.ext (by omega), ?_⟩
      rw [hv] at h1'
      have : b = a := Fin.ext (by omega)
      rw [← this, hb]
    · rintro ⟨rfl, h1⟩
      have : a = b := rank_injective _ (h1.trans hb.symm)
      subst this
      exact ⟨e0, hv⟩
  have hone : ∀ k, rd W v97 k = 1#1 := by intro k; rw [h23, h22]; rfl
  rw [h25]
  pointwise
  rw [h24]
  split
  · rename_i hlt
    rw [Routing.scatter_set_hit _ _ _ _ (ix2 n a) 1#1 (fun k _ => hone k) (ix2 n ⟨_, hlt⟩) ((hlands n ⟨_, hlt⟩).2 ⟨rfl, rfl⟩)]
    rfl
  · rename_i hlt
    rw [Routing.scatter_set_miss, h3, h2]
    · rfl
    · intro k hk
      rw [eq_ix2 k] at hk
      have := ((hlands _ _).1 hk).2
      rw [((hlands _ _).1 hk).1] at this
      have hk1 : ((k 1 : Fin 20) : ℕ) < 20 := (k 1 : Fin 20).isLt
      omega

/-- Entry `q` of the places left over. -/
theorem left_eq (ht : Holds W topSteps) (hm : Holds W maskSteps) (h : Holds W sortSteps) (n : Fin 512) (q : Fin 176) :
    ∃ a : Fin 196, 20 ≤ rank (key fun a => rd W v79 (ix2 n a)) a ∧ place (key fun a => rd W v79 (ix2 n a)) 20 a = q ∧
      rd W v101 (ix2 n q) = BitVec.ofNat 32 a := by
  simp only [sortSteps, argsortSteps, holds_append, holds_cons, holds_nil] at h
  obtain ⟨⟨h0, -, h1, -⟩, h2, -⟩ := h
  replace h0 : rd W main_call1.v0 = _ := h0
  replace h1 : rd W v100 = (Host.sort2 S512x196 1 comparator_i32_i32_d1 (rd W v99) (rd W main_call1.v0)).2 := h1
  replace h2 : rd W v101 = _ := h2
  have hcmp : ∀ l r : BitVec 32 × BitVec 32, (comparator_i32_i32_d1 l r == 1#1) = decide (l.1.toInt < r.1.toInt) := by
    intro l r
    show (BitVec.ofBool (l.1.slt r.1) == 1#1) = decide (l.1.toInt < r.1.toInt)
    rw [BitVec.slt_eq_decide]
    cases decide (l.1.toInt < r.1.toInt) <;> rfl
  obtain ⟨a, ha, hs⟩ := sort2_rank (rd W v99) (rd W main_call1.v0) comparator_i32_i32_d1 BitVec.toInt hcmp n ⟨q, by omega⟩
  have hmark := rank_mark (key fun a => rd W v79 (ix2 n a)) 20 (by omega) (fun a : Fin 196 => (rd W v99 (ix2 n a)).toInt)
    (fun a => by rw [mask_eq ht hm]; split <;> rfl) a (by rw [ha]; exact q.isLt)
  refine ⟨a, hmark.1, hmark.2.trans ha, ?_⟩
  rw [h2]
  pointwise
  rw [h1, hs, h0]
  rfl

end Cert.ReferenceIdeal.Line

end
-- ==== Proof.RefScore.lean ====
module

public import proofs.«01_k».proof.Proof.RefLine
public import proofs.«01_k».proof.Proof.Model

/-! # The reference's scores -/

@[expose] public section

set_option maxRecDepth 16384

noncomputable section

namespace Cert.ReferenceIdeal.Line

open Cert.ReferenceIdeal Cert.ReferenceIdeal.Gen Cert.Steps Cert.Model Idealize.ShloMosaic Idealize.ShloMosaic.TcCoe Idealize.ShloMosaic.StableHlo

variable {W : Valuation τ sig (Elt Ideal)}

/-- A row of the first feature, as a row of the reference's array. -/
abbrev row (n : Fin 64) : Fin 512 := ⟨n, by omega⟩

theorem sitofp_zero : FloatOps.sitofp (F := Ideal) FTy.f32 0#32 = (0 : EReal) := by
  show ((((0#32 : BitVec 32).toInt : ℤ) : ℝ) : EReal) = 0
  simp

/-- A read of the padded rows, in the coordinates of the first argument. -/
theorem pad_read (X : FVec Ideal ArgX .f32) (n : Fin 64) (c : Fin 384) (y x : Fin 16) :
    (if k : (n : ℕ) < 512 ∧ (1 ≤ (y : ℕ) ∧ (y : ℕ) - 1 < 14) ∧ 1 ≤ (x : ℕ) ∧ (x : ℕ) - 1 < 14 then
      X (ix5 ⟨n / 64, by omega⟩ ⟨n % 64, by omega⟩ c ⟨y - 1, k.2.1.2⟩ ⟨x - 1, k.2.2.2⟩) else 0) = pix X n c y x := by
  have hn0 : (⟨(n : ℕ) / 64, by omega⟩ : Fin 8) = 0 := Fin.ext (Nat.div_eq_of_lt n.isLt)
  have hn1 : (⟨(n : ℕ) % 64, by omega⟩ : Fin 64) = n := Fin.ext (Nat.mod_eq_of_lt n.isLt)
  unfold pix
  by_cases hy : (1 ≤ (y : ℕ) ∧ (y : ℕ) - 1 < 14) ∧ (1 ≤ (x : ℕ) ∧ (x : ℕ) - 1 < 14)
  · rw [dif_pos (And.intro (by omega : (n : ℕ) < 512) hy), dif_pos hy, hn0, hn1]
  · rw [dif_neg hy, dif_neg fun h => hy h.2]

set_option maxHeartbeats 4000000 in
theorem padded_eq (h : Holds W startSteps) (n : Fin 64) (c : Fin 384) (y x : Fin 16) :
    rd W v1 (ix4 (row n) c y x) = pix (rd W arg0) n c y x := by
  simp only [startSteps, padSteps, holds_append, holds_cons, holds_nil] at h
  obtain ⟨⟨h0, hc, -⟩, h1, h2, -⟩ := h
  replace h0 : rd W v0 = _ := h0
  replace hc : rd W Line.c = _ := hc
  replace h1 : rd W main_call0.v0 = _ := h1
  replace h2 : rd W v1 = _ := h2
  rw [h2, h1, hc, h0]
  pointwise
  rw [sitofp_zero]
  generalize rd W arg0 = X
  exact pad_read X n c y x

/-- One tap's product is the model's tap. -/
theorem tap_eq (h : Holds W startSteps) (dy dx : Fin 3) {d : Fin 4 → Nat} {hs hk} {x w a b e p}
    (hc : Holds W (cutSteps d hs hk x w)) (hp : Holds W (scaleSteps x w a b e p)) (hd : d = ![0, 0, (dy : ℕ), (dx : ℕ)])
    (n : Fin 64) (c : Fin 384) (i j : Fin 14) :
    rd W p (ix4 (row n) c i j) = tap (rd W arg0) (rd W arg1) n c i j dy dx := by
  subst hd
  simp only [cutSteps, scaleSteps, holds_cons, holds_nil] at hc hp
  obtain ⟨hx, hw, -⟩ := hc
  obtain ⟨h0, h1, h2, h3, -⟩ := hp
  replace hx : rd W x = _ := hx
  replace hw : rd W w = _ := hw
  replace h0 : rd W a = _ := h0
  replace h1 : rd W b = _ := h1
  replace h2 : rd W e = _ := h2
  replace h3 : rd W p = _ := h3
  rw [h3, h2, h1, h0, hx, hw]
  pointwise
  unfold tap
  have hy : (dy : ℕ) + (i : ℕ) < 16 := by omega
  have hx : (dx : ℕ) + (j : ℕ) < 16 := by omega
  have hv := padded_eq h n c ⟨dy + i, hy⟩ ⟨dx + j, hx⟩
  rw [add_comm (i : ℕ), add_comm (j : ℕ)]
  exact congrArg (· * rd W arg1 (ix4 c 0 dy dx)) hv

/-- The nine taps' sum and the channel's bias. -/
theorem conv_eq (h : Holds W steps) (n : Fin 64) (c : Fin 384) (i j : Fin 14) :
    rd W v66 (ix4 (row n) c i j) = conv (rd W arg0) (rd W arg1) (rd W arg2) n c i j := by
  simp only [steps, part0Steps, part1Steps, holds_append] at h
  obtain ⟨⟨hs, c0, p0, c1, p1, a1, c2, p2, a2, c3, p3, a3, c4, p4, a4, c5, p5, a5, c6, p6, a6, c7, p7, a7, c8⟩,
    ⟨p8, a8, hl, -⟩, -⟩ := h
  simp only [logitSteps, holds_cons] at hl a1 a2 a3 a4 a5 a6 a7 a8
  obtain ⟨hb, hb', hz, -⟩ := hl
  replace a1 : rd W v14 = _ := a1.1
  replace a2 : rd W v21 = _ := a2.1
  replace a3 : rd W v28 = _ := a3.1
  replace a4 : rd W v35 = _ := a4.1
  replace a5 : rd W v42 = _ := a5.1
  replace a6 : rd W v49 = _ := a6.1
  replace a7 : rd W v56 = _ := a7.1
  replace a8 : rd W v63 = _ := a8.1
  replace hb : rd W v64 = _ := hb
  replace hb' : rd W v65 = _ := hb'
  replace hz : rd W v66 = _ := hz
  rw [hz, hb', hb, a8, a7, a6, a5, a4, a3, a2, a1]
  pointwise
  rw [tap_eq hs 0 0 c0 p0 rfl, tap_eq hs 0 1 c1 p1 rfl, tap_eq hs 0 2 c2 p2 rfl, tap_eq hs 1 0 c3 p3 rfl,
    tap_eq hs 1 1 c4 p4 rfl, tap_eq hs 1 2 c5 p5 rfl, tap_eq hs 2 0 c6 p6 rfl, tap_eq hs 2 1 c7 p7 rfl,
    tap_eq hs 2 2 c8 p8 rfl]
  rfl

/-- The reference's score. -/
theorem score_eq (h : Holds W steps) (n : Fin 64) (a : Fin 196) :
    rd W v79 (ix2 (row n) a) = score (rd W arg0) (rd W arg1) (rd W arg2) (rd W arg3) (rd W arg4) n a := by
  have hconv := conv_eq h n
  simp only [steps, part0Steps, part1Steps, holds_append] at h
  obtain ⟨-, ⟨-, -, hl, -⟩, -⟩ := h
  simp only [logitSteps, holds_cons] at hl
  obtain ⟨-, -, -, h0, h1, h2, h3, h4, h5, h6, h7, h8, h9, h10, h11, h12, h13, h14, -⟩ := hl
  replace h0 : rd W v67 = _ := h0
  replace h1 : rd W v68 = _ := h1
  replace h2 : rd W v69 = _ := h2
  replace h3 : rd W v70 = _ := h3
  replace h4 : rd W v71 = _ := h4
  replace h5 : rd W v72 = _ := h5
  replace h6 : rd W v73 = _ := h6
  replace h7 : rd W v74 = _ := h7
  replace h8 : rd W cst = _ := h8
  replace h9 : rd W v75 = _ := h9
  replace h10 : rd W v76 = _ := h10
  replace h11 : rd W cst_0 = _ := h11
  replace h12 : rd W v77 = _ := h12
  replace h13 : rd W v78 = _ := h13
  replace h14 : rd W v79 = _ := h14
  rw [h14, h13, h12, h11, h10, h9, h8, h7, h6, h5, h4, h3, h2, h1, h0]
  pointwise
  unfold score logit
  refine congrArg (fun s => Ideal.div 1 (1 + Ideal.exp (-(s + rd W arg4 (ix1 0))))) (Finset.sum_congr rfl fun c _ => ?_)
  exact congrArg (· * rd W arg3 (ix4 0 c 0 0)) (hconv c ⟨a / 14, by omega⟩ ⟨a % 14, by omega⟩)

end Cert.ReferenceIdeal.Line

end
-- ==== Proof.RefValue.lean ====
module

public import proofs.«01_k».proof.Proof.RefTop
public import proofs.«01_k».proof.Proof.RefScore

/-! # The reference's results -/

@[expose] public section

set_option maxRecDepth 16384

noncomputable section

namespace Cert.ReferenceIdeal.Line

open Cert.ReferenceIdeal Cert.ReferenceIdeal.Gen Cert.Steps Cert.Model Cert.Rank Idealize.ShloMosaic Idealize.ShloMosaic.TcCoe Idealize.ShloMosaic.StableHlo

variable {W : Valuation τ sig (Elt Ideal)}

/-- The shuffle is the one of the places `0` to `175` under the seed. -/
theorem shuffled_eq (hk : Holds W keySteps) (hk' : Holds W keySteps') (hs : Holds W shuffleSteps) : rd W v110 = shuffled := by
  simp only [keySteps, keySteps', holds_cons, holds_nil] at hk hk'
  obtain ⟨h0, h1, h2, h3, h4, h5, h6, -⟩ := hk
  obtain ⟨h7, h8, h9, h10, -⟩ := hk'
  replace h0 : rd W c_7 = _ := h0
  replace h1 : rd W c_8 = _ := h1
  replace h2 : rd W v102 = _ := h2
  replace h3 : rd W v103 = _ := h3
  replace h4 : rd W v104 = _ := h4
  replace h5 : rd W c_9 = _ := h5
  replace h6 : rd W v105 = _ := h6
  replace h7 : rd W v106 = _ := h7
  replace h8 : rd W v107 = _ := h8
  replace h9 : rd W v108 = _ := h9
  replace h10 : rd W v109 = _ := h10
  have e : rd W v110 = shuffleW (rd W v108) (rd W v109) := shuf_eq hs
  rw [e, h10]
  have e' : rd W v108 = seedKey := by
    rw [h9, h8, h7, h6, h5, h4, h3, h2, h1, h0]
    unfold seedKey
    rfl
  rw [e']
  rfl

/-- A gather of columns: entry `(n, p)` is row `n` of the operand at the column that entry `p` of the index names. -/
theorem gather_col (x : IVec S512x176 32) (idx : IVec S76x1 32) (n : Fin 512) (p : Fin 76) (k : Fin 176)
    (hv : (idx (ix2 p 0)).toInt.toNat = k) :
    Host.gather gather_S512x176_S76x1_S512x76_0_1_n_n_1_1_5121 x idx (ix2 n p) = x (ix2 n k) := by
  have hidx : gather_S512x176_S76x1_S512x76_0_1_n_n_1_1_5121.siIdx (ix2 n p) (0 : Fin 1) = ix2 p 0 := by
    funext b
    match b with
    | ⟨0, _⟩ => rfl
    | ⟨1, _⟩ => rfl
  unfold Host.gather
  congr 1
  funext b
  apply Fin.ext
  match b with
  | ⟨0, _⟩ =>
    show 0 + 0 + (n : ℕ) = n
    omega
  | ⟨1, _⟩ =>
    show min (idx (gather_S512x176_S76x1_S512x76_0_1_n_n_1_1_5121.siIdx (ix2 n p) (0 : Fin 1))).toInt.toNat (176 - 1) + 0 + 0
      = (k : ℕ)
    rw [hidx, hv]
    omega

/-- The places drawn: column `p` reads the entry of the places left over that the shuffle names. -/
theorem pick_eq (h110 : rd W v110 = shuffled) (h : Holds W pickSteps) (n : Fin 512) (p : Fin 76) :
    rd W v118 (ix2 n p) = rd W v101 (ix2 n ⟨(shuffled (ix1 ⟨p, by omega⟩)).toNat, shuffled_lt _⟩) := by
  simp only [pickSteps, holds_cons, holds_nil] at h
  obtain ⟨h0, h1, h2, h3, h4, h5, h6, h7, h8, h9, -⟩ := h
  replace h0 : rd W v111 = _ := h0
  replace h1 : rd W c_10 = _ := h1
  replace h2 : rd W v112 = _ := h2
  replace h3 : rd W v113 = _ := h3
  replace h4 : rd W c_11 = _ := h4
  replace h5 : rd W v114 = _ := h5
  replace h6 : rd W v115 = _ := h6
  replace h7 : rd W v116 = _ := h7
  replace h8 : rd W v117 = _ := h8
  replace h9 : rd W v118 = Host.gather gather_S512x176_S76x1_S512x76_0_1_n_n_1_1_5121 (rd W v101) (rd W v117) := h9
  rw [h9, gather_col (k := ⟨(shuffled (ix1 ⟨p, by omega⟩)).toNat, shuffled_lt _⟩)]
  rw [h8, h7, h3, h6, h5, h4, h2, h1, h0, h110]
  pointwise
  have hlt := shuffled_lt (ix1 ⟨p, by omega⟩)
  generalize shuffled (ix1 ⟨p, by omega⟩) = z at hlt ⊢
  refine (congrArg (fun w : BitVec 32 => w.toInt.toNat) (Routing.wrap_of_lt z _ (by omega))).trans ?_
  show z.toInt.toNat = z.toNat
  rw [BitVec.toInt_eq_toNat_of_lt (by omega)]
  rfl

/-- The word that output `j` of row `n` takes the coordinates of: among the largest, or among those drawn. -/
def word (W : Valuation τ sig (Elt Ideal)) (n : Fin 512) (j : Fin 96) : BitVec 32 :=
  if h : j.val < 20 then rd W indices (ix2 n ⟨j, h⟩) else rd W v118 (ix2 n (⟨j - 20, by omega⟩ : Fin 76))

/-- The results hold the coordinates of those words. -/
theorem coords_eq (h : Holds W coordSteps) (g : Fin 16) (r : Fin 4) (j : Fin 96) :
    rd W v133 (ix3 g r j) = clipE (remE (word W ⟨4 * g + r, by omega⟩ j) 14#32) 1#32 13#32
      ∧ rd W v134 (ix3 g r j) = clipE (fdivE (word W ⟨4 * g + r, by omega⟩ j) 14#32) 1#32 13#32 := by
  simp only [coordSteps, holds_append, holds_cons, holds_nil] at h
  obtain ⟨⟨k0, -⟩, e0, ⟨k1, -⟩, e1, ⟨s0, s1, k2, -⟩, e2, ⟨k3, -⟩, e3, ⟨s2, s3, l0, u0, -⟩, e4, ⟨l1, u1, -⟩, e5, ⟨l2, u2, -⟩, e6,
    ⟨l3, u3, -⟩, e7, r0, r1, r2, r3, -⟩ := h
  replace k0 : rd W c_12 = _ := k0
  replace k1 : rd W c_13 = _ := k1
  replace k2 : rd W c_14 = _ := k2
  replace k3 : rd W c_15 = _ := k3
  replace l0 : rd W c_16 = _ := l0
  replace u0 : rd W c_17 = _ := u0
  replace l1 : rd W c_18 = _ := l1
  replace u1 : rd W c_19 = _ := u1
  replace l2 : rd W c_20 = _ := l2
  replace u2 : rd W c_21 = _ := u2
  replace l3 : rd W c_22 = _ := l3
  replace u3 : rd W c_23 = _ := u3
  replace s0 : rd W v121 = _ := s0
  replace s1 : rd W v122 = _ := s1
  replace s2 : rd W v125 = _ := s2
  replace s3 : rd W v126 = _ := s3
  replace r0 : rd W v131 = _ := r0
  replace r1 : rd W v132 = _ := r1
  replace r2 : rd W v133 = _ := r2
  replace r3 : rd W v134 = _ := r3
  have f0 : ∀ i, rd W v119 i = remE (rd W indices i) 14#32 := fun i => by
    have := rem_eq e0 i; rw [k0] at this; exact this
  have f1 : ∀ i, rd W v120 i = fdivE (rd W indices i) 14#32 := fun i => by
    have := div_eq e1 i; rw [k1] at this; exact this
  have f2 : ∀ i, rd W v123 i = remE (rd W v118 i) 14#32 := fun i => by
    have := rem_eq e2 i; rw [k2] at this; exact this
  have f3 : ∀ i, rd W v124 i = fdivE (rd W v118 i) 14#32 := fun i => by
    have := div_eq e3 i; rw [k3] at this; exact this
  have f4 : ∀ i, rd W v127 i = clipE (rd W v121 i) 1#32 13#32 := fun i => by
    have := clip_eq e4 i; rw [l0, u0] at this; exact this
  have f5 : ∀ i, rd W v128 i = clipE (rd W v122 i) 1#32 13#32 := fun i => by
    have := clip_eq e5 i; rw [l1, u1] at this; exact this
  have f6 : ∀ i, rd W v129 i = clipE (rd W v125 i) 1#32 13#32 := fun i => by
    have := clip_eq e6 i; rw [l2, u2] at this; exact this
  have f7 : ∀ i, rd W v130 i = clipE (rd W v126 i) 1#32 13#32 := fun i => by
    have := clip_eq e7 i; rw [l3, u3] at this; exact this
  unfold word
  constructor
  · rw [r2, r0]
    pointwise
    have hgr : (g : ℕ) * 4 + r = 4 * g + r := by omega
    split
    · rw [f4, s0]
      pointwise
      rw [f0]
      simp only [hgr]
    · rw [f6, s2]
      pointwise
      rw [f2]
      simp only [hgr]
  · rw [r3, r1]
    pointwise
    have hgr : (g : ℕ) * 4 + r = 4 * g + r := by omega
    split
    · rw [f5, s1]
      pointwise
      rw [f1]
      simp only [hgr]
    · rw [f7, s3]
      pointwise
      rw [f3]
      simp only [hgr]

/-- What the reference's results hold: output `j` of a row names a place, and the results are its two coordinates. -/
theorem results_eq (h : Holds W steps) (g : Fin 16) (r : Fin 4) (j : Fin 96) :
    ∃ a : Fin 196, Hit (score (rd W arg0) (rd W arg1) (rd W arg2) (rd W arg3) (rd W arg4) ⟨4 * g + r, by omega⟩) j a
      ∧ rd W v133 (ix3 g r j) = column a ∧ rd W v134 (ix3 g r j) = line a := by
  have hs := score_eq h
  simp only [steps, part1Steps, part2Steps, holds_append] at h
  obtain ⟨-, ⟨-, -, -, ht, hm, ho, hk⟩, hk', hf, hp, hc⟩ := h
  have hv := coords_eq hc g r j
  have hrow : (fun a : Fin 196 => rd W v79 (ix2 (⟨4 * g + r, by omega⟩ : Fin 512) a))
      = score (rd W arg0) (rd W arg1) (rd W arg2) (rd W arg3) (rd W arg4) ⟨4 * g + r, by omega⟩ :=
    funext fun a => hs ⟨4 * g + r, by omega⟩ a
  have hex : ∃ a : Fin 196, Hit (score (rd W arg0) (rd W arg1) (rd W arg2) (rd W arg3) (rd W arg4) ⟨4 * g + r, by omega⟩) j a
      ∧ word W ⟨4 * g + r, by omega⟩ j = BitVec.ofNat 32 a := by
    rw [← hrow]
    unfold Hit word
    split
    · exact top_eq ht (⟨4 * g + r, by omega⟩ : Fin 512) (⟨j, by assumption⟩ : Fin 20)
    · rw [pick_eq (shuffled_eq hk hk' hf) hp]
      obtain ⟨a, h1, h2, h3⟩ := left_eq ht hm ho ⟨4 * g + r, by omega⟩ ⟨_, shuffled_lt (ix1 ⟨j - 20, by omega⟩)⟩
      exact ⟨a, ⟨h1, h2⟩, h3⟩
  obtain ⟨a, ha, hw⟩ := hex
  refine ⟨a, ha, ?_⟩
  rw [hw] at hv
  exact hv

end Cert.ReferenceIdeal.Line

end
-- ==== Proof.Equal.lean ====
module

public import proofs.«01_k».proof.Defs
public import proofs.«01_k».proof.Proof.Gen.KernelIdeal.Value
public import proofs.«01_k».proof.Proof.KerArray
public import proofs.«01_k».proof.Proof.RefValue

/-! # The kernel and the reference leave the same two results

Both read the five arguments alone. On every row the scores are the same, so each of the ninety-six outputs names the same
place on both sides, and the results are that place's column and line. -/

@[expose] public section

noncomputable section

namespace Cert.Equal

open Cert.Model Cert.Steps Idealize.ShloMosaic Idealize.SL.Sem Idealize.ShloMosaic.StableHlo

attribute [local irreducible] shuffled column line score ReferenceIdeal.Line.final KernelIdeal.Line.start

variable (m : (ℓ : Loc KernelIdeal.nD KernelIdeal.τ KernelIdeal.sig) → Buf (Elt Ideal) ℓ)
  (m' : (ℓ : Loc ReferenceIdeal.nD ReferenceIdeal.τ ReferenceIdeal.sig) → Buf (Elt Ideal) ℓ)

/-- The two memories agree on the arguments. -/
def Agree : Prop :=
  ∀ c : Dev KernelIdeal.nD,
    m' ((c.tc : Thread ReferenceIdeal.nD ReferenceIdeal.τ).loc ReferenceIdeal.main_arg0) = m ((c.tc : Thread KernelIdeal.nD KernelIdeal.τ).loc KernelIdeal.main_arg0)
    ∧ m' ((c.tc : Thread ReferenceIdeal.nD ReferenceIdeal.τ).loc ReferenceIdeal.main_arg1) = m ((c.tc : Thread KernelIdeal.nD KernelIdeal.τ).loc KernelIdeal.main_arg1)
    ∧ m' ((c.tc : Thread ReferenceIdeal.nD ReferenceIdeal.τ).loc ReferenceIdeal.main_arg2) = m ((c.tc : Thread KernelIdeal.nD KernelIdeal.τ).loc KernelIdeal.main_arg2)
    ∧ m' ((c.tc : Thread ReferenceIdeal.nD ReferenceIdeal.τ).loc ReferenceIdeal.main_arg3) = m ((c.tc : Thread KernelIdeal.nD KernelIdeal.τ).loc KernelIdeal.main_arg3)
    ∧ m' ((c.tc : Thread ReferenceIdeal.nD ReferenceIdeal.τ).loc ReferenceIdeal.main_arg4) = m ((c.tc : Thread KernelIdeal.nD KernelIdeal.τ).loc KernelIdeal.main_arg4)

/-- What the reference leaves on a device. -/
abbrev left (c : Dev ReferenceIdeal.nD) : Valuation ReferenceIdeal.τ ReferenceIdeal.sig (Elt Ideal) :=
  ReferenceIdeal.Line.final (launchContents m' c)

variable {m m'}

/-- The reference's scores are the kernel's. -/
theorem scores_eq (h : Agree m m') (c : Dev KernelIdeal.nD) (n : Fin 64) :
    score (rd (left m' c) ReferenceIdeal.Line.arg0) (rd (left m' c) ReferenceIdeal.Line.arg1) (rd (left m' c) ReferenceIdeal.Line.arg2)
      (rd (left m' c) ReferenceIdeal.Line.arg3) (rd (left m' c) ReferenceIdeal.Line.arg4) n = KernelIdeal.Body.scores m c n := by
  obtain ⟨h0, h1, h2, h3, h4⟩ := h c
  have e0 : rd (left m' c) ReferenceIdeal.Line.arg0 = rd (KernelIdeal.Line.start m c) KernelIdeal.Line.arg0 :=
    ((ReferenceIdeal.Line.final_kept (r := ReferenceIdeal.main_arg0) (launchContents m' c) (by decide)).trans h0).trans
      (KernelIdeal.Line.start_kept m c (r := KernelIdeal.main_arg0) (by decide)).symm
  have e1 : rd (left m' c) ReferenceIdeal.Line.arg1 = rd (KernelIdeal.Line.start m c) KernelIdeal.Line.arg1 :=
    ((ReferenceIdeal.Line.final_kept (r := ReferenceIdeal.main_arg1) (launchContents m' c) (by decide)).trans h1).trans
      (KernelIdeal.Line.start_kept m c (r := KernelIdeal.main_arg1) (by decide)).symm
  have e2 : rd (left m' c) ReferenceIdeal.Line.arg2 = rd (KernelIdeal.Line.start m c) KernelIdeal.Line.arg2 :=
    ((ReferenceIdeal.Line.final_kept (r := ReferenceIdeal.main_arg2) (launchContents m' c) (by decide)).trans h2).trans
      (KernelIdeal.Line.start_kept m c (r := KernelIdeal.main_arg2) (by decide)).symm
  have e3 : rd (left m' c) ReferenceIdeal.Line.arg3 = rd (KernelIdeal.Line.start m c) KernelIdeal.Line.arg3 :=
    ((ReferenceIdeal.Line.final_kept (r := ReferenceIdeal.main_arg3) (launchContents m' c) (by decide)).trans h3).trans
      (KernelIdeal.Line.start_kept m c (r := KernelIdeal.main_arg3) (by decide)).symm
  have e4 : rd (left m' c) ReferenceIdeal.Line.arg4 = rd (KernelIdeal.Line.start m c) KernelIdeal.Line.arg4 :=
    ((ReferenceIdeal.Line.final_kept (r := ReferenceIdeal.main_arg4) (launchContents m' c) (by decide)).trans h4).trans
      (KernelIdeal.Line.start_kept m c (r := KernelIdeal.main_arg4) (by decide)).symm
  rw [e0, e1, e2, e3, e4]
  rfl

/-- What the reference's results hold at every output, over the kernel's scores. -/
theorem left_at (h : Agree m m') (c : Dev KernelIdeal.nD) (g : Fin 16) (r : Fin 4) (j : Fin 96) :
    ∃ a : Fin 196, Hit (KernelIdeal.Body.scores m c (KernelIdeal.Body.rowAt g r)) j a
      ∧ rd (left m' c) ReferenceIdeal.Line.v133 (ix3 g r j) = column a ∧ rd (left m' c) ReferenceIdeal.Line.v134 (ix3 g r j) = line a := by
  obtain ⟨a, ha, hx, hy⟩ := ReferenceIdeal.Line.results_eq (ReferenceIdeal.Line.final_holds (launchContents m' c)) g r j
  exact ⟨a, scores_eq h c (KernelIdeal.Body.rowAt g r) ▸ ha, hx, hy⟩

/-- Every output of every row names a place. -/
theorem names (h : Agree m m') (c : Dev KernelIdeal.nD) (n : Fin 64) (j : Fin 96) :
    ∃ a : Fin 196, Hit (KernelIdeal.Body.scores m c n) j a := by
  obtain ⟨a, ha, -⟩ := left_at h c ⟨n / 4, by omega⟩ ⟨n % 4, by omega⟩ j
  have e : KernelIdeal.Body.rowAt ⟨n / 4, by omega⟩ ⟨n % 4, by omega⟩ = n :=
    Fin.ext (by show 4 * ((n : ℕ) / 4) + (n : ℕ) % 4 = n; omega)
  exact ⟨a, e ▸ ha⟩

/-- The two results agree. -/
theorem both_eq (h : Agree m m') (c : Dev KernelIdeal.nD) :
    rd (left m' c) ReferenceIdeal.Line.v133 = (KernelIdeal.Gen.dats m 0 c).arrAt 7 KernelIdeal.cfg0.N
      ∧ rd (left m' c) ReferenceIdeal.Line.v134 = (KernelIdeal.Gen.dats m 0 c).arrAt 8 KernelIdeal.cfg0.N := by
  choose pl hpl using names h c
  constructor
  · rw [KernelIdeal.Body.array7 m c pl hpl]
    funext i
    idx_vars i
    obtain ⟨a, ha, hx, -⟩ := left_at h c i0 i1 i2
    exact hx.trans (congrArg column (Hit.unique ha (hpl _ _)))
  · rw [KernelIdeal.Body.array8 m c pl hpl]
    funext i
    idx_vars i
    obtain ⟨a, ha, -, hy⟩ := left_at h c i0 i1 i2
    exact hy.trans (congrArg line (Hit.unique ha (hpl _ _)))

/-- From memories that agree on the arguments both programs end with the same two results, the arguments as they were. -/
theorem equal [KernelIdeal.Facts] [ReferenceIdeal.Facts] : Cert.algebraic_KernelIdeal_ReferenceIdeal := by
  intro m g m' g' _ h
  refine ⟨fun c => (KernelIdeal.Gen.dats m 0 c).arrAt 7 KernelIdeal.cfg0.N, fun c => (KernelIdeal.Gen.dats m 0 c).arrAt 8 KernelIdeal.cfg0.N,
    KernelIdeal.Value.run_blocks m g, ?_⟩
  refine (θ_run (ReferenceIdeal.defs (F := Ideal)) _ _).mono (fun r hr c => ?_) (ReferenceIdeal.Line.run_line m' g')
  exact ⟨(hr c _).trans (both_eq h c).1, (hr c _).trans (both_eq h c).2,
    (hr c _).trans (ReferenceIdeal.Line.final_kept _ (by decide)), (hr c _).trans (ReferenceIdeal.Line.final_kept _ (by decide)),
    (hr c _).trans (ReferenceIdeal.Line.final_kept _ (by decide)), (hr c _).trans (ReferenceIdeal.Line.final_kept _ (by decide)),
    (hr c _).trans (ReferenceIdeal.Line.final_kept _ (by decide))⟩

end Cert.Equal

end
-- ==== Proof.lean ====
/-
  The claims about the kernel and its reference, put together.

  The frames of the kernel, at machine words and at the ideal reading, are the generated ones; the reference's is read
  off its line of steps (Proof/RefLine.lean). That both leave the same two results is Proof/Equal.lean.
-/
module

public import proofs.«01_k».proof.Defs
public import proofs.«01_k».proof.Proof.Gen.Kernel.Frame
public import proofs.«01_k».proof.Proof.Gen.KernelIdeal.Frame
public import proofs.«01_k».proof.Proof.Gen.KernelIdeal.Value
public import proofs.«01_k».proof.Proof.RefLine
public import proofs.«01_k».proof.Proof.Equal

@[expose] public section

noncomputable section

namespace Cert.Proof

open Idealize.ShloMosaic Idealize.SL.Sem

theorem claim : Cert.Claim :=
  ⟨Cert.Kernel.Gen.facts, Cert.KernelIdeal.Gen.facts, Cert.ReferenceIdeal.Gen.facts,
    fun m ρ _ => Cert.Kernel.Gen.frame m ρ, fun m ρ _ => Cert.KernelIdeal.Gen.frame m ρ,
    fun m ρ _ => Cert.ReferenceIdeal.Line.frame m ρ, trivial, Cert.Equal.equal⟩

end Cert.Proof

end
